-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      True)
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      True)
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      True)
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "q_scale" .f32 0x3E38AA3B#32 (((1 / 8) * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v86) = v1 c
          ∧ r.2.mem ((c.tc : Thread Cert.Reference2Ideal.nD Cert.Reference2Ideal.τ).loc Cert.Reference2Ideal.main_v92) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v118) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "q_scale" .f32 0x3E38AA3B#32 (((1 / 8) * (Real.log 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v26)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v26) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v123) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  IdealRules.named_const.Statement Cert.Kernel8Ideal.κ "rope_step" .f32 0xBF135D8E#32 (((-1 / 16) * (Real.log 10000) : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      True) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c)
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v47) = v1 c)

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x8192 : Shape := ⟨2, ![8192, 8192]⟩
abbrev S2x64 : Shape := ⟨2, ![2, 64]⟩
abbrev S128 : Shape := ⟨1, ![128]⟩
abbrev S2x4 : Shape := ⟨2, ![2, 4]⟩
abbrev S4x2x512x4x2x64 : Shape := ⟨6, ![4, 2, 512, 4, 2, 64]⟩
abbrev S4x2x512x4x128 : Shape := ⟨5, ![4, 2, 512, 4, 128]⟩
abbrev S8192x1024 : Shape := ⟨2, ![8192, 1024]⟩
abbrev S_ : Shape := ⟨0, ![]⟩
abbrev S4x1x512x4x2x64 : Shape := ⟨6, ![4, 1, 512, 4, 2, 64]⟩
abbrev S4x512x4x2x64 : Shape := ⟨5, ![4, 512, 4, 2, 64]⟩

class Facts : Prop where
  slices_S8192x8192_S8192x1024_0_2048 : S8192x8192.Slices ![0, 2048] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S4x2x512x4x2x64_S4x1x512x4x2x64_0_1_0_0_0_0 : S4x2x512x4x2x64.Slices ![0, 1, 0, 0, 0, 0] S4x1x512x4x2x64
  shapeCasts_S4x1x512x4x2x64_S4x512x4x2x64 : S4x1x512x4x2x64.ShapeCasts S4x512x4x2x64
  bcast_S_S4x512x4x2x64 : S_.BroadcastsInDim S4x512x4x2x64 (![] : Fin 0 → Fin S4x512x4x2x64.rank)
  reducesTo_S4x512x4x2x64_S_d0_1_2_3_4 : S4x512x4x2x64.ReducesTo [0, 1, 2, 3, 4] S_

variable [Facts]

def fn {F : FTy → Type} [FloatOps F] (main_arg0 : FVec F S8192x8192 .f32) (main_arg1 : FVec F S2x64 .f32) (main_arg2 : FVec F S2x64 .f32) (main_arg3 : FVec F S128 .f32) (main_arg4 : FVec F S2x4 .f32) (main_arg5 : FVec F S4x2x512x4x2x64 .f32) (main_arg6 : FVec F S4x2x512x4x128 .f32) : IVec S_ 1 :=
  let main_v0 : FVec F S8192x1024 .f32 := (extractStridedSlice S8192x1024 ![0, 2048] · slices_S8192x8192_S8192x1024_0_2048) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S4x1x512x4x2x64 .f32 := (extractStridedSlice S4x1x512x4x2x64 ![0, 1, 0, 0, 0, 0] · slices_S4x2x512x4x2x64_S4x1x512x4x2x64_0_1_0_0_0_0) main_arg5
  let main_v6 : FVec F S4x512x4x2x64 .f32 := shapeCast S4x512x4x2x64 main_v5 shapeCasts_S4x1x512x4x2x64_S4x512x4x2x64
  let main_v7 : FVec F S4x512x4x2x64 .f32 := Host.absf main_v6
  let main_cst_0 : FVec F S_ .f32 := constant S_ .f32 0x7F800000#32
  let main_v8 : FVec F S4x512x4x2x64 .f32 := broadcastInDim S4x512x4x2x64 ![] bcast_S_S4x512x4x2x64 main_cst_0
  let main_v9 : IVec S4x512x4x2x64 1 := cmpf .olt main_v7 main_v8
  let main_c_1 : IVec S_ 1 := constantI S_ 1 1#1
  let main_v10 : IVec S_ 1 := (fun x v => Host.reduce IntOp.andi x v reducesTo_S4x512x4x2x64_S_d0_1_2_3_4 h_S_) main_v9 main_c_1
  let main_v11 : IVec S_ 1 := andi main_v4 main_v10
  main_v11
-- ==== Pre_finite6.lean ====
abbrev S4x1024 : Shape := ⟨2, ![4, 1024]⟩
abbrev S1024 : Shape := ⟨1, ![1024]⟩
abbrev S2x1024x3072 : Shape := ⟨3, ![2, 1024, 3072]⟩
abbrev S2x3072 : Shape := ⟨2, ![2, 3072]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x1024x3072 : S_.BroadcastsInDim S2x1024x3072 (![] : Fin 0 → Fin S2x1024x3072.rank)
  reducesTo_S2x1024x3072_S_d0_1_2 : S2x1024x3072.ReducesTo [0, 1, 2] S_

variable [Facts]

def fn {F : FTy → Type} [FloatOps F] (main_arg0 : FVec F S4x1024 .f32) (main_arg1 : FVec F S1024 .f32) (main_arg2 : FVec F S2x1024x3072 .f32) (main_arg3 : FVec F S2x3072 .f32) : IVec S_ 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024x3072 .f32 := Host.absf main_arg2
  let main_cst_2 : FVec F S_ .f32 := constant S_ .f32 0x7F800000#32
  let main_v10 : FVec F S2x1024x3072 .f32 := broadcastInDim S2x1024x3072 ![] bcast_S_S2x1024x3072 main_cst_2
  let main_v11 : IVec S2x1024x3072 1 := cmpf .olt main_v9 main_v10
  let main_c_3 : IVec S_ 1 := constantI S_ 1 1#1
  let main_v12 : IVec S_ 1 := (fun x v => Host.reduce IntOp.andi x v reducesTo_S2x1024x3072_S_d0_1_2 h_S_) main_v11 main_c_3
  let main_v13 : IVec S_ 1 := andi main_v8 main_v12
  main_v13
-- ==== Kernel.lean ====
abbrev S8192x8192 : Shape := ⟨2, ![8192, 8192]⟩
abbrev S2x64 : Shape := ⟨2, ![2, 64]⟩
abbrev S128 : Shape := ⟨1, ![128]⟩
abbrev S2x4 : Shape := ⟨2, ![2, 4]⟩
abbrev S4x2x512x4x2x64 : Shape := ⟨6, ![4, 2, 512, 4, 2, 64]⟩
abbrev S4x2x512x4x128 : Shape := ⟨5, ![4, 2, 512, 4, 128]⟩
abbrev S_ : Shape := ⟨0, ![]⟩
abbrev S8192x2048 : Shape := ⟨2, ![8192, 2048]⟩
abbrev S8192x512 : Shape := ⟨2, ![8192, 512]⟩
abbrev S8192x5632 : Shape := ⟨2, ![8192, 5632]⟩
abbrev S4x2x512x512 : Shape := ⟨4, ![4, 2, 512, 512]⟩
abbrev S1x128 : Shape := ⟨2, ![1, 128]⟩
abbrev S512x512 : Shape := ⟨2, ![512, 512]⟩
abbrev S2048x512 : Shape := ⟨2, ![2048, 512]⟩
abbrev S1x1x512x512 : Shape := ⟨4, ![1, 1, 512, 512]⟩
abbrev S1x64 : Shape := ⟨2, ![1, 64]⟩
abbrev S1 : Shape := ⟨1, ![1]⟩
abbrev S1x1 : Shape := ⟨2, ![1, 1]⟩
abbrev S512x64 : Shape := ⟨2, ![512, 64]⟩
abbrev S2048x64 : Shape := ⟨2, ![2048, 64]⟩
abbrev S512x2048 : Shape := ⟨2, ![512, 2048]⟩
abbrev S1x1x512x64 : Shape := ⟨4, ![1, 1, 512, 64]⟩
abbrev S512 : Shape := ⟨1, ![512]⟩
abbrev S512x1 : Shape := ⟨2, ![512, 1]⟩
abbrev S2048x128 : Shape := ⟨2, ![2048, 128]⟩
abbrev S512x128 : Shape := ⟨2, ![512, 128]⟩
abbrev S1x1x512x128 : Shape := ⟨4, ![1, 1, 512, 128]⟩

abbrev nBuf : Space → Nat
  | .hbm => 22
  | .vmem => 17
  | .smem => 1
  | _ => 0

abbrev bufTy : (tb : Table) → Fin (tcTables nBuf tb) → BufTy
  | .hbm, ⟨0, _⟩ => ⟨S8192x8192, .f32⟩
  | .hbm, ⟨1, _⟩ => ⟨S2x64, .f32⟩
  | .hbm, ⟨2, _⟩ => ⟨S2x64, .f32⟩
  | .hbm, ⟨3, _⟩ => ⟨S128, .f32⟩
  | .hbm, ⟨4, _⟩ => ⟨S2x4, .f32⟩
  | .hbm, ⟨5, _⟩ => ⟨S4x2x512x4x2x64, .f32⟩
  | .hbm, ⟨6, _⟩ => ⟨S4x2x512x4x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x2048, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x5632, .f32⟩
  | .hbm, ⟨16, _⟩ => ⟨S8192x8192, .f32⟩
  | .hbm, ⟨17, _⟩ => ⟨S8192x8192, .bf16⟩
  | .hbm, ⟨18, _⟩ => ⟨S4x2x512x512, .f32⟩
  | .hbm, ⟨19, _⟩ => ⟨S4x2x512x512, .f32⟩
  | .hbm, ⟨20, _⟩ => ⟨S1x128, .f32⟩
  | .hbm, ⟨21, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .bf16⟩
  | .local _ .vmem, ⟨7, _⟩ => ⟨S512x512, .bf16⟩
  | .local _ .vmem, ⟨8, _⟩ => ⟨S2x64, .f32⟩
  | .local _ .vmem, ⟨9, _⟩ => ⟨S2x64, .f32⟩
  | .local _ .vmem, ⟨10, _⟩ => ⟨S1x128, .f32⟩
  | .local _ .vmem, ⟨11, _⟩ => ⟨S1x1x512x512, .f32⟩
  | .local _ .vmem, ⟨12, _⟩ => ⟨S1x1x512x512, .f32⟩
  | .local _ .vmem, ⟨13, _⟩ => ⟨S1x1x512x512, .f32⟩
  | .local _ .vmem, ⟨14, _⟩ => ⟨S1x1x512x512, .f32⟩
  | .local _ .vmem, ⟨15, _⟩ => ⟨S512x512, .bf16⟩
  | .local _ .vmem, ⟨16, _⟩ => ⟨S512x512, .bf16⟩
  | .local _ .smem, ⟨0, _⟩ => ⟨S2x4, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let c1 : Index := 1#32
  let arg0 : BitVec 32 := BitVec.ofNat 32 (i 0).val
  let v14 : Index := Scalar.indexCast arg0
  ![1, v14.toNat]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let c0_i32 : BitVec 32 := 0#32
  ![v1.toNat, c4_i32_0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let c0_i32 : BitVec 32 := 0#32
  ![v1.toNat, c7_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S2x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x8192 : Shape := ⟨2, ![8192, 8192]⟩
abbrev S2x64 : Shape := ⟨2, ![2, 64]⟩
abbrev S128 : Shape := ⟨1, ![128]⟩
abbrev S2x4 : Shape := ⟨2, ![2, 4]⟩
abbrev S4x2x512x4x2x64 : Shape := ⟨6, ![4, 2, 512, 4, 2, 64]⟩
abbrev S4x2x512x4x128 : Shape := ⟨5, ![4, 2, 512, 4, 128]⟩
abbrev S8192x1536 : Shape := ⟨2, ![8192, 1536]⟩
abbrev S8192x512 : Shape := ⟨2, ![8192, 512]⟩
abbrev S8192x3072 : Shape := ⟨2, ![8192, 3072]⟩
abbrev S4x2048x4x2x64 : Shape := ⟨5, ![4, 2048, 4, 2, 64]⟩
abbrev S4x2048x4x128 : Shape := ⟨4, ![4, 2048, 4, 128]⟩
abbrev S1x64 : Shape := ⟨2, ![1, 64]⟩
abbrev S64 : Shape := ⟨1, ![64]⟩
abbrev S_ : Shape := ⟨0, ![]⟩
abbrev S4x1x512x4x2x64 : Shape := ⟨6, ![4, 1, 512, 4, 2, 64]⟩
abbrev S4x512x4x2x64 : Shape := ⟨5, ![4, 512, 4, 2, 64]⟩
abbrev S4x2560x4x2x64 : Shape := ⟨5, ![4, 2560, 4, 2, 64]⟩
abbrev S4x1x512x4x128 : Shape := ⟨5, ![4, 1, 512, 4, 128]⟩
abbrev S4x512x4x128 : Shape := ⟨4, ![4, 512, 4, 128]⟩
abbrev S4x2560x4x128 : Shape := ⟨4, ![4, 2560, 4, 128]⟩
abbrev S4x4x2x2048x2560 : Shape := ⟨5, ![4, 4, 2, 2048, 2560]⟩
abbrev S4x4x2x2048 : Shape := ⟨4, ![4, 4, 2, 2048]⟩
abbrev S4x4x2x2048x1 : Shape := ⟨5, ![4, 4, 2, 2048, 1]⟩
abbrev S4x4x1x2048x2560 : Shape := ⟨5, ![4, 4, 1, 2048, 2560]⟩
abbrev S4x4x2048x2560 : Shape := ⟨4, ![4, 4, 2048, 2560]⟩
abbrev S4x4x128x2048 : Shape := ⟨4, ![4, 4, 128, 2048]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩

abbrev nBuf : Space → Nat
  | .hbm => 93
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S2x64, .f32⟩
  | .hbm, ⟨2, _⟩ => ⟨S2x64, .f32⟩
  | .hbm, ⟨3, _⟩ => ⟨S128, .f32⟩
  | .hbm, ⟨4, _⟩ => ⟨S2x4, .f32⟩
  | .hbm, ⟨5, _⟩ => ⟨S4x2x512x4x2x64, .f32⟩
  | .hbm, ⟨6, _⟩ => ⟨S4x2x512x4x128, .f32⟩
  | .hbm, ⟨7, _⟩ => ⟨S8192x1536, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x3072, .f32⟩
  | .hbm, ⟨16, _⟩ => ⟨S4x2048x4x2x64, .f32⟩
  | .hbm, ⟨17, _⟩ => ⟨S4x2048x4x2x64, .f32⟩
  | .hbm, ⟨18, _⟩ => ⟨S4x2048x4x128, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4x1x512x4x2x64, .f32⟩
  | .hbm, ⟨39, _⟩ => ⟨S4x512x4x2x64, .f32⟩
  | .hbm, ⟨40, _⟩ => ⟨S4x2560x4x2x64, .f32⟩
  | .hbm, ⟨41, _⟩ => ⟨S4x1x512x4x128, .f32⟩
  | .hbm, ⟨42, _⟩ => ⟨S4x512x4x128, .f32⟩
  | .hbm, ⟨43, _⟩ => ⟨S4x2560x4x128, .f32⟩
  | .hbm, ⟨44, _⟩ => ⟨S4x4x2x2048x2560, .f32⟩
  | .hbm, ⟨45, _⟩ => ⟨S_, .f32⟩
  | .hbm, ⟨46, _⟩ => ⟨S4x4x2x2048x2560, .f32⟩
  | .hbm, ⟨47, _⟩ => ⟨S4x4x2x2048x2560, .f32⟩
  | .hbm, ⟨48, _⟩ => ⟨S_, .f32⟩
  | .hbm, ⟨49, _⟩ => ⟨S4x4x2x2048, .f32⟩
  | .hbm, ⟨50, _⟩ => ⟨S_, .f32⟩
  | .hbm, ⟨51, _⟩ => ⟨S4x4x2x2048, .f32⟩
  | .hbm, ⟨52, _⟩ => ⟨S4x4x2x2048, .f32⟩
  | .hbm, ⟨53, _⟩ => ⟨S4x4x2x2048x1, .f32⟩
  | .hbm, ⟨54, _⟩ => ⟨S4x4x2x2048x2560, .f32⟩
  | .hbm, ⟨55, _⟩ => ⟨S4x4x2x2048x2560, .f32⟩
  | .hbm, ⟨56, _⟩ => ⟨S4x4x2x2048x2560, .f32⟩
  | .hbm, ⟨57, _⟩ => ⟨S_, .f32⟩
  | .hbm, ⟨58, _⟩ => ⟨S4x4x2x2048, .f32⟩
  | .hbm, ⟨59, _⟩ => ⟨S4x4x2x2048x1, .f32⟩
  | .hbm, ⟨60, _⟩ => ⟨S4x4x2x2048x2560, .f32⟩
  | .hbm, ⟨61, _⟩ => ⟨S4x4x2x2048x2560, .f32⟩
  | .hbm, ⟨62, _⟩ => ⟨S4x4x1x2048x2560, .f32⟩
  | .hbm, ⟨63, _⟩ => ⟨S4x4x2048x2560, .f32⟩
  | .hbm, ⟨64, _⟩ => ⟨S4x4x1x2048x2560, .f32⟩
  | .hbm, ⟨65, _⟩ => ⟨S4x4x2048x2560, .f32⟩
  | .hbm, ⟨66, _⟩ => ⟨S4x4x2048x2560, .f32⟩
  | .hbm, ⟨67, _⟩ => ⟨S4x4x2048x2560, .f32⟩
  | .hbm, ⟨68, _⟩ => ⟨S4x4x2048x2560, .f32⟩
  | .hbm, ⟨69, _⟩ => ⟨S4x4x128x2048, .f32⟩
  | .hbm, ⟨70, _⟩ => ⟨S4x2048x4x128, .f32⟩
  | .hbm, ⟨71, _⟩ => ⟨S4x2048x4x128, .f32⟩
  | .hbm, ⟨72, _⟩ => ⟨S_, .f32⟩
  | .hbm, ⟨73, _⟩ => ⟨S4x2048x4, .f32⟩
  | .hbm, ⟨74, _⟩ => ⟨S4x2048x4x1, .f32⟩
  | .hbm, ⟨75, _⟩ => ⟨S_, .f32⟩
  | .hbm, ⟨76, _⟩ => ⟨S4x2048x4x1, .f32⟩
  | .hbm, ⟨77, _⟩ => ⟨S4x2048x4x1, .f32⟩
  | .hbm, ⟨78, _⟩ => ⟨S_, .f32⟩
  | .hbm, ⟨79, _⟩ => ⟨S4x2048x4x1, .f32⟩
  | .hbm, ⟨80, _⟩ => ⟨S4x2048x4x1, .f32⟩
  | .hbm, ⟨81, _⟩ => ⟨S4x2048x4x1, .f32⟩
  | .hbm, ⟨82, _⟩ => ⟨S4x2048x4x128, .f32⟩
  | .hbm, ⟨83, _⟩ => ⟨S4x2048x4x128, .f32⟩
  | .hbm, ⟨84, _⟩ => ⟨S1x1x1x128, .f32⟩
  | .hbm, ⟨85, _⟩ => ⟨S4x2048x4x128, .f32⟩
  | .hbm, ⟨86, _⟩ => ⟨S4x2048x4x128, .f32⟩
  | .hbm, ⟨87, _⟩ => ⟨S_, .f32⟩
  | .hbm, ⟨88, _⟩ => ⟨S4x2048x4x128, .f32⟩
  | .hbm, ⟨89, _⟩ => ⟨S4x2048x4x128, .f32⟩
  | .hbm, ⟨90, _⟩ => ⟨S8192x512, .f32⟩
  | .hbm, ⟨91, _⟩ => ⟨S8192x512, .f32⟩
  | .hbm, ⟨92, _⟩ => ⟨S8192x512, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_9 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Kernel2.lean ====
abbrev S8192x1024 : Shape := ⟨2, ![8192, 1024]⟩
abbrev S8x3072 : Shape := ⟨2, ![8, 3072]⟩
abbrev S1024 : Shape := ⟨1, ![1024]⟩
abbrev S2x1024x8192 : Shape := ⟨3, ![2, 1024, 8192]⟩
abbrev S64 : Shape := ⟨1, ![64]⟩
abbrev S32x2x256x512 : Shape := ⟨4, ![32, 2, 256, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x1x3072 : Shape := ⟨3, ![8, 1, 3072]⟩
abbrev S1x1024 : Shape := ⟨2, ![1, 1024]⟩
abbrev S8192x8192 : Shape := ⟨2, ![8192, 8192]⟩
abbrev S512x1024 : Shape := ⟨2, ![512, 1024]⟩
abbrev S1x1x3072 : Shape := ⟨3, ![1, 1, 3072]⟩
abbrev S1x1024x8192 : Shape := ⟨3, ![1, 1024, 8192]⟩
abbrev S512x8192 : Shape := ⟨2, ![512, 8192]⟩
abbrev S2x1x256x512 : Shape := ⟨4, ![2, 1, 256, 512]⟩
abbrev S512x1 : Shape := ⟨2, ![512, 1]⟩
abbrev S1x1x1024 : Shape := ⟨3, ![1, 1, 1024]⟩
abbrev S1x1024x512 : Shape := ⟨3, ![1, 1024, 512]⟩
abbrev S1024x512 : Shape := ⟨2, ![1024, 512]⟩
abbrev S512x512 : Shape := ⟨2, ![512, 512]⟩
abbrev S256x512 : Shape := ⟨2, ![256, 512]⟩
abbrev S1x1x256x512 : Shape := ⟨4, ![1, 1, 256, 512]⟩

abbrev nBuf : Space → Nat
  | .hbm => 22
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8x3072, .f32⟩
  | .hbm, ⟨2, _⟩ => ⟨S1024, .f32⟩
  | .hbm, ⟨3, _⟩ => ⟨S2x1024x8192, .f32⟩
  | .hbm, ⟨4, _⟩ => ⟨S64, .f32⟩
  | .hbm, ⟨5, _⟩ => ⟨S64, .f32⟩
  | .hbm, ⟨6, _⟩ => ⟨S32x2x256x512, .f32⟩
  | .hbm, ⟨7, _⟩ => ⟨S32x2x256x512, .f32⟩
  | .hbm, ⟨8, _⟩ => ⟨S1x64, .f32⟩
  | .hbm, ⟨9, _⟩ => ⟨S8x64, .f32⟩
  | .hbm, ⟨10, _⟩ => ⟨S512, .f32⟩
  | .hbm, ⟨11, _⟩ => ⟨S1x512, .f32⟩
  | .hbm, ⟨12, _⟩ => ⟨S1x64, .f32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S8x1x3072, .f32⟩
  | .hbm, ⟨17, _⟩ => ⟨S1x1024, .f32⟩
  | .hbm, ⟨18, _⟩ => ⟨S2x1024x8192, .bf16⟩
  | .hbm, ⟨19, _⟩ => ⟨S8192x8192, .bf16⟩
  | .hbm, ⟨20, _⟩ => ⟨S32x2x256x512, .f32⟩
  | .hbm, ⟨21, _⟩ => ⟨S32x2x256x512, .f32⟩
  | .local _ .vmem, ⟨0, _⟩ => ⟨S512x1024, .f32⟩
  | .local _ .vmem, ⟨1, _⟩ => ⟨S512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1x1024x8192, .bf16⟩
  | .local _ .vmem, ⟨6, _⟩ => ⟨S1x512, .f32⟩
  | .local _ .vmem, ⟨7, _⟩ => ⟨S1x512, .f32⟩
  | .local _ .vmem, ⟨8, _⟩ => ⟨S512x8192, .bf16⟩
  | .local _ .vmem, ⟨9, _⟩ => ⟨S512x8192, .bf16⟩
  | .local _ .vmem, ⟨10, _⟩ => ⟨S2x1x256x512, .f32⟩
  | .local _ .vmem, ⟨11, _⟩ => ⟨S2x1x256x512, .f32⟩
  | .local _ .vmem, ⟨12, _⟩ => ⟨S2x1x256x512, .f32⟩
  | .local _ .vmem, ⟨13, _⟩ => ⟨S2x1x256x512, .f32⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel2Ideal.lean ====
variable {F : FTy → Type} [FloatOps F] [Named F]
def κ : String → Option EReal := fun
  | "q_scale" => some (((1 / 8) * (Real.log 2)⁻¹ : ℝ) : EReal)
  | _ => none
-- ==== Reference2Ideal.lean ====
abbrev S8192x1024 : Shape := ⟨2, ![8192, 1024]⟩
abbrev S8x3072 : Shape := ⟨2, ![8, 3072]⟩
abbrev S1024 : Shape := ⟨1, ![1024]⟩
abbrev S2x1024x8192 : Shape := ⟨3, ![2, 1024, 8192]⟩
abbrev S64 : Shape := ⟨1, ![64]⟩
abbrev S32x2x256x512 : Shape := ⟨4, ![32, 2, 256, 512]⟩
abbrev S1x3072 : Shape := ⟨2, ![1, 3072]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x1024x8192 : Shape := ⟨3, ![1, 1024, 8192]⟩
abbrev S1024x8192 : Shape := ⟨2, ![1024, 8192]⟩
abbrev S8192x8192 : Shape := ⟨2, ![8192, 8192]⟩
abbrev S8192x1536 : Shape := ⟨2, ![8192, 1536]⟩
abbrev S8192x512 : Shape := ⟨2, ![8192, 512]⟩
abbrev S8192x3072 : Shape := ⟨2, ![8192, 3072]⟩
abbrev S8192x4x2x64 : Shape := ⟨4, ![8192, 4, 2, 64]⟩
abbrev S8192x4x2 : Shape := ⟨3, ![8192, 4, 2]⟩
abbrev S8192x4x2x1 : Shape := ⟨4, ![8192, 4, 2, 1]⟩
abbrev S1x1x1x64 : Shape := ⟨4, ![1, 1, 1, 64]⟩
abbrev S32x1x256x512 : Shape := ⟨4, ![32, 1, 256, 512]⟩
abbrev S32x256x512 : Shape := ⟨3, ![32, 256, 512]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S8x3072, .f32⟩
  | 2 => ⟨S1024, .f32⟩
  | 3 => ⟨S2x1024x8192, .f32⟩
  | 4 => ⟨S64, .f32⟩
  | 5 => ⟨S64, .f32⟩
  | 6 => ⟨S32x2x256x512, .f32⟩
  | 7 => ⟨S32x2x256x512, .f32⟩
  | 8 => ⟨S1x3072, .f32⟩
  | 9 => ⟨S1x1024, .f32⟩
  | 10 => ⟨S1x1024, .f32⟩
  | 11 => ⟨S1x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S_, .f32⟩
  | 29 => ⟨S1x1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S1x1024x8192, .f32⟩
  | 36 => ⟨S1024x8192, .f32⟩
  | 37 => ⟨S8192x8192, .f32⟩
  | 38 => ⟨S8192x1536, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S8192x3072, .f32⟩
  | 47 => ⟨S8192x4x2x64, .f32⟩
  | 48 => ⟨S8192x4x2x64, .f32⟩
  | 49 => ⟨S_, .f32⟩
  | 50 => ⟨S8192x4x2, .f32⟩
  | 51 => ⟨S8192x4x2x1, .f32⟩
  | 52 => ⟨S_, .f32⟩
  | 53 => ⟨S8192x4x2x1, .f32⟩
  | 54 => ⟨S8192x4x2x1, .f32⟩
  | 55 => ⟨S_, .f32⟩
  | 56 => ⟨S8192x4x2x1, .f32⟩
  | 57 => ⟨S8192x4x2x1, .f32⟩
  | 58 => ⟨S8192x4x2x1, .f32⟩
  | 59 => ⟨S8192x4x2x64, .f32⟩
  | 60 => ⟨S8192x4x2x64, .f32⟩
  | 61 => ⟨S1x1x1x64, .f32⟩
  | 62 => ⟨S8192x4x2x64, .f32⟩
  | 63 => ⟨S8192x4x2x64, .f32⟩
  | 64 => ⟨S8192x512, .f32⟩
  | 65 => ⟨S8192x4x2x64, .f32⟩
  | 66 => ⟨S8192x4x2x64, .f32⟩
  | 67 => ⟨S_, .f32⟩
  | 68 => ⟨S8192x4x2, .f32⟩
  | 69 => ⟨S8192x4x2x1, .f32⟩
  | 70 => ⟨S_, .f32⟩
  | 71 => ⟨S8192x4x2x1, .f32⟩
  | 72 => ⟨S8192x4x2x1, .f32⟩
  | 73 => ⟨S_, .f32⟩
  | 74 => ⟨S8192x4x2x1, .f32⟩
  | 75 => ⟨S8192x4x2x1, .f32⟩
  | 76 => ⟨S8192x4x2x1, .f32⟩
  | 77 => ⟨S8192x4x2x64, .f32⟩
  | 78 => ⟨S8192x4x2x64, .f32⟩
  | 79 => ⟨S1x1x1x64, .f32⟩
  | 80 => ⟨S8192x4x2x64, .f32⟩
  | 81 => ⟨S8192x4x2x64, .f32⟩
  | 82 => ⟨S8192x512, .f32⟩
  | 83 => ⟨S_, .f32⟩
  | 84 => ⟨S8192x512, .f32⟩
  | 85 => ⟨S8192x512, .f32⟩
  | 86 => ⟨S_, .f32⟩
  | 87 => ⟨S_, .f32⟩
  | 88 => ⟨S8192x512, .f32⟩
  | 89 => ⟨S8192x512, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S_, .f32⟩
  | 96 => ⟨S8192x512, .f32⟩
  | 97 => ⟨S8192x512, .f32⟩
  | 98 => ⟨S8192x512, .f32⟩
  | 99 => ⟨S8192x512, .f32⟩
  | 100 => ⟨S8192x512, .f32⟩
  | 101 => ⟨S_, .f32⟩
  | 102 => ⟨S8192x512, .f32⟩
  | 103 => ⟨S8192x512, .f32⟩
  | 104 => ⟨S_, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S_, .f32⟩
  | 114 => ⟨S8192x512, .f32⟩
  | 115 => ⟨S8192x512, .f32⟩
  | 116 => ⟨S8192x512, .f32⟩
  | 117 => ⟨S8192x3072, .f32⟩
  | 118 => ⟨S8192x3072, .f32⟩
  | 119 => ⟨S_, .f32⟩
  | 120 => ⟨S8192x3072, .f32⟩
  | 121 => ⟨S8192x3072, .f32⟩
  | 122 => ⟨S_, .f32⟩
  | 123 => ⟨S8192x3072, .f32⟩
  | 124 => ⟨S8192x3072, .f32⟩
  | 125 => ⟨S8192x8192, .f32⟩
  | 126 => ⟨S8192x8192, .bf16⟩
  | 127 => ⟨S32x1x256x512, .f32⟩
  | _ => ⟨S8192x1024, .f32⟩

abbrev hbmTy0_1 (i : Nat) : BufTy := match i % 128 with
  | 0 => ⟨S32x256x512, .f32⟩
  | 1 => ⟨S32x256x512, .f32⟩
  | 2 => ⟨S32x1x256x512, .f32⟩
  | 3 => ⟨S32x1x256x512, .f32⟩
  | 4 => ⟨S32x2x256x512, .f32⟩
  | 5 => ⟨S32x1x256x512, .f32⟩
  | 6 => ⟨S32x256x512, .f32⟩
  | 7 => ⟨S32x256x512, .f32⟩
  | 8 => ⟨S32x1x256x512, .f32⟩
  | 9 => ⟨S32x1x256x512, .f32⟩
  | 10 => ⟨S32x2x256x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_call0_v5 : Ref sig .tc := ⟨.hbm, 97, rfl⟩
abbrev main_v70 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v71 : Ref sig .tc := ⟨.hbm, 107, rfl⟩
abbrev main_call2_v0 : Ref sig .tc := ⟨.hbm, 108, rfl⟩
abbrev main_call2_v1 : Ref sig .tc := ⟨.hbm, 109, rfl⟩
abbrev main_call2_cst : Ref sig .tc := ⟨.hbm, 110, rfl⟩
abbrev main_call2_v2 : Ref sig .tc := ⟨.hbm, 111, rfl⟩
abbrev main_call2_v3 : Ref sig .tc := ⟨.hbm, 112, rfl⟩
abbrev main_call2_cst_0 : Ref sig .tc := ⟨.hbm, 113, rfl⟩
abbrev main_call2_v4 : Ref sig .tc := ⟨.hbm, 114, rfl⟩
abbrev main_call2_v5 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_11 : Ref sig .tc := ⟨.hbm, 119, rfl⟩
abbrev main_v75 : Ref sig .tc := ⟨.hbm, 120, rfl⟩
abbrev main_v76 : Ref sig .tc := ⟨.hbm, 121, rfl⟩
abbrev main_cst_12 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩

abbrev nD : Nat := 1
abbrev τ : Topo := Topo.v7x

variable {F : FTy → Type} [FloatOps F]
-- ==== Kernel3.lean ====
abbrev S8192x1024 : Shape := ⟨2, ![8192, 1024]⟩
abbrev S8x3072 : Shape := ⟨2, ![8, 3072]⟩
abbrev S8192x8192 : Shape := ⟨2, ![8192, 8192]⟩
abbrev S8192x512 : Shape := ⟨2, ![8192, 512]⟩
abbrev S512x1024 : Shape := ⟨2, ![512, 1024]⟩
abbrev S1024x1024 : Shape := ⟨2, ![1024, 1024]⟩
abbrev S8x1x3072 : Shape := ⟨3, ![8, 1, 3072]⟩
abbrev S1x1x3072 : Shape := ⟨3, ![1, 1, 3072]⟩
abbrev S1024x512 : Shape := ⟨2, ![1024, 512]⟩
abbrev S1x1x1024 : Shape := ⟨3, ![1, 1, 1024]⟩
abbrev S1x1024 : Shape := ⟨2, ![1, 1024]⟩

abbrev nBuf : Space → Nat
  | .hbm => 20
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8x3072, .f32⟩
  | .hbm, ⟨2, _⟩ => ⟨S8192x8192, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x1x3072, .f32⟩
  | .hbm, ⟨11, _⟩ => ⟨S8192x8192, .bf16⟩
  | .hbm, ⟨12, _⟩ => ⟨S8192x512, .bf16⟩
  | .hbm, ⟨13, _⟩ => ⟨S8192x512, .bf16⟩
  | .hbm, ⟨14, _⟩ => ⟨S8192x512, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x3072, .f32⟩
  | .local _ .vmem, ⟨3, _⟩ => ⟨S1x1x3072, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S8192x1024 : Shape := ⟨2, ![8192, 1024]⟩
abbrev S8x3072 : Shape := ⟨2, ![8, 3072]⟩
abbrev S8192x8192 : Shape := ⟨2, ![8192, 8192]⟩
abbrev S8192x512 : Shape := ⟨2, ![8192, 512]⟩
abbrev S512x1024 : Shape := ⟨2, ![512, 1024]⟩
abbrev S1024x1024 : Shape := ⟨2, ![1024, 1024]⟩
abbrev S4x1024 : Shape := ⟨2, ![4, 1024]⟩
abbrev S4x1x1024 : Shape := ⟨3, ![4, 1, 1024]⟩
abbrev S8192x3072 : Shape := ⟨2, ![8192, 3072]⟩
abbrev S4x2048x3x1024 : Shape := ⟨4, ![4, 2048, 3, 1024]⟩
abbrev S4x2048x512 : Shape := ⟨3, ![4, 2048, 512]⟩
abbrev S4x2048x1x1024 : Shape := ⟨4, ![4, 2048, 1, 1024]⟩
abbrev S4x2048x1024 : Shape := ⟨3, ![4, 2048, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x3072, .f32⟩
  | .hbm, ⟨2, _⟩ => ⟨S8192x8192, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S4x1024, .f32⟩
  | .hbm, ⟨11, _⟩ => ⟨S4x1x1024, .f32⟩
  | .hbm, ⟨12, _⟩ => ⟨S8192x3072, .f32⟩
  | .hbm, ⟨13, _⟩ => ⟨S4x2048x3x1024, .f32⟩
  | .hbm, ⟨14, _⟩ => ⟨S4x2048x512, .f32⟩
  | .hbm, ⟨15, _⟩ => ⟨S4x2048x512, .f32⟩
  | .hbm, ⟨16, _⟩ => ⟨S4x2048x512, .f32⟩
  | .hbm, ⟨17, _⟩ => ⟨S4x2048x1x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel4.lean ====
abbrev S8192x1024 : Shape := ⟨2, ![8192, 1024]⟩
abbrev S8x3072 : Shape := ⟨2, ![8, 3072]⟩
abbrev S8192x8192 : Shape := ⟨2, ![8192, 8192]⟩
abbrev S8192x512 : Shape := ⟨2, ![8192, 512]⟩
abbrev S512x1024 : Shape := ⟨2, ![512, 1024]⟩
abbrev S1024x1024 : Shape := ⟨2, ![1024, 1024]⟩
abbrev S8x1x3072 : Shape := ⟨3, ![8, 1, 3072]⟩
abbrev S1x1x3072 : Shape := ⟨3, ![1, 1, 3072]⟩
abbrev S1024x512 : Shape := ⟨2, ![1024, 512]⟩
abbrev S1x1x1024 : Shape := ⟨3, ![1, 1, 1024]⟩
abbrev S1x1024 : Shape := ⟨2, ![1, 1024]⟩

abbrev nBuf : Space → Nat
  | .hbm => 20
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8x3072, .f32⟩
  | .hbm, ⟨2, _⟩ => ⟨S8192x8192, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x1x3072, .f32⟩
  | .hbm, ⟨11, _⟩ => ⟨S8192x8192, .bf16⟩
  | .hbm, ⟨12, _⟩ => ⟨S8192x512, .bf16⟩
  | .hbm, ⟨13, _⟩ => ⟨S8192x512, .bf16⟩
  | .hbm, ⟨14, _⟩ => ⟨S8192x512, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x3072, .f32⟩
  | .local _ .vmem, ⟨3, _⟩ => ⟨S1x1x3072, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S8192x1024 : Shape := ⟨2, ![8192, 1024]⟩
abbrev S8x3072 : Shape := ⟨2, ![8, 3072]⟩
abbrev S8192x8192 : Shape := ⟨2, ![8192, 8192]⟩
abbrev S8192x512 : Shape := ⟨2, ![8192, 512]⟩
abbrev S512x1024 : Shape := ⟨2, ![512, 1024]⟩
abbrev S1024x1024 : Shape := ⟨2, ![1024, 1024]⟩
abbrev S1x1024 : Shape := ⟨2, ![1, 1024]⟩
abbrev S8192x3072 : Shape := ⟨2, ![8192, 3072]⟩
abbrev S8192x3x1024 : Shape := ⟨3, ![8192, 3, 1024]⟩
abbrev S8192x1x1024 : Shape := ⟨3, ![8192, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x3072, .f32⟩
  | .hbm, ⟨2, _⟩ => ⟨S8192x8192, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x1024, .f32⟩
  | .hbm, ⟨11, _⟩ => ⟨S8192x3072, .f32⟩
  | .hbm, ⟨12, _⟩ => ⟨S8192x3x1024, .f32⟩
  | .hbm, ⟨13, _⟩ => ⟨S8192x1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel5.lean ====
abbrev S8192x8192 : Shape := ⟨2, ![8192, 8192]⟩
abbrev S4x128x128 : Shape := ⟨3, ![4, 128, 128]⟩
abbrev S512 : Shape := ⟨1, ![512]⟩
abbrev S1x512 : Shape := ⟨2, ![1, 512]⟩
abbrev S8192x512 : Shape := ⟨2, ![8192, 512]⟩
abbrev S2048x512 : Shape := ⟨2, ![2048, 512]⟩
abbrev S2048x1 : Shape := ⟨2, ![2048, 1]⟩
abbrev S16x128 : Shape := ⟨2, ![16, 128]⟩
abbrev S2048x128 : Shape := ⟨2, ![2048, 128]⟩
abbrev S2080x128 : Shape := ⟨2, ![2080, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S4x128x128, .f32⟩
  | .hbm, ⟨2, _⟩ => ⟨S512, .f32⟩
  | .hbm, ⟨3, _⟩ => ⟨S8192x8192, .bf16⟩
  | .hbm, ⟨4, _⟩ => ⟨S1x512, .f32⟩
  | .hbm, ⟨5, _⟩ => ⟨S8192x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S4x128x128, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x8192 : Shape := ⟨2, ![8192, 8192]⟩
abbrev S4x128x128 : Shape := ⟨3, ![4, 128, 128]⟩
abbrev S512 : Shape := ⟨1, ![512]⟩
abbrev S8192x512 : Shape := ⟨2, ![8192, 512]⟩
abbrev S4x2048x512 : Shape := ⟨3, ![4, 2048, 512]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S4x2048x128 : Shape := ⟨3, ![4, 2048, 128]⟩
abbrev S4x128x2048 : Shape := ⟨3, ![4, 128, 2048]⟩
abbrev S1x2048x1 : Shape := ⟨3, ![1, 2048, 1]⟩
abbrev S4x2048x4x128 : Shape := ⟨4, ![4, 2048, 4, 128]⟩
abbrev S4x128x4x2048 : Shape := ⟨4, ![4, 128, 4, 2048]⟩
abbrev S1x512 : Shape := ⟨2, ![1, 512]⟩

abbrev nBuf : Space → Nat
  | .hbm => 186
  | .vmem => 0
  | .smem => 0
  | _ => 0

abbrev hbmTy0_0 (i : Nat) : BufTy := match i % 128 with
  | 0 => ⟨S8192x8192, .f32⟩
  | 1 => ⟨S4x128x128, .f32⟩
  | 2 => ⟨S512, .f32⟩
  | 3 => ⟨S8192x512, .f32⟩
  | 4 => ⟨S4x2048x512, .f32⟩
  | 5 => ⟨S8192x512, .f32⟩
  | 6 => ⟨S2048, .i32⟩
  | 7 => ⟨S_, .i32⟩
  | 8 => ⟨S2048, .i32⟩
  | 9 => ⟨S2048, .i32⟩
  | 10 => ⟨S_, .i32⟩
  | 11 => ⟨S_, .i32⟩
  | 12 => ⟨S_, .i32⟩
  | 13 => ⟨S2048, .i32⟩
  | 14 => ⟨S2048, .i32⟩
  | 15 => ⟨S_, .i32⟩
  | 16 => ⟨S2048, .i32⟩
  | 17 => ⟨S2048, .i32⟩
  | 18 => ⟨S_, .i32⟩
  | 19 => ⟨S2048, .i32⟩
  | 20 => ⟨S2048, .i32⟩
  | 21 => ⟨S_, .i32⟩
  | 22 => ⟨S_, .i32⟩
  | 23 => ⟨S_, .i32⟩
  | 24 => ⟨S2048, .i32⟩
  | 25 => ⟨S2048, .i32⟩
  | 26 => ⟨S_, .i32⟩
  | 27 => ⟨S2048, .i32⟩
  | 28 => ⟨S2048, .i32⟩
  | 29 => ⟨S2048x1, .i32⟩
  | 30 => ⟨S1x2048, .i32⟩
  | 31 => ⟨S2048x2048, .i32⟩
  | 32 => ⟨S2048x2048, .i32⟩
  | 33 => ⟨S2048x2048, .i1⟩
  | 34 => ⟨S1x2048, .i32⟩
  | 35 => ⟨S2048x1, .i32⟩
  | 36 => ⟨S2048x2048, .i32⟩
  | 37 => ⟨S2048x2048, .i32⟩
  | 38 => ⟨S2048x2048, .i1⟩
  | 39 => ⟨S2048x2048, .i1⟩
  | 40 => ⟨S2048x2048, .f32⟩
  | 41 => ⟨S4x2048x128, .f32⟩
  | 42 => ⟨S4x128x2048, .f32⟩
  | 43 => ⟨S4x2048x128, .f32⟩
  | 44 => ⟨S2048, .i32⟩
  | 45 => ⟨S2048, .f32⟩
  | 46 => ⟨S1x2048x1, .f32⟩
  | 47 => ⟨S4x2048x128, .f32⟩
  | 48 => ⟨S4x2048x128, .f32⟩
  | 49 => ⟨S_, .i32⟩
  | 50 => ⟨S2048, .i32⟩
  | 51 => ⟨S2048, .i32⟩
  | 52 => ⟨S_, .i32⟩
  | 53 => ⟨S_, .i32⟩
  | 54 => ⟨S_, .i32⟩
  | 55 => ⟨S2048, .i32⟩
  | 56 => ⟨S2048, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i32⟩
  | 63 => ⟨S_, .i32⟩
  | 64 => ⟨S_, .i32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S2048x1, .i32⟩
  | 72 => ⟨S1x2048, .i32⟩
  | 73 => ⟨S2048x2048, .i32⟩
  | 74 => ⟨S2048x2048, .i32⟩
  | 75 => ⟨S2048x2048, .i1⟩
  | 76 => ⟨S1x2048, .i32⟩
  | 77 => ⟨S2048x1, .i32⟩
  | 78 => ⟨S2048x2048, .i32⟩
  | 79 => ⟨S2048x2048, .i32⟩
  | 80 => ⟨S2048x2048, .i1⟩
  | 81 => ⟨S2048x2048, .i1⟩
  | 82 => ⟨S2048x2048, .f32⟩
  | 83 => ⟨S4x2048x128, .f32⟩
  | 84 => ⟨S4x128x2048, .f32⟩
  | 85 => ⟨S4x2048x128, .f32⟩
  | 86 => ⟨S2048, .i32⟩
  | 87 => ⟨S2048, .f32⟩
  | 88 => ⟨S1x2048x1, .f32⟩
  | 89 => ⟨S4x2048x128, .f32⟩
  | 90 => ⟨S4x2048x128, .f32⟩
  | 91 => ⟨S_, .i32⟩
  | 92 => ⟨S2048, .i32⟩
  | 93 => ⟨S2048, .i32⟩
  | 94 => ⟨S_, .i32⟩
  | 95 => ⟨S_, .i32⟩
  | 96 => ⟨S_, .i32⟩
  | 97 => ⟨S2048, .i32⟩
  | 98 => ⟨S2048, .i32⟩
  | 99 => ⟨S_, .i32⟩
  | 100 => ⟨S2048, .i32⟩
  | 101 => ⟨S2048, .i32⟩
  | 102 => ⟨S_, .i32⟩
  | 103 => ⟨S2048, .i32⟩
  | 104 => ⟨S2048, .i32⟩
  | 105 => ⟨S_, .i32⟩
  | 106 => ⟨S_, .i32⟩
  | 107 => ⟨S_, .i32⟩
  | 108 => ⟨S2048, .i32⟩
  | 109 => ⟨S2048, .i32⟩
  | 110 => ⟨S_, .i32⟩
  | 111 => ⟨S2048, .i32⟩
  | 112 => ⟨S2048, .i32⟩
  | 113 => ⟨S2048x1, .i32⟩
  | 114 => ⟨S1x2048, .i32⟩
  | 115 => ⟨S2048x2048, .i32⟩
  | 116 => ⟨S2048x2048, .i32⟩
  | 117 => ⟨S2048x2048, .i1⟩
  | 118 => ⟨S1x2048, .i32⟩
  | 119 => ⟨S2048x1, .i32⟩
  | 120 => ⟨S2048x2048, .i32⟩
  | 121 => ⟨S2048x2048, .i32⟩
  | 122 => ⟨S2048x2048, .i1⟩
  | 123 => ⟨S2048x2048, .i1⟩
  | 124 => ⟨S2048x2048, .f32⟩
  | 125 => ⟨S4x2048x128, .f32⟩
  | 126 => ⟨S4x128x2048, .f32⟩
  | 127 => ⟨S4x2048x128, .f32⟩
  | _ => ⟨S8192x8192, .f32⟩

abbrev hbmTy0_1 (i : Nat) : BufTy := match i % 128 with
  | 0 => ⟨S2048, .i32⟩
  | 1 => ⟨S2048, .f32⟩
  | 2 => ⟨S1x2048x1, .f32⟩
  | 3 => ⟨S4x2048x128, .f32⟩
  | 4 => ⟨S4x2048x128, .f32⟩
  | 5 => ⟨S_, .i32⟩
  | 6 => ⟨S2048, .i32⟩
  | 7 => ⟨S2048, .i32⟩
  | 8 => ⟨S_, .i32⟩
  | 9 => ⟨S_, .i32⟩
  | 10 => ⟨S_, .i32⟩
  | 11 => ⟨S2048, .i32⟩
  | 12 => ⟨S2048, .i32⟩
  | 13 => ⟨S_, .i32⟩
  | 14 => ⟨S2048, .i32⟩
  | 15 => ⟨S2048, .i32⟩
  | 16 => ⟨S_, .i32⟩
  | 17 => ⟨S2048, .i32⟩
  | 18 => ⟨S2048, .i32⟩
  | 19 => ⟨S_, .i32⟩
  | 20 => ⟨S_, .i32⟩
  | 21 => ⟨S_, .i32⟩
  | 22 => ⟨S2048, .i32⟩
  | 23 => ⟨S2048, .i32⟩
  | 24 => ⟨S_, .i32⟩
  | 25 => ⟨S2048, .i32⟩
  | 26 => ⟨S2048, .i32⟩
  | 27 => ⟨S2048x1, .i32⟩
  | 28 => ⟨S1x2048, .i32⟩
  | 29 => ⟨S2048x2048, .i32⟩
  | 30 => ⟨S2048x2048, .i32⟩
  | 31 => ⟨S2048x2048, .i1⟩
  | 32 => ⟨S1x2048, .i32⟩
  | 33 => ⟨S2048x1, .i32⟩
  | 34 => ⟨S2048x2048, .i32⟩
  | 35 => ⟨S2048x2048, .i32⟩
  | 36 => ⟨S2048x2048, .i1⟩
  | 37 => ⟨S2048x2048, .i1⟩
  | 38 => ⟨S2048x2048, .f32⟩
  | 39 => ⟨S4x2048x128, .f32⟩
  | 40 => ⟨S4x128x2048, .f32⟩
  | 41 => ⟨S4x2048x128, .f32⟩
  | 42 => ⟨S2048, .i32⟩
  | 43 => ⟨S2048, .f32⟩
  | 44 => ⟨S1x2048x1, .f32⟩
  | 45 => ⟨S4x2048x128, .f32⟩
  | 46 => ⟨S4x2048x128, .f32⟩
  | 47 => ⟨S4x2048x512, .f32⟩
  | 48 => ⟨S4x2048x512, .f32⟩
  | 49 => ⟨S4x2048x4x128, .f32⟩
  | 50 => ⟨S4x128x4x2048, .f32⟩
  | 51 => ⟨S4x2048x4x128, .f32⟩
  | 52 => ⟨S8192x512, .f32⟩
  | 53 => ⟨S1x512, .f32⟩
  | 54 => ⟨S8192x512, .f32⟩
  | 55 => ⟨S8192x512, .f32⟩
  | 56 => ⟨S8192x512, .f32⟩
  | 57 => ⟨S8192x512, .bf16⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_c_4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_c_7 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v32 : Ref sig .tc := ⟨.hbm, 59, rfl⟩
abbrev main_c_8 : Ref sig .tc := ⟨.hbm, 60, rfl⟩
abbrev main_v33 : Ref sig .tc := ⟨.hbm, 61, rfl⟩
abbrev main_v34 : Ref sig .tc := ⟨.hbm, 62, rfl⟩
abbrev main_c_9 : Ref sig .tc := ⟨.hbm, 63, rfl⟩
abbrev main_c_10 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_11 : Ref sig .tc := ⟨.hbm, 91, rfl⟩
abbrev main_v56 : Ref sig .tc := ⟨.hbm, 92, rfl⟩
abbrev main_v57 : Ref sig .tc := ⟨.hbm, 93, rfl⟩
abbrev main_c_12 : Ref sig .tc := ⟨.hbm, 94, rfl⟩
abbrev main_c_13 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_v58 : Ref sig .tc := ⟨.hbm, 101, rfl⟩
abbrev main_c_14 : Ref sig .tc := ⟨.hbm, 102, rfl⟩
abbrev main_v59 : Ref sig .tc := ⟨.hbm, 103, rfl⟩
abbrev main_v60 : Ref sig .tc := ⟨.hbm, 104, rfl⟩
abbrev main_c_15 : Ref sig .tc := ⟨.hbm, 105, rfl⟩
abbrev main_c_16 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_17 : Ref sig .tc := ⟨.hbm, 133, rfl⟩
abbrev main_v82 : Ref sig .tc := ⟨.hbm, 134, rfl⟩
abbrev main_v83 : Ref sig .tc := ⟨.hbm, 135, rfl⟩
abbrev main_c_18 : Ref sig .tc := ⟨.hbm, 136, rfl⟩
abbrev main_c_19 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_v84 : Ref sig .tc := ⟨.hbm, 143, rfl⟩
abbrev main_c_20 : Ref sig .tc := ⟨.hbm, 144, rfl⟩
abbrev main_v85 : Ref sig .tc := ⟨.hbm, 145, rfl⟩
abbrev main_v86 : Ref sig .tc := ⟨.hbm, 146, rfl⟩
abbrev main_c_21 : Ref sig .tc := ⟨.hbm, 147, rfl⟩
abbrev main_c_22 : Ref sig .tc := ⟨.hbm, 148, rfl⟩
abbrev main_call7_v0 : Ref sig .tc := ⟨.hbm, 149, rfl⟩
abbrev main_call7_v1 : Ref sig .tc := ⟨.hbm, 150, rfl⟩
abbrev main_call7_v2 : Ref sig .tc := ⟨.hbm, 151, rfl⟩
abbrev main_call7_v3 : Ref sig .tc := ⟨.hbm, 152, rfl⟩
abbrev main_call7_v4 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩

abbrev nD : Nat := 1
abbrev τ : Topo := Topo.v7x

variable {F : FTy → Type} [FloatOps F]
-- ==== Kernel6.lean ====
abbrev S4x1024 : Shape := ⟨2, ![4, 1024]⟩
abbrev S1024 : Shape := ⟨1, ![1024]⟩
abbrev S2x1024x3072 : Shape := ⟨3, ![2, 1024, 3072]⟩
abbrev S2x3072 : Shape := ⟨2, ![2, 3072]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x3072 : Shape := ⟨3, ![2, 1, 3072]⟩
abbrev S2x8x3072 : Shape := ⟨3, ![2, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x3072, .f32⟩
  | .hbm, ⟨9, _⟩ => ⟨S2x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x1024 : Shape := ⟨2, ![4, 1024]⟩
abbrev S1024 : Shape := ⟨1, ![1024]⟩
abbrev S2x1024x3072 : Shape := ⟨3, ![2, 1024, 3072]⟩
abbrev S2x3072 : Shape := ⟨2, ![2, 3072]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x3072x8 : Shape := ⟨3, ![2, 3072, 8]⟩
abbrev S2x8x3072 : Shape := ⟨3, ![2, 8, 3072]⟩
abbrev S2x1x3072 : Shape := ⟨3, ![2, 1, 3072]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S2x3072x8, .f32⟩
  | .hbm, ⟨18, _⟩ => ⟨S2x8x3072, .f32⟩
  | .hbm, ⟨19, _⟩ => ⟨S2x1x3072, .f32⟩
  | .hbm, ⟨20, _⟩ => ⟨S2x8x3072, .f32⟩
  | .hbm, ⟨21, _⟩ => ⟨S2x8x3072, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel7.lean ====
abbrev S8192x1024 : Shape := ⟨2, ![8192, 1024]⟩
abbrev S8x3072 : Shape := ⟨2, ![8, 3072]⟩
abbrev S1024 : Shape := ⟨1, ![1024]⟩
abbrev S2x1024x8192 : Shape := ⟨3, ![2, 1024, 8192]⟩
abbrev S64 : Shape := ⟨1, ![64]⟩
abbrev S2048x32 : Shape := ⟨2, ![2048, 32]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x1x3072 : Shape := ⟨3, ![8, 1, 3072]⟩
abbrev S1x1024 : Shape := ⟨2, ![1, 1024]⟩
abbrev S2048x32x1 : Shape := ⟨3, ![2048, 32, 1]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S8192x8192 : Shape := ⟨2, ![8192, 8192]⟩
abbrev S512x1024 : Shape := ⟨2, ![512, 1024]⟩
abbrev S1x1x3072 : Shape := ⟨3, ![1, 1, 3072]⟩
abbrev S1x1024x8192 : Shape := ⟨3, ![1, 1024, 8192]⟩
abbrev S512x512 : Shape := ⟨2, ![512, 512]⟩
abbrev S512x8192 : Shape := ⟨2, ![512, 8192]⟩
abbrev S512x1 : Shape := ⟨2, ![512, 1]⟩
abbrev S1x1x1024 : Shape := ⟨3, ![1, 1, 1024]⟩
abbrev S1x1024x512 : Shape := ⟨3, ![1, 1024, 512]⟩
abbrev S1024x512 : Shape := ⟨2, ![1024, 512]⟩

abbrev nBuf : Space → Nat
  | .hbm => 35
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8x3072, .f32⟩
  | .hbm, ⟨2, _⟩ => ⟨S1024, .f32⟩
  | .hbm, ⟨3, _⟩ => ⟨S2x1024x8192, .f32⟩
  | .hbm, ⟨4, _⟩ => ⟨S64, .f32⟩
  | .hbm, ⟨5, _⟩ => ⟨S64, .f32⟩
  | .hbm, ⟨6, _⟩ => ⟨S2048x32, .f32⟩
  | .hbm, ⟨7, _⟩ => ⟨S2048x32, .f32⟩
  | .hbm, ⟨8, _⟩ => ⟨S1x64, .f32⟩
  | .hbm, ⟨9, _⟩ => ⟨S8x64, .f32⟩
  | .hbm, ⟨10, _⟩ => ⟨S512, .f32⟩
  | .hbm, ⟨11, _⟩ => ⟨S1x512, .f32⟩
  | .hbm, ⟨12, _⟩ => ⟨S1x64, .f32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S8x1x3072, .f32⟩
  | .hbm, ⟨17, _⟩ => ⟨S1x1024, .f32⟩
  | .hbm, ⟨18, _⟩ => ⟨S2x1024x8192, .bf16⟩
  | .hbm, ⟨19, _⟩ => ⟨S2048x32x1, .f32⟩
  | .hbm, ⟨20, _⟩ => ⟨S2048x32x1, .f32⟩
  | .hbm, ⟨21, _⟩ => ⟨S2048x32x2, .f32⟩
  | .hbm, ⟨22, _⟩ => ⟨S2048x64, .f32⟩
  | .hbm, ⟨23, _⟩ => ⟨S1x2048x1x64, .f32⟩
  | .hbm, ⟨24, _⟩ => ⟨S1x2048x8x64, .f32⟩
  | .hbm, ⟨25, _⟩ => ⟨S2048x512, .f32⟩
  | .hbm, ⟨26, _⟩ => ⟨S2048x32, .f32⟩
  | .hbm, ⟨27, _⟩ => ⟨S2048x32x1, .f32⟩
  | .hbm, ⟨28, _⟩ => ⟨S2048x32x1, .f32⟩
  | .hbm, ⟨29, _⟩ => ⟨S2048x32x2, .f32⟩
  | .hbm, ⟨30, _⟩ => ⟨S2048x64, .f32⟩
  | .hbm, ⟨31, _⟩ => ⟨S1x2048x1x64, .f32⟩
  | .hbm, ⟨32, _⟩ => ⟨S1x2048x8x64, .f32⟩
  | .hbm, ⟨33, _⟩ => ⟨S2048x512, .f32⟩
  | .hbm, ⟨34, _⟩ => ⟨S8192x8192, .bf16⟩
  | .local _ .vmem, ⟨0, _⟩ => ⟨S512x1024, .f32⟩
  | .local _ .vmem, ⟨1, _⟩ => ⟨S512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1x1024x8192, .bf16⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x8192, .bf16⟩
  | .local _ .vmem, ⟨13, _⟩ => ⟨S512x8192, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel7Ideal.lean ====
variable {F : FTy → Type} [FloatOps F] [Named F]
def κ : String → Option EReal := fun
  | "q_scale" => some (((1 / 8) * (Real.log 2)⁻¹ : ℝ) : EReal)
  | _ => none
-- ==== Reference7Ideal.lean ====
abbrev S8192x1024 : Shape := ⟨2, ![8192, 1024]⟩
abbrev S8x3072 : Shape := ⟨2, ![8, 3072]⟩
abbrev S1024 : Shape := ⟨1, ![1024]⟩
abbrev S2x1024x8192 : Shape := ⟨3, ![2, 1024, 8192]⟩
abbrev S64 : Shape := ⟨1, ![64]⟩
abbrev S2048x32 : Shape := ⟨2, ![2048, 32]⟩
abbrev S4x3072 : Shape := ⟨2, ![4, 3072]⟩
abbrev S4x1x3072 : Shape := ⟨3, ![4, 1, 3072]⟩
abbrev S4x1x1024 : Shape := ⟨3, ![4, 1, 1024]⟩
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1x1024x8192 : Shape := ⟨3, ![1, 1024, 8192]⟩
abbrev S1024x8192 : Shape := ⟨2, ![1024, 8192]⟩
abbrev S8192x8192 : Shape := ⟨2, ![8192, 8192]⟩
abbrev S8192x1536 : Shape := ⟨2, ![8192, 1536]⟩
abbrev S8192x512 : Shape := ⟨2, ![8192, 512]⟩
abbrev S8192x3072 : Shape := ⟨2, ![8192, 3072]⟩
abbrev S8192x4x2x64 : Shape := ⟨4, ![8192, 4, 2, 64]⟩
abbrev S8192x4x2 : Shape := ⟨3, ![8192, 4, 2]⟩
abbrev S8192x4x2x1 : Shape := ⟨4, ![8192, 4, 2, 1]⟩
abbrev S1x1x1x64 : Shape := ⟨4, ![1, 1, 1, 64]⟩
abbrev S4x2048x4x2x32x2 : Shape := ⟨6, ![4, 2048, 4, 2, 32, 2]⟩
abbrev S4x2048x4x2x32x1 : Shape := ⟨6, ![4, 2048, 4, 2, 32, 1]⟩
abbrev S4x2048x4x2x32 : Shape := ⟨5, ![4, 2048, 4, 2, 32]⟩
abbrev S1x2048x1x1x32 : Shape := ⟨5, ![1, 2048, 1, 1, 32]⟩

abbrev nBuf : Space → Nat
  | .hbm => 170
  | .vmem => 0
  | .smem => 0
  | _ => 0

abbrev hbmTy0_0 (i : Nat) : BufTy := match i % 128 with
  | 0 => ⟨S8192x1024, .f32⟩
  | 1 => ⟨S8x3072, .f32⟩
  | 2 => ⟨S1024, .f32⟩
  | 3 => ⟨S2x1024x8192, .f32⟩
  | 4 => ⟨S64, .f32⟩
  | 5 => ⟨S64, .f32⟩
  | 6 => ⟨S2048x32, .f32⟩
  | 7 => ⟨S2048x32, .f32⟩
  | 8 => ⟨S4x3072, .f32⟩
  | 9 => ⟨S4x1x3072, .f32⟩
  | 10 => ⟨S4x1x1024, .f32⟩
  | 11 => ⟨S4x1x1024, .f32⟩
  | 12 => ⟨S4x1x1024, .f32⟩
  | 13 => ⟨S4x2048x1024, .f32⟩
  | 14 => ⟨S4x2048x1024, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S_, .f32⟩
  | 22 => ⟨S4x2048x1, .f32⟩
  | 23 => ⟨S4x2048x1, .f32⟩
  | 24 => ⟨S4x2048x1, .f32⟩
  | 25 => ⟨S4x2048x1024, .f32⟩
  | 26 => ⟨S4x2048x1024, .f32⟩
  | 27 => ⟨S1x1x1024, .f32⟩
  | 28 => ⟨S4x2048x1024, .f32⟩
  | 29 => ⟨S4x2048x1024, .f32⟩
  | 30 => ⟨S_, .f32⟩
  | 31 => ⟨S4x1x1024, .f32⟩
  | 32 => ⟨S4x1x1024, .f32⟩
  | 33 => ⟨S4x2048x1024, .f32⟩
  | 34 => ⟨S4x2048x1024, .f32⟩
  | 35 => ⟨S4x2048x1024, .f32⟩
  | 36 => ⟨S4x2048x1024, .f32⟩
  | 37 => ⟨S8192x1024, .f32⟩
  | 38 => ⟨S1x1024x8192, .f32⟩
  | 39 => ⟨S1024x8192, .f32⟩
  | 40 => ⟨S8192x8192, .f32⟩
  | 41 => ⟨S8192x1536, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S8192x512, .f32⟩
  | 48 => ⟨S8192x512, .f32⟩
  | 49 => ⟨S8192x3072, .f32⟩
  | 50 => ⟨S8192x4x2x64, .f32⟩
  | 51 => ⟨S8192x4x2x64, .f32⟩
  | 52 => ⟨S_, .f32⟩
  | 53 => ⟨S8192x4x2, .f32⟩
  | 54 => ⟨S8192x4x2x1, .f32⟩
  | 55 => ⟨S_, .f32⟩
  | 56 => ⟨S8192x4x2x1, .f32⟩
  | 57 => ⟨S8192x4x2x1, .f32⟩
  | 58 => ⟨S_, .f32⟩
  | 59 => ⟨S8192x4x2x1, .f32⟩
  | 60 => ⟨S8192x4x2x1, .f32⟩
  | 61 => ⟨S8192x4x2x1, .f32⟩
  | 62 => ⟨S8192x4x2x64, .f32⟩
  | 63 => ⟨S8192x4x2x64, .f32⟩
  | 64 => ⟨S1x1x1x64, .f32⟩
  | 65 => ⟨S8192x4x2x64, .f32⟩
  | 66 => ⟨S8192x4x2x64, .f32⟩
  | 67 => ⟨S8192x4x2x64, .f32⟩
  | 68 => ⟨S8192x4x2x64, .f32⟩
  | 69 => ⟨S_, .f32⟩
  | 70 => ⟨S8192x4x2, .f32⟩
  | 71 => ⟨S8192x4x2x1, .f32⟩
  | 72 => ⟨S_, .f32⟩
  | 73 => ⟨S8192x4x2x1, .f32⟩
  | 74 => ⟨S8192x4x2x1, .f32⟩
  | 75 => ⟨S_, .f32⟩
  | 76 => ⟨S8192x4x2x1, .f32⟩
  | 77 => ⟨S8192x4x2x1, .f32⟩
  | 78 => ⟨S8192x4x2x1, .f32⟩
  | 79 => ⟨S8192x4x2x64, .f32⟩
  | 80 => ⟨S8192x4x2x64, .f32⟩
  | 81 => ⟨S1x1x1x64, .f32⟩
  | 82 => ⟨S8192x4x2x64, .f32⟩
  | 83 => ⟨S8192x4x2x64, .f32⟩
  | 84 => ⟨S4x2048x4x2x32x2, .f32⟩
  | 85 => ⟨S4x2048x4x2x32x1, .f32⟩
  | 86 => ⟨S4x2048x4x2x32, .f32⟩
  | 87 => ⟨S4x2048x4x2x32x1, .f32⟩
  | 88 => ⟨S4x2048x4x2x32, .f32⟩
  | 89 => ⟨S1x2048x1x1x32, .f32⟩
  | 90 => ⟨S1x2048x1x1x32, .f32⟩
  | 91 => ⟨S4x2048x4x2x32, .f32⟩
  | 92 => ⟨S4x2048x4x2x32, .f32⟩
  | 93 => ⟨S4x2048x4x2x32, .f32⟩
  | 94 => ⟨S4x2048x4x2x32, .f32⟩
  | 95 => ⟨S4x2048x4x2x32, .f32⟩
  | 96 => ⟨S4x2048x4x2x32, .f32⟩
  | 97 => ⟨S4x2048x4x2x32, .f32⟩
  | 98 => ⟨S4x2048x4x2x32, .f32⟩
  | 99 => ⟨S4x2048x4x2x32, .f32⟩
  | 100 => ⟨S4x2048x4x2x32, .f32⟩
  | 101 => ⟨S4x2048x4x2x32x1, .f32⟩
  | 102 => ⟨S4x2048x4x2x32x1, .f32⟩
  | 103 => ⟨S4x2048x4x2x32x2, .f32⟩
  | 104 => ⟨S8192x512, .f32⟩
  | 105 => ⟨S4x2048x4x2x32x2, .f32⟩
  | 106 => ⟨S4x2048x4x2x32x1, .f32⟩
  | 107 => ⟨S4x2048x4x2x32, .f32⟩
  | 108 => ⟨S4x2048x4x2x32x1, .f32⟩
  | 109 => ⟨S4x2048x4x2x32, .f32⟩
  | 110 => ⟨S1x2048x1x1x32, .f32⟩
  | 111 => ⟨S1x2048x1x1x32, .f32⟩
  | 112 => ⟨S4x2048x4x2x32, .f32⟩
  | 113 => ⟨S4x2048x4x2x32, .f32⟩
  | 114 => ⟨S4x2048x4x2x32, .f32⟩
  | 115 => ⟨S4x2048x4x2x32, .f32⟩
  | 116 => ⟨S4x2048x4x2x32, .f32⟩
  | 117 => ⟨S4x2048x4x2x32, .f32⟩
  | 118 => ⟨S4x2048x4x2x32, .f32⟩
  | 119 => ⟨S4x2048x4x2x32, .f32⟩
  | 120 => ⟨S4x2048x4x2x32, .f32⟩
  | 121 => ⟨S4x2048x4x2x32, .f32⟩
  | 122 => ⟨S4x2048x4x2x32x1, .f32⟩
  | 123 => ⟨S4x2048x4x2x32x1, .f32⟩
  | 124 => ⟨S4x2048x4x2x32x2, .f32⟩
  | 125 => ⟨S8192x512, .f32⟩
  | 126 => ⟨S_, .f32⟩
  | 127 => ⟨S8192x512, .f32⟩
  | _ => ⟨S8192x1024, .f32⟩

abbrev hbmTy0_1 (i : Nat) : BufTy := match i % 128 with
  | 0 => ⟨S8192x512, .f32⟩
  | 1 => ⟨S_, .f32⟩
  | 2 => ⟨S_, .f32⟩
  | 3 => ⟨S8192x512, .f32⟩
  | 4 => ⟨S8192x512, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S8192x512, .f32⟩
  | 32 => ⟨S8192x3072, .f32⟩
  | 33 => ⟨S8192x3072, .f32⟩
  | 34 => ⟨S_, .f32⟩
  | 35 => ⟨S8192x3072, .f32⟩
  | 36 => ⟨S8192x3072, .f32⟩
  | 37 => ⟨S_, .f32⟩
  | 38 => ⟨S8192x3072, .f32⟩
  | 39 => ⟨S8192x3072, .f32⟩
  | 40 => ⟨S8192x8192, .f32⟩
  | 41 => ⟨S8192x8192, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_9 : Ref sig .tc := ⟨.hbm, 126, rfl⟩
abbrev main_v108 : Ref sig .tc := ⟨.hbm, 127, rfl⟩
abbrev main_v109 : Ref sig .tc := ⟨.hbm, 128, rfl⟩
abbrev main_cst_10 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_call0_v0 : Ref sig .tc := ⟨.hbm, 133, rfl⟩
abbrev main_call0_v1 : Ref sig .tc := ⟨.hbm, 134, rfl⟩
abbrev main_call0_cst : Ref sig .tc := ⟨.hbm, 135, rfl⟩
abbrev main_call0_v2 : Ref sig .tc := ⟨.hbm, 136, rfl⟩
abbrev main_call0_v3 : Ref sig .tc := ⟨.hbm, 137, rfl⟩
abbrev main_call0_cst_0 : Ref sig .tc := ⟨.hbm, 138, rfl⟩
abbrev main_call0_v4 : Ref sig .tc := ⟨.hbm, 139, rfl⟩
abbrev main_call0_v5 : Ref sig .tc := ⟨.hbm, 140, rfl⟩
abbrev main_v113 : Ref sig .tc := ⟨.hbm, 141, rfl⟩
abbrev main_call1_v0 : Ref sig .tc := ⟨.hbm, 142, rfl⟩
abbrev main_call1_v1 : Ref sig .tc := ⟨.hbm, 143, rfl⟩
abbrev main_call1_cst : Ref sig .tc := ⟨.hbm, 144, rfl⟩
abbrev main_call1_v2 : Ref sig .tc := ⟨.hbm, 145, rfl⟩
abbrev main_call1_v3 : Ref sig .tc := ⟨.hbm, 146, rfl⟩
abbrev main_call1_cst_0 : Ref sig .tc := ⟨.hbm, 147, rfl⟩
abbrev main_call1_v4 : Ref sig .tc := ⟨.hbm, 148, rfl⟩
abbrev main_call1_v5 : Ref sig .tc := ⟨.hbm, 149, rfl⟩
abbrev main_v114 : Ref sig .tc := ⟨.hbm, 150, rfl⟩
abbrev main_call2_v0 : Ref sig .tc := ⟨.hbm, 151, rfl⟩
abbrev main_call2_v1 : Ref sig .tc := ⟨.hbm, 152, rfl⟩
abbrev main_call2_cst : Ref sig .tc := ⟨.hbm, 153, rfl⟩
abbrev main_call2_v2 : Ref sig .tc := ⟨.hbm, 154, rfl⟩
abbrev main_call2_v3 : Ref sig .tc := ⟨.hbm, 155, rfl⟩
abbrev main_call2_cst_0 : Ref sig .tc := ⟨.hbm, 156, rfl⟩
abbrev main_call2_v4 : Ref sig .tc := ⟨.hbm, 157, rfl⟩
abbrev main_call2_v5 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_11 : Ref sig .tc := ⟨.hbm, 162, rfl⟩
abbrev main_v118 : Ref sig .tc := ⟨.hbm, 163, rfl⟩
abbrev main_v119 : Ref sig .tc := ⟨.hbm, 164, rfl⟩
abbrev main_cst_12 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩

abbrev nD : Nat := 1
abbrev τ : Topo := Topo.v7x

variable {F : FTy → Type} [FloatOps F]
-- ==== Kernel8.lean ====
abbrev S2048x512 : Shape := ⟨2, ![2048, 512]⟩
abbrev S64x512 : Shape := ⟨2, ![64, 512]⟩
abbrev S1x512 : Shape := ⟨2, ![1, 512]⟩
abbrev S64x1 : Shape := ⟨2, ![64, 1]⟩

abbrev nBuf : Space → Nat
  | .hbm => 2
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S64x512, .f32⟩
  | .local _ .vmem, ⟨3, _⟩ => ⟨S64x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_v0_0 : Ref sig .tc := ⟨.hbm, 0, rfl⟩
abbrev main_v0_1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_5 : BitVec 32 := 0#32
  let c32_i32_6 : BitVec 32 := 32#32
  let v36 : BitVec 32 := Scalar.addi c0_i32_5 c32_i32_6
  let c1_i32_7 : BitVec 32 := 1#32
  ⟨c0_i32_5, v36, c1_i32_7⟩
def k0_mult1 (k0_t1 : Fin k0_t1_loop.trips) : BitVec 32 :=
  let c0_i32_5 : BitVec 32 := 0#32
  let c1_i32_7 : BitVec 32 := 1#32
  let arg4 : BitVec 32 := Scf.iv c0_i32_5 c1_i32_7 k0_t1
  let c64_i32 : BitVec 32 := 64#32
  let v37 : BitVec 32 := Scalar.muli arg4 c64_i32
  v37
def k0_off1 (k0_t1 : Fin k0_t1_loop.trips) : Fin 2 → Nat :=
  let c0_i32_5 : BitVec 32 := 0#32
  let c1_i32_7 : BitVec 32 := 1#32
  let arg4 : BitVec 32 := Scf.iv c0_i32_5 c1_i32_7 k0_t1
  let v39 : Index := Scalar.indexCast arg4
  let c0_9 : Index := 0#32
  ![v39.toNat, 0]
def k0_off2 (k0_t1 : Fin k0_t1_loop.trips) : Fin 2 → Nat :=
  let c0_i32_5 : BitVec 32 := 0#32
  let c1_i32_7 : BitVec 32 := 1#32
  let arg4 : BitVec 32 := Scf.iv c0_i32_5 c1_i32_7 k0_t1
  let c64_i32 : BitVec 32 := 64#32
  let v37 : BitVec 32 := Scalar.muli arg4 c64_i32
  let v38 : BitVec 32 := v37
  let v47 : Index := Scalar.indexCast v38
  let c0_12 : Index := 0#32
  ![v47.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Kernel8Ideal.lean ====
variable {F : FTy → Type} [FloatOps F] [Named F]
def κ : String → Option EReal := fun
  | "rope_step" => some (((-1 / 16) * (Real.log 10000) : ℝ) : EReal)
  | _ => none
-- ==== Reference8Ideal.lean ====
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x1 : Shape := ⟨3, ![2048, 32, 1]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩

abbrev nBuf : Space → Nat
  | .hbm => 53
  | .vmem => 0
  | .smem => 0
  | _ => 0

abbrev bufTy : (tb : Table) → Fin (tcTables nBuf tb) → BufTy
  | .hbm, ⟨0, _⟩ => ⟨S32, .i32⟩
  | .hbm, ⟨1, _⟩ => ⟨S32x64, .i32⟩
  | .hbm, ⟨2, _⟩ => ⟨S2048, .i32⟩
  | .hbm, ⟨3, _⟩ => ⟨S2048, .f32⟩
  | .hbm, ⟨4, _⟩ => ⟨S64, .i32⟩
  | .hbm, ⟨5, _⟩ => ⟨S1x64, .i32⟩
  | .hbm, ⟨6, _⟩ => ⟨S32x64, .i32⟩
  | .hbm, ⟨7, _⟩ => ⟨S2048, .i32⟩
  | .hbm, ⟨8, _⟩ => ⟨S2048, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x1, .f32⟩
  | .hbm, ⟨31, _⟩ => ⟨S1x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32x1, .f32⟩
  | .hbm, ⟨39, _⟩ => ⟨S2048x32x1, .f32⟩
  | .hbm, ⟨40, _⟩ => ⟨S2048x32x2, .f32⟩
  | .hbm, ⟨41, _⟩ => ⟨S2048x64, .f32⟩
  | .hbm, ⟨42, _⟩ => ⟨S1x2048x1x64, .f32⟩
  | .hbm, ⟨43, _⟩ => ⟨S1x2048x8x64, .f32⟩
  | .hbm, ⟨44, _⟩ => ⟨S2048x512, .f32⟩
  | .hbm, ⟨45, _⟩ => ⟨S2048x32, .f32⟩
  | .hbm, ⟨46, _⟩ => ⟨S2048x32x1, .f32⟩
  | .hbm, ⟨47, _⟩ => ⟨S2048x32x1, .f32⟩
  | .hbm, ⟨48, _⟩ => ⟨S2048x32x2, .f32⟩
  | .hbm, ⟨49, _⟩ => ⟨S2048x64, .f32⟩
  | .hbm, ⟨50, _⟩ => ⟨S1x2048x1x64, .f32⟩
  | .hbm, ⟨51, _⟩ => ⟨S1x2048x8x64, .f32⟩
  | .hbm, ⟨52, _⟩ => ⟨S2048x512, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_v0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v4 : Ref sig .tc := ⟨.hbm, 4, rfl⟩
abbrev main_v5 : Ref sig .tc := ⟨.hbm, 5, rfl⟩
abbrev main_v6 : Ref sig .tc := ⟨.hbm, 6, rfl⟩
abbrev main_v7 : Ref sig .tc := ⟨.hbm, 7, rfl⟩
abbrev main_v8 : Ref sig .tc := ⟨.hbm, 8, rfl⟩
abbrev main_v9 : Ref sig .tc := ⟨.hbm, 9, rfl⟩
abbrev main_cst : Ref sig .tc := ⟨.hbm, 10, rfl⟩
abbrev main_v10 : Ref sig .tc := ⟨.hbm, 11, rfl⟩
abbrev main_v11 : Ref sig .tc := ⟨.hbm, 12, rfl⟩
abbrev main_cst_0 : Ref sig .tc := ⟨.hbm, 13, rfl⟩
abbrev main_v12 : Ref sig .tc := ⟨.hbm, 14, rfl⟩
abbrev main_v13 : Ref sig .tc := ⟨.hbm, 15, rfl⟩
abbrev main_cst_1 : Ref sig .tc := ⟨.hbm, 16, rfl⟩
abbrev main_v14 : Ref sig .tc := ⟨.hbm, 17, rfl⟩
abbrev main_v15 : Ref sig .tc := ⟨.hbm, 18, rfl⟩
abbrev main_cst_2 : Ref sig .tc := ⟨.hbm, 19, rfl⟩
abbrev main_v16 : Ref sig .tc := ⟨.hbm, 20, rfl⟩
abbrev main_v17 : Ref sig .tc := ⟨.hbm, 21, rfl⟩
abbrev main_cst_3 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩

abbrev nD : Nat := 1
abbrev τ : Topo := Topo.v7x

variable {F : FTy → Type} [FloatOps F]
-- ==== Proof.Tables.lean ====
/- The rotary tables' call of the idealization: what its run leaves in its two results, and its frame. -/
module

public import proofs.«01_k».proof.Proof.Gen.Kernel8Ideal.Frame.RunA
public import Idealize.ShloMosaic.Lib.Claim
public import Idealize.ShloMosaic.Lib.Pipeline.Value

@[expose] public section

set_option maxRecDepth 16384

noncomputable section

namespace Cert.Kernel8Ideal.Tables

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section run

variable (c : Dev nD) (arg0 : Memref sig .tc .vmem S2048x512 .f32) (harg0 : arg0.IsWhole)
    (arg1 : Memref sig .tc .vmem S2048x512 .f32) (harg1 : arg1.IsWhole) (arg2 : Memref sig .tc .vmem S64x512 .f32) (harg2 : arg2.IsWhole)
    (arg3 : Memref sig .tc .vmem S64x512 .f32) (harg3 : arg3.IsWhole)

/-- The 32 stores into the cosines cover them. -/
theorem cover_cos (y : S2048x512.Idx) : ∃ pc ∈ (kernelRun0_A (F := F) c arg0 harg0 arg1 harg1 arg2 harg2 arg3 harg3).1, y ∈ pc.1.set :=
  View.cover_of_tiledL (kernelRun0_A (F := F) c arg0 harg0 arg1 harg1 arg2 harg2 arg3 harg3).1 S64x512.size (by sl_kernel_rfl) y

/-- The 32 stores into the sines cover them. -/
theorem cover_sin (y : S2048x512.Idx) : ∃ pc ∈ (kernelRun0_A (F := F) c arg0 harg0 arg1 harg1 arg2 harg2 arg3 harg3).2.1, y ∈ pc.1.set :=
  View.cover_of_tiledL (kernelRun0_A (F := F) c arg0 harg0 arg1 harg1 arg2 harg2 arg3 harg3).2.1 S64x512.size (by sl_kernel_rfl) y

/-- What the run leaves in the cosines. -/
def outCos : Vec F S2048x512 .f32 :=
  VO0_0.read (Elt F) (VO0_0.writes (Elt F) VO0_0.junk (kernelRun0_A (F := F) c arg0 harg0 arg1 harg1 arg2 harg2 arg3 harg3).1)

/-- What the run leaves in the sines. -/
def outSin : Vec F S2048x512 .f32 :=
  VO0_1.read (Elt F) (VO0_1.writes (Elt F) VO0_1.junk (kernelRun0_A (F := F) c arg0 harg0 arg1 harg1 arg2 harg2 arg3 harg3).2.1)

end run

/-- The same at a point's memrefs. -/
abbrev atPoint (out : (c : Dev nD) → (arg0 : Memref sig .tc .vmem S2048x512 .f32) → arg0.IsWhole → (arg1 : Memref sig .tc .vmem S2048x512 .f32) →
    arg1.IsWhole → (arg2 : Memref sig .tc .vmem S64x512 .f32) → arg2.IsWhole → (arg3 : Memref sig .tc .vmem S64x512 .f32) → arg3.IsWhole →
    Vec F S2048x512 .f32) (c : Dev nD) (t : Fin cfg0.N) : Vec F S2048x512 .f32 :=
  out c (ms0_0 t) (hs0_0 t) (ms0_1 t) (hs0_1 t) scM0_0 (Memref.isWhole_whole _) scM0_1 (Memref.isWhole_whole _)

/-- The call's data: the results after the body, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => atPoint outCos c t
    | ⟨1, _⟩ => atPoint outSin c t
  Φ _ := Pipeline.ΦA spec0 c
  q _ := fullShare
  owed _ := 0

/-- The arrays are as the call finds them. -/
theorem A_eq (c : Dev nD) (w : Fin cfg0.W) : (dats m 0 c).A w = V m c (Pipeline.arrRef spec0 w) := by
  dsimp only [dats]

/-- The cosines after the body. -/
theorem after_cos (c : Dev nD) (t : Fin cfg0.N) : (dats m 0 c).after 0 t = atPoint outCos c t := by dsimp only [dats]

/-- The sines after the body. -/
theorem after_sin (c : Dev nD) (t : Fin cfg0.N) : (dats m 0 c).after 1 t = atPoint outSin c t := by dsimp only [dats]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at its point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_cos, after_sin]
  rw [show (dats m 0 c).Φ t.castSucc = Pipeline.ΦA spec0 c from rfl, PhiA0_eq]
  unfold atPoint outCos outSin
  iintro ⟨⟨⟨HS0, HS1⟩, Hg⟩, Ho, ⟨%d0, H0⟩, ⟨%d1, H1⟩⟩
  iapply ((kernelRun0_A (F := F) c _ _ _ _ _ _ _ _).2.2 Set.univ _)
  isplitl [H0]; · iexists _; iexact H0
  isplitl [H1]; · iexists _; iexact H1
  isplitl [HS0]; · iexact HS0
  isplitl [HS1]; · iexact HS1
  iintro ⟨⟨%e0, H0⟩, ⟨%e1, H1⟩, HS0, HS1⟩
  isplitl [HS0 HS1 Hg]
  · isplitl [HS0 HS1]
    · isplitl [HS0]
      · iexact HS0
      iexact HS1
    iexact Hg
  isplitl [Ho]; · iexact Ho
  isplitl [H0]
  · unfold owns; iexists _; isplitr
    swap; · iexact H0
    ipureintro; exact View.read_writes_of_cover _ _ _ _ _ (cover_cos c _ _ _ _ _ _ _ _)
  unfold owns; iexists _; isplitr
  swap; · iexact H1
  ipureintro; exact View.read_writes_of_cover _ _ _ _ _ (cover_sin c _ _ _ _ _ _ _ _)

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body does what the call's data say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, every semaphore counter at zero after it. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ _ : Dev nD, True) ∧ r.2.sem = fun _ => 0) :=
  (θ_run defs _ _).mono (fun _ h => ⟨fun _ => trivial, h.2⟩) (run_quiescent m ρ)

/-- The run with the two results after it named. -/
theorem run_blocks : θ_run defs (onTc (τ := τ) (main (F := F))) ⟨m, fun _ => 0, ρ⟩ fun r => ∀ c : Dev nD,
      r.2.mem ((c : Thread nD τ).loc main_v0_0) = (dats m 0 c).arrAt 0 cfg0.N
      ∧ r.2.mem ((c : Thread nD τ).loc main_v0_1) = (dats m 0 c).arrAt 1 cfg0.N :=
  (θ_run defs _ _).mono (fun _ h c => ⟨(h.1 c).1 0, (h.1 c).1 1⟩) (run_quiescent m ρ)

end Cert.Kernel8Ideal.Tables
-- ==== Proof.TablesPieces.lean ====
/- The rotary tables' call: what every store of its loop writes. -/
module

public import proofs.«01_k».proof.Proof.Tables
public import Idealize.ShloMosaic.Lib.Pipeline.ValueKit

@[expose] public section

set_option maxRecDepth 16384

noncomputable section

namespace Cert.Kernel8Ideal.Tables

open Idealize.ShloMosaic Idealize.ShloMosaic.TcCoe Idealize.ShloMosaic.Tactic Idealize.SL.Sem
open Idealize.ShloMosaic.Pipeline (Dat)
open Cert.Kernel8Ideal.Gen

variable {F : FTy → Type} [FloatOps F] [Named F]

section run

variable (c : Dev nD) (arg0 : Memref sig .tc .vmem S2048x512 .f32) (harg0 : arg0.IsWhole)
    (arg1 : Memref sig .tc .vmem S2048x512 .f32) (harg1 : arg1.IsWhole) (arg2 : Memref sig .tc .vmem S64x512 .f32) (harg2 : arg2.IsWhole)
    (arg3 : Memref sig .tc .vmem S64x512 .f32) (harg3 : arg3.IsWhole)
    (X2 : BufTy.Contents (Elt F) arg2.view.ty) (X3 : BufTy.Contents (Elt F) arg3.view.ty)

/-- A trip's store into the cosines: its block, from the loads of the line and of the whole scratch table. -/
theorem trip_cos (k : Fin k0_t1_loop.trips) :
    (trip_k0_t1 (F := F) Variants.none c none arg0 harg0 arg1 harg1 arg2 harg2 arg3 harg3 X2 X3 k).1
      = [⟨Rect.unit (k0_off2 k) S64x512.size (k0_off2_inb k),
          k0_pay6 (View.ld (arg2.view.read (Elt F) X2) (Rect.unit (k0_off1 k) S1x512.size (k0_off1_inb k)))
            (View.ld (arg2.view.read (Elt F) X2) (Rect.unit ![0, 0] S64x512.size inb_S64x512_S64x512_0_0))⟩] := by
  unfold trip_k0_t1
  rfl

/-- A trip's store into the sines. -/
theorem trip_sin (k : Fin k0_t1_loop.trips) :
    (trip_k0_t1 (F := F) Variants.none c none arg0 harg0 arg1 harg1 arg2 harg2 arg3 harg3 X2 X3 k).2.1
      = [⟨Rect.unit (k0_off2 k) S64x512.size (k0_off2_inb k),
          k0_pay7 (View.ld (arg3.view.read (Elt F) X3) (Rect.unit (k0_off1 k) S1x512.size (k0_off1_inb k)))
            (View.ld (arg3.view.read (Elt F) X3) (Rect.unit ![0, 0] S64x512.size inb_S64x512_S64x512_0_0))⟩] := by
  unfold trip_k0_t1
  rfl

/-- Every store of the first `n` trips into the cosines is a trip's. -/
theorem pieces_cos (n : ℕ) (hn : n ≤ k0_t1_loop.trips) :
    ∀ p ∈ (pb_k0_t1 (F := F) Variants.none c none arg0 harg0 arg1 harg1 arg2 harg2 arg3 harg3 X2 X3 n).1, ∃ k,
      p ∈ (trip_k0_t1 (F := F) Variants.none c none arg0 harg0 arg1 harg1 arg2 harg2 arg3 harg3 X2 X3 k).1 := by
  induction n with
  | zero => intro p hp; cases hp
  | succ n ih =>
    intro p hp
    rw [pb_k0_t1_succ (k := ⟨n, hn⟩)] at hp
    rcases List.mem_append.mp hp with h | h
    · exact ⟨_, h⟩
    · exact ih (by omega) p h

/-- Every store of the first `n` trips into the sines is a trip's. -/
theorem pieces_sin (n : ℕ) (hn : n ≤ k0_t1_loop.trips) :
    ∀ p ∈ (pb_k0_t1 (F := F) Variants.none c none arg0 harg0 arg1 harg1 arg2 harg2 arg3 harg3 X2 X3 n).2, ∃ k,
      p ∈ (trip_k0_t1 (F := F) Variants.none c none arg0 harg0 arg1 harg1 arg2 harg2 arg3 harg3 X2 X3 k).2.1 := by
  induction n with
  | zero => intro p hp; cases hp
  | succ n ih =>
    intro p hp
    rw [pb_k0_t1_succ (k := ⟨n, hn⟩)] at hp
    rcases List.mem_append.mp hp with h | h
    · exact ⟨_, h⟩
    · exact ih (by omega) p h

/-- The scratch tables as the loop finds them. -/
theorem scratch_read (a : Memref sig .tc .vmem S64x512 .f32) (P : Vec F S64x512 .f32) :
    a.view.read (Elt F) (a.view.writes (Elt F) a.view.junk
      [⟨Rect.unit ![0, 0] S64x512.size inb_S64x512_S64x512_0_0, P⟩]) = P := by
  funext y
  have hemb : ∀ x, (Rect.unit (s := S64x512) ![0, 0] S64x512.size inb_S64x512_S64x512_0_0).emb x = x := fun x => by
    funext a; refine Fin.ext ?_
    show _ = (x a).val
    refine (Rect.idx_unit_val _ _ _ x a).trans ?_
    fin_cases a <;> simp
  refine View.read_writes_apply_of_pieces a.view _ P _ (fun p hp x => ?_) y ⟨_, List.mem_singleton_self _, ?_⟩
  · obtain rfl := List.mem_singleton.mp hp
    exact congrArg P (hemb x).symm
  · show y ∈ (Rect.unit (s := S64x512) ![0, 0] S64x512.size inb_S64x512_S64x512_0_0).set
    rw [Rect.mem_set_unit]
    intro a
    have h := (y a).isLt
    refine ⟨?_, ?_⟩
    · fin_cases a <;> exact Nat.zero_le _
    · fin_cases a <;> exact lt_of_lt_of_eq h (Nat.zero_add _).symm

theorem run_cos : ∀ p ∈ (kernelRun0_A (F := F) c arg0 harg0 arg1 harg1 arg2 harg2 arg3 harg3).1, ∃ k,
    p = ⟨Rect.unit (k0_off2 k) S64x512.size (k0_off2_inb k),
          k0_pay6 (View.ld (S := S64x512) k0_pay3 (Rect.unit (k0_off1 k) S1x512.size (k0_off1_inb k)))
            (View.ld (S := S64x512) k0_pay3 (Rect.unit ![0, 0] S64x512.size inb_S64x512_S64x512_0_0))⟩ := by
  intro p hp
  unfold kernelRun0_A at hp
  obtain ⟨k, hk⟩ := pieces_cos c arg0 harg0 arg1 harg1 arg2 harg2 arg3 harg3 _ _ _ (le_refl _) p hp
  rw [trip_cos] at hk
  refine ⟨k, (List.mem_singleton.mp hk).trans ?_⟩
  unfold kernelRun0_A.sl.HS0_1
  rw [scratch_read]

theorem run_sin : ∀ p ∈ (kernelRun0_A (F := F) c arg0 harg0 arg1 harg1 arg2 harg2 arg3 harg3).2.1, ∃ k,
    p = ⟨Rect.unit (k0_off2 k) S64x512.size (k0_off2_inb k),
          k0_pay7 (View.ld (S := S64x512) k0_pay4 (Rect.unit (k0_off1 k) S1x512.size (k0_off1_inb k)))
            (View.ld (S := S64x512) k0_pay4 (Rect.unit ![0, 0] S64x512.size inb_S64x512_S64x512_0_0))⟩ := by
  intro p hp
  unfold kernelRun0_A at hp
  obtain ⟨k, hk⟩ := pieces_sin c arg0 harg0 arg1 harg1 arg2 harg2 arg3 harg3 _ _ _ (le_refl _) p hp
  rw [trip_sin] at hk
  refine ⟨k, (List.mem_singleton.mp hk).trans ?_⟩
  unfold kernelRun0_A.sl.HS1_1
  rw [scratch_read]

end run

end Cert.Kernel8Ideal.Tables
-- ==== Proof.TablesRead.lean ====
/- The rotary tables' kernel: one entry of what it computes. -/
module

public import proofs.«01_k».proof.Proof.Gen.Kernel8Ideal.Skeleton
public import proofs.«01_k».proof.Proof.Gen.Reference8Ideal.Read
public import Idealize.ShloMosaic.Lib.Pointwise
public import Idealize.ShloMosaic.Lib.KernelVsHost
public import Idealize.ShloMosaic.Lib.Pipeline.ValueKit

@[expose] public section

set_option maxRecDepth 16384

noncomputable section

namespace Cert.Kernel8Ideal.Tables

open Idealize.ShloMosaic Idealize.ShloMosaic.TcCoe
open Cert.Kernel8Ideal.Gen

open Cert.Reference8Ideal.Read (val_main_v39 val_main_v47 val_main_v30 val_main_v19)

/-- The frequency of pair `p`, written as the kernel takes it: one exponential. -/
def freq (p : ℕ) : ℝ := Real.exp (p * ((-1 / 16) * Real.log 10000))

/-- A small integer converted to a float is that integer. -/
theorem int_float (n : ℕ) (h : n < 4096) :
    (FloatOps.sitofp FTy.f32 (BitVec.ofNat 32 n) : Ideal .f32) = ((n : ℝ) : EReal) := by
  have h1 : (BitVec.ofNat 32 n).toInt = (n : ℤ) := by
    rw [BitVec.toInt_eq_toNat_cond, BitVec.toNat_ofNat, Nat.mod_eq_of_lt (by omega), if_pos (by omega)]
  show (((BitVec.ofNat 32 n).toInt : ℝ) : EReal) = _
  rw [h1]; simp

/-- A column's pair within its half of the head, as the kernel's masks and shift compute it. -/
theorem pair_bits (e : Fin 512) :
    IntOp.shrsi ArithUnit.vector (IntOp.andi (IntOp.andi (BitVec.ofNat 32 e.val) 63#32) 31#32) 1#32
      = BitVec.ofNat 32 (e.val % 32 / 2) := by
  revert e; decide +kernel

/-- Whether a column lies in the half of its head that turns by the row. -/
theorem half_bits (e : Fin 512) :
    IntOp.cmpi CmpIPredicate.slt (IntOp.andi (BitVec.ofNat 32 e.val) 63#32) 32#32
      = if e.val % 64 < 32 then 1#1 else 0#1 := by
  revert e; decide +kernel

/-- Whether a column is the first of its pair. -/
theorem even_bits (e : Fin 512) :
    IntOp.cmpi CmpIPredicate.eq (IntOp.andi (BitVec.ofNat 32 e.val) 1#32) 0#32
      = if e.val % 2 = 0 then 1#1 else 0#1 := by
  revert e; decide +kernel

/-- The angle of coordinate `r` at column `e`: the coordinate times the frequency of the column's pair. -/
theorem angle (r : Fin 64) (e : Fin 512) :
    k0_pay2 (F := Ideal) (ix2 r e) = ((r.val * freq (e.val % 32 / 2) : ℝ) : EReal) := by
  pointwise [k0_pay2, k0_pay1]
  rw [pair_bits, int_float _ (by omega), int_float _ (by omega)]
  have hκ : (Named.named κ "rope_step" 3205717390#32 : Ideal .f32)
      = (((-1 / 16) * (Real.log 10000) : ℝ) : EReal) := rfl
  rw [hκ, ← EReal.coe_mul, Ideal.exp_coe, ← EReal.coe_mul]
  rfl

theorem cos_entry (r : Fin 64) (e : Fin 512) :
    k0_pay3 (F := Ideal) (ix2 r e) = Ideal.cos ((r.val * freq (e.val % 32 / 2) : ℝ) : EReal) := by
  pointwise [k0_pay3]
  rw [angle]

theorem sin_entry (r : Fin 64) (e : Fin 512) :
    k0_pay4 (F := Ideal) (ix2 r e)
      = if e.val % 2 = 0 then 0 - Ideal.sin ((r.val * freq (e.val % 32 / 2) : ℝ) : EReal)
        else Ideal.sin ((r.val * freq (e.val % 32 / 2) : ℝ) : EReal) := by
  pointwise [k0_pay4]
  rw [angle, even_bits]
  by_cases h : e.val % 2 = 0
  · rw [if_pos h, if_pos h]; rfl
  · rw [if_neg h, if_neg h]; rfl

/-- One step's block takes the row's half of a head from the row's line and the rest from the whole table. -/
theorem cos_block (A : Vec Ideal S1x512 .f32) (B : Vec Ideal S64x512 .f32) (r : Fin 64) (e : Fin 512) :
    k0_pay6 (F := Ideal) A B (ix2 r e) = if e.val % 64 < 32 then A (ix2 0 e) else B (ix2 r e) := by
  pointwise [k0_pay6, k0_pay5, k0_pay1]
  rw [half_bits]
  by_cases h : e.val % 64 < 32
  · rw [if_pos h, if_pos h]; rfl
  · rw [if_neg h, if_neg h]; rfl

theorem sin_block (A : Vec Ideal S1x512 .f32) (B : Vec Ideal S64x512 .f32) (r : Fin 64) (e : Fin 512) :
    k0_pay7 (F := Ideal) A B (ix2 r e) = if e.val % 64 < 32 then A (ix2 0 e) else B (ix2 r e) := by
  pointwise [k0_pay7, k0_pay5, k0_pay1]
  rw [half_bits]
  by_cases h : e.val % 64 < 32
  · rw [if_pos h, if_pos h]; rfl
  · rw [if_neg h, if_neg h]; rfl

open Cert.Reference8Ideal.Read in
/-- The reference's frequency, a reciprocal of a power, is the same exponential. -/
theorem ref_freq (p : Fin 16) : val_main_v19 (F := Ideal) (ix1 p) = ((freq p.val : ℝ) : EReal) := by
  pointwise [val_main_v19, val_main_v18, val_main_cst_3, val_main_v17, val_main_v16, val_main_v15,
    val_main_v14, val_main_v13, val_main_v12, val_main_v11, val_main_v10, val_main_v9, val_main_cst,
    val_main_cst_0, val_main_cst_1, val_main_cst_2]
  have h2 : Ideal.ofBits FTy.f32 1073741824#32 = ((2 : ℝ) : EReal) := by
    simp [Ideal.ofBits, Ideal.ieee, -EReal.coe_mul]; norm_num
  have h32 : Ideal.ofBits FTy.f32 1107296256#32 = ((32 : ℝ) : EReal) := by
    simp [Ideal.ofBits, Ideal.ieee, -EReal.coe_mul]; norm_num
  have hb : Ideal.ofBits FTy.f32 1176256512#32 = ((10000 : ℝ) : EReal) := by
    simp [Ideal.ofBits, Ideal.ieee, -EReal.coe_mul]; norm_num
  have hp : Ideal.pow ((10000 : ℝ) : EReal) ((2 * p.val / 32 : ℝ) : EReal)
      = ((Real.rpow 10000 (2 * p.val / 32) : ℝ) : EReal) := rfl
  have hpos : (0 : ℝ) < Real.rpow 10000 (2 * p.val / 32) := Real.rpow_pos_of_pos (by norm_num) _
  have hd : Ideal.div ((2 * p.val : ℝ) : EReal) ((32 : ℝ) : EReal) = ((2 * p.val / 32 : ℝ) : EReal) := by
    rw [Ideal.div_coe (by norm_num : (32 : ℝ) ≠ 0), ← EReal.coe_mul, mul_one_div]
  rw [h2, h32, hb, int_float _ (by omega), ← EReal.coe_mul, hd, hp, Ideal.div_coe hpos.ne', one_mul]
  congr 1
  show 1 / ((10000 : ℝ) ^ ((2 * p.val / 32 : ℝ))) = _
  rw [Real.rpow_def_of_pos (by norm_num), one_div, ← Real.exp_neg, freq]
  congr 1; ring

open Cert.Reference8Ideal.Read in
/-- The reference's angles by the row. -/
theorem ref_row (r : Fin 2048) (p : Fin 16) :
    val_main_v24 (F := Ideal) (ix2 r p) = (((r.val / 64 : ℕ) * freq p.val : ℝ) : EReal) := by
  pointwise [val_main_v24, val_main_v23, val_main_v22, val_main_v21, val_main_v20, val_main_v8,
    val_main_v7, val_main_v6, val_main_v5, val_main_v4, val_main_v3, val_main_v2, val_main_v1, val_main_v0]
  rw [ref_freq, int_float _ (by omega), ← EReal.coe_mul]

open Cert.Reference8Ideal.Read in
/-- The reference's angles by the column. -/
theorem ref_column (r : Fin 2048) (p : Fin 16) :
    val_main_v29 (F := Ideal) (ix2 r p) = (((r.val % 64 : ℕ) * freq p.val : ℝ) : EReal) := by
  pointwise [val_main_v29, val_main_v28, val_main_v27, val_main_v26, val_main_v25, val_main_v8,
    val_main_v7, val_main_v6, val_main_v5, val_main_v4, val_main_v3, val_main_v2, val_main_v1, val_main_v0]
  rw [ref_freq, int_float _ (by omega), ← EReal.coe_mul]

open Cert.Reference8Ideal.Read in
/-- The reference's angles: the row's for the first half, the column's for the second. -/
theorem ref_angle (r : Fin 2048) (j : Fin 32) :
    val_main_v30 (F := Ideal) (ix2 r j)
      = (((if j.val < 16 then r.val / 64 else r.val % 64 : ℕ) * freq (j.val % 16) : ℝ) : EReal) := by
  pointwise [val_main_v30]
  by_cases h : j.val < 16
  · rw [dif_pos h, if_pos h, Nat.mod_eq_of_lt h]
    exact ref_row r ⟨j.val, h⟩
  · have h16 : j.val % 16 = j.val - 16 := by omega
    rw [dif_neg h, if_neg h, h16]
    exact ref_column r ⟨j.val - 16, by omega⟩

/-- The real angle of row `r` of the tables at column `e`. -/
def turn (r : Fin 2048) (e : Fin 512) : ℝ :=
  (if e.val % 64 < 32 then r.val / 64 else r.val % 64 : ℕ) * freq (e.val % 32 / 2)

/-- The reference's angle at a column's pair is that real angle. -/
theorem ref_turn (r : Fin 2048) (e : Fin 512) (h : e.val % 64 / 2 < 32) :
    val_main_v30 (F := Ideal) (ix2 r ⟨e.val % 64 / 2, h⟩) = ((turn r e : ℝ) : EReal) := by
  rw [ref_angle]
  have h1 : e.val % 64 / 2 % 16 = e.val % 32 / 2 := by omega
  have h2 : (e.val % 64 / 2 < 16) = (e.val % 64 < 32) := propext (by omega)
  simp only [h1, h2, turn]

open Cert.Reference8Ideal.Read in
theorem ref_cos (r : Fin 2048) (e : Fin 512) :
    val_main_v39 (F := Ideal) (ix2 r e) = Ideal.cos ((turn r e : ℝ) : EReal) := by
  pointwise [val_main_v39, val_main_v38, val_main_v37, val_main_v36, val_main_v35, val_main_v34,
    val_main_v33, val_main_v31]
  by_cases h : e.val % 64 % 2 < 1
  · rw [dif_pos h]; exact congrArg Ideal.cos (ref_turn r e (by omega))
  · rw [dif_neg h]; exact congrArg Ideal.cos (ref_turn r e (by omega))

open Cert.Reference8Ideal.Read in
theorem ref_sin (r : Fin 2048) (e : Fin 512) :
    val_main_v47 (F := Ideal) (ix2 r e)
      = if e.val % 2 = 0 then 0 - Ideal.sin ((turn r e : ℝ) : EReal)
        else Ideal.sin ((turn r e : ℝ) : EReal) := by
  pointwise [val_main_v47, val_main_v46, val_main_v45, val_main_v44, val_main_v43, val_main_v42,
    val_main_v41, val_main_v40, val_main_v32]
  by_cases h : e.val % 64 % 2 < 1
  · rw [dif_pos h, if_pos (show e.val % 2 = 0 by omega), zero_sub]
    exact congrArg (fun a => -Ideal.sin a) (ref_turn r e (by omega))
  · rw [dif_neg h, if_neg (show ¬e.val % 2 = 0 by omega)]; exact congrArg Ideal.sin (ref_turn r e (by omega))

end Cert.Kernel8Ideal.Tables
-- ==== Proof.TablesFinal.lean ====
/- The rotary tables' call: both results after the run are the reference's. -/
module

public import proofs.«01_k».proof.Proof.TablesPieces
public import proofs.«01_k».proof.Proof.TablesRead

@[expose] public section

set_option maxRecDepth 16384

noncomputable section

namespace Cert.Kernel8Ideal.Tables

open Idealize.ShloMosaic Idealize.ShloMosaic.TcCoe Idealize.ShloMosaic.Tactic Idealize.SL.Sem
open Idealize.ShloMosaic.Pipeline (Dat)
open Cert.Kernel8Ideal.Gen

/-- The reference's two tables. -/
abbrev wantCos : Vec Ideal S2048x512 .f32 := Cert.Reference8Ideal.Read.val_main_v39 (F := Ideal)
abbrev wantSin : Vec Ideal S2048x512 .f32 := Cert.Reference8Ideal.Read.val_main_v47 (F := Ideal)

/-- Where a step reads its line and writes its block. -/
theorem offsets : ∀ k : Fin k0_t1_loop.trips, k.val < 32 ∧ k0_off1 k = ![k.val, 0] ∧ k0_off2 k = ![64 * k.val, 0] := by
  decide +kernel

/-- The line a step loads from a scratch table. -/
theorem line (P : Vec Ideal S64x512 .f32) (k : Fin k0_t1_loop.trips) (e : Fin 512) (K : Fin 64) (hK : K.val = k.val) :
    View.ld P (Rect.unit (k0_off1 k) S1x512.size (k0_off1_inb k)) (ix2 (0 : Fin 1) e) = P (ix2 K e) :=
  View.ld_unit_apply_of P _ _ _ _ _ fun a => by
    refine Eq.trans ?_ (congrArg (· + _) (congrFun (offsets k).2.1 a).symm)
    match a with
    | ⟨0, _⟩ => exact hK
    | ⟨1, _⟩ => exact (Nat.zero_add _).symm

/-- The whole scratch table. -/
theorem whole (P : Vec Ideal S64x512 .f32) (r : Fin 64) (e : Fin 512) :
    View.ld P (Rect.unit ![0, 0] S64x512.size inb_S64x512_S64x512_0_0) (ix2 r e) = P (ix2 r e) :=
  View.ld_unit_apply_of P _ _ _ _ _ fun a => by
    match a with
    | ⟨0, _⟩ => exact (Nat.zero_add _).symm
    | ⟨1, _⟩ => exact (Nat.zero_add _).symm

/-- The index a step's block has in the table. -/
theorem place (k : Fin k0_t1_loop.trips) (r : Fin 64) (e : Fin 512) (R : Fin 2048) (hR : R.val = 64 * k.val + r.val) :
    (Rect.unit (s := S2048x512) (k0_off2 k) S64x512.size (k0_off2_inb k)).emb (ix2 r e) = ix2 R e := by
  funext a
  refine Fin.ext ?_
  refine (Rect.idx_unit_val (s := S2048x512) (k0_off2 k) S64x512.size (k0_off2_inb k) (ix2 r e) a).trans ?_
  refine (congrArg (· + _) (congrFun (offsets k).2.2 a)).trans ?_
  match a with
  | ⟨0, _⟩ => exact hR.symm
  | ⟨1, _⟩ => exact Nat.zero_add _

/-- A row's real angle, by the step and the line. -/
theorem turn_eq (R : Fin 2048) (e : Fin 512) (K r : Fin 64) (hR : R.val = 64 * K.val + r.val) :
    (if e.val % 64 < 32 then ((K.val * freq (e.val % 32 / 2) : ℝ) : EReal) else ((r.val * freq (e.val % 32 / 2) : ℝ) : EReal))
      = ((turn R e : ℝ) : EReal) := by
  have h1 : R.val / 64 = K.val := by omega
  have h2 : R.val % 64 = r.val := by omega
  unfold turn
  rw [h1, h2]
  split <;> rfl

/-- A step's block of the cosines is the reference's. -/
theorem block_cos (k : Fin k0_t1_loop.trips) (x : S64x512.Idx) :
    k0_pay6 (F := Ideal) (View.ld (S := S64x512) (k0_pay3 (F := Ideal)) (Rect.unit (k0_off1 k) S1x512.size (k0_off1_inb k)))
        (View.ld (S := S64x512) (k0_pay3 (F := Ideal)) (Rect.unit ![0, 0] S64x512.size inb_S64x512_S64x512_0_0)) x
      = wantCos ((Rect.unit (s := S2048x512) (k0_off2 k) S64x512.size (k0_off2_inb k)).emb x) := by
  obtain ⟨r, e, rfl⟩ : ∃ (r : Fin 64) (e : Fin 512), x = ix2 r e := ⟨x 0, x 1, eq_ix2 x⟩
  have hk := (offsets k).1
  rw [place k r e ⟨64 * k.val + r.val, by omega⟩ rfl]
  refine Eq.trans ?_ (ref_cos _ _).symm
  rw [← turn_eq _ e ⟨k.val, by omega⟩ r rfl]
  refine (cos_block _ _ r e).trans ?_
  rw [line _ k e ⟨k.val, by omega⟩ rfl, whole, cos_entry, cos_entry]
  exact (apply_ite Ideal.cos _ _ _).symm

/-- A step's block of the signed sines is the reference's. -/
theorem block_sin (k : Fin k0_t1_loop.trips) (x : S64x512.Idx) :
    k0_pay7 (F := Ideal) (View.ld (S := S64x512) (k0_pay4 (F := Ideal)) (Rect.unit (k0_off1 k) S1x512.size (k0_off1_inb k)))
        (View.ld (S := S64x512) (k0_pay4 (F := Ideal)) (Rect.unit ![0, 0] S64x512.size inb_S64x512_S64x512_0_0)) x
      = wantSin ((Rect.unit (s := S2048x512) (k0_off2 k) S64x512.size (k0_off2_inb k)).emb x) := by
  obtain ⟨r, e, rfl⟩ : ∃ (r : Fin 64) (e : Fin 512), x = ix2 r e := ⟨x 0, x 1, eq_ix2 x⟩
  have hk := (offsets k).1
  rw [place k r e ⟨64 * k.val + r.val, by omega⟩ rfl]
  refine Eq.trans ?_ (ref_sin _ _).symm
  rw [← turn_eq _ e ⟨k.val, by omega⟩ r rfl]
  refine (sin_block _ _ r e).trans ?_
  rw [line _ k e ⟨k.val, by omega⟩ rfl, whole, sin_entry, sin_entry]
  exact (apply_ite (fun a => if e.val % 2 = 0 then 0 - Ideal.sin a else Ideal.sin a) _ _ _).symm

section run

variable (c : Dev nD) (arg0 : Memref sig .tc .vmem S2048x512 .f32) (harg0 : arg0.IsWhole)
    (arg1 : Memref sig .tc .vmem S2048x512 .f32) (harg1 : arg1.IsWhole) (arg2 : Memref sig .tc .vmem S64x512 .f32) (harg2 : arg2.IsWhole)
    (arg3 : Memref sig .tc .vmem S64x512 .f32) (harg3 : arg3.IsWhole)

/-- What the run leaves in the cosines is the reference's table. -/
theorem outCos_eq : outCos (F := Ideal) c arg0 harg0 arg1 harg1 arg2 harg2 arg3 harg3 = wantCos := by
  funext y
  refine View.read_writes_apply_of_pieces VO0_0 _ wantCos _ (fun p hp => ?_) y (cover_cos c arg0 harg0 arg1 harg1 arg2 harg2 arg3 harg3 y)
  obtain ⟨k, rfl⟩ := run_cos c arg0 harg0 arg1 harg1 arg2 harg2 arg3 harg3 p hp
  exact block_cos k

/-- What the run leaves in the sines is the reference's table. -/
theorem outSin_eq : outSin (F := Ideal) c arg0 harg0 arg1 harg1 arg2 harg2 arg3 harg3 = wantSin := by
  funext y
  refine View.read_writes_apply_of_pieces VO0_1 _ wantSin _ (fun p hp => ?_) y (cover_sin c arg0 harg0 arg1 harg1 arg2 harg2 arg3 harg3 y)
  obtain ⟨k, rfl⟩ := run_sin c arg0 harg0 arg1 harg1 arg2 harg2 arg3 harg3 p hp
  exact block_sin k

end run

variable (m : (ℓ : Loc nD τ sig) → Buf (Elt Ideal) ℓ)

/-- Each result's one block is the whole array. -/
theorem idx : ∀ t : Fin cfg0.N, win0_0.index t = ![0, 0] ∧ win0_1.index t = ![0, 0] :=
  (by decide +kernel : ∀ t : Fin grid0.N, _)

/-- The cosines after the run. -/
theorem final_cos (c : Dev nD) : (dats m 0 c).arrAt 0 (cfgs 0).N = wantCos := by
  refine (dats m 0 c).arrAt_eq_of_covers 0 _ (by decide +kernel) fun t _ y => ?_
  blk_simp
  rw [after_cos]
  unfold atPoint
  rw [outCos_eq]
  refine congrArg wantCos (funext fun a => Fin.ext ?_)
  match a with
  | ⟨0, _⟩ => blk_simp [idx t] <;> omega
  | ⟨1, _⟩ => blk_simp [idx t] <;> omega

/-- The signed sines after the run. -/
theorem final_sin (c : Dev nD) : (dats m 0 c).arrAt 1 (cfgs 0).N = wantSin := by
  refine (dats m 0 c).arrAt_eq_of_covers 1 _ (by decide +kernel) fun t _ y => ?_
  blk_simp
  rw [after_sin]
  unfold atPoint
  rw [outSin_eq]
  refine congrArg wantSin (funext fun a => Fin.ext ?_)
  match a with
  | ⟨0, _⟩ => blk_simp [idx t] <;> omega
  | ⟨1, _⟩ => blk_simp [idx t] <;> omega

end Cert.Kernel8Ideal.Tables
-- ==== Proof.Heads.lean ====
/- What one head of the attention leaves in its 128 columns of the output block, as a function of the blocks it reads:
   the scores against the 2048 latent keys and the 512 cached keys of the two components, their weights (with or without
   the subtracted row maximum), the weighted values, the row normalisation and the gate. Every head computes this function
   of its own columns. -/
module

public import proofs.«01_k».proof.Proof.Gen.KernelIdeal.Skeleton
public import Idealize.ShloMosaic.Lib.Pipeline.FrameBody

@[expose] public section

noncomputable section

namespace Cert.KernelIdeal.Attn

open Idealize.ShloMosaic Idealize.ShloMosaic.TcCoe
open Cert.KernelIdeal.Gen

variable {F : FTy → Type} [FloatOps F]

/-! ## The columns of a head -/

/-- The 64 columns of unit `j` (head `j / 2`, component `j % 2`) of the query block. -/
abbrev qRect (j : Fin 8) : Rect S512x512 :=
  Rect.unit (s := S512x512) ![0, 64 * j.val] S512x64.size (by fin_cases j <;> decide)

/-- The 64 columns of unit `j` of the latent keys. -/
abbrev kRect (j : Fin 8) : Rect S2048x512 :=
  Rect.unit (s := S2048x512) ![0, 64 * j.val] S2048x64.size (by fin_cases j <;> decide)

/-- The 64 columns of unit `j` of the cached keys. -/
abbrev ckRect (j : Fin 8) : Rect S1x1x512x512 :=
  Rect.unit (s := S1x1x512x512) ![0, 0, 0, 64 * j.val] S1x1x512x64.size (by fin_cases j <;> decide)

/-- The 128 columns of head `h` of the latent values. -/
abbrev vRect (h : Fin 4) : Rect S2048x512 :=
  Rect.unit (s := S2048x512) ![0, 128 * h.val] S2048x128.size (by fin_cases h <;> decide)

/-- The 128 columns of head `h` of the cached values. -/
abbrev cvRect (h : Fin 4) : Rect S1x1x512x512 :=
  Rect.unit (s := S1x1x512x512) ![0, 0, 0, 128 * h.val] S1x1x512x128.size (by fin_cases h <;> decide)

/-- The 128 columns of head `h` of the gate block and of the output block. -/
abbrev oRect (h : Fin 4) : Rect S512x512 :=
  Rect.unit (s := S512x512) ![0, 128 * h.val] S512x128.size (by fin_cases h <;> decide)

/-- The whole block of lambda vectors. -/
abbrev lamRect : Rect S2x64 := Rect.unit (s := S2x64) ![0, 0] S2x64.size (by decide)

/-- The whole row of the normalisation's weights. -/
abbrev gRect : Rect S1x128 := Rect.unit (s := S1x128) ![0, 0] S1x128.size (by decide)

/-! ## One head -/

/-- The scores of a query block against the latent keys. -/
def scoresK (q : Vec F S512x64 .bf16) (k : Vec F S2048x64 .bf16) : FVec F S512x2048 .f32 :=
  matmul dot_S512x64_S2048x64_S512x2048_1_1_0_0_n_n none (shapeCast S512x64 q shapeCasts_S512x64_S512x64)
    (shapeCast S2048x64 k shapeCasts_S2048x64_S2048x64) (constant S512x2048 .f32 0x00000000#32)

/-- The scores of a query block against the cached keys. -/
def scoresC (q : Vec F S512x64 .bf16) (k : Vec F S1x1x512x64 .f32) : FVec F S512x512 .f32 :=
  matmul dot_S512x64_S512x64_S512x512_1_1_0_0_n_n none (shapeCast S512x64 q shapeCasts_S512x64_S512x64)
    (truncf .bf16 (shapeCast S512x64 k shapeCasts_S1x1x512x64_S512x64) bitsLt_bf16_f32) (constant S512x512 .f32 0x00000000#32)

/-- The sum of a row's weights over latent and cached keys. -/
def rowSum (e : FVec F S512x2048 .f32) (ec : FVec F S512x512 .f32) : FVec F S512x1 .f32 :=
  addf (shapeCast S512x1 (multiReduction .add [1] S512 e 0x00000000#32 reduces_S512x2048_S512 (.inl rfl) rfl) shapeCasts_S512_S512x1)
    (shapeCast S512x1 (multiReduction .add [1] S512 ec 0x00000000#32 reduces_S512x512_S512 (.inl rfl) rfl) shapeCasts_S512_S512x1)

/-- The largest score of a row over latent and cached keys. -/
def rowMax (s : FVec F S512x2048 .f32) (sc : FVec F S512x512 .f32) : FVec F S512x1 .f32 :=
  maximumf (shapeCast S512x1 (multiReduction .maximumf [1] S512 s 0xFF800000#32 reduces_S512x2048_S512 (.inl rfl) rfl) shapeCasts_S512_S512x1)
    (shapeCast S512x1 (multiReduction .maximumf [1] S512 sc 0xFF800000#32 reduces_S512x512_S512 (.inl rfl) rfl) shapeCasts_S512_S512x1)

/-- The latent keys' weights less the row maximum. -/
def shiftK (s : FVec F S512x2048 .f32) (mx : FVec F S512x1 .f32) : FVec F S512x2048 .f32 :=
  exp2 (subf s (broadcastTo S512x2048 mx broadcasts_S512x1_S512x2048))

/-- The cached keys' weights less the row maximum. -/
def shiftC (s : FVec F S512x512 .f32) (mx : FVec F S512x1 .f32) : FVec F S512x512 .f32 :=
  exp2 (subf s (broadcastTo S512x512 mx broadcasts_S512x1_S512x512))

/-- The factor of the second component's weights: lambda times the quotient of the two row sums. -/
def ratio (lam : FVec F S1x1 .f32) (d1 d2 : FVec F S512x1 .f32) : FVec F S512x1 .f32 :=
  divf (mulf (broadcastTo S512x1 lam broadcasts_S1x1_S512x1) d1) d2

/-- The weighted values of a head, over latent and cached keys, divided by the first component's row sum. -/
def weighted (e1 : FVec F S512x2048 .f32) (c1 : FVec F S512x512 .f32) (d1 : FVec F S512x1 .f32) (e2 : FVec F S512x2048 .f32)
    (c2 : FVec F S512x512 .f32) (r : FVec F S512x1 .f32) (v : Vec F S2048x128 .bf16) (cv : Vec F S1x1x512x128 .f32) : FVec F S512x128 .f32 :=
  mulf (addf
      (matmul dot_S512x2048_S2048x128_S512x128_1_0_0_1_n_n none
        (truncf .bf16 (subf e1 (mulf e2 (broadcastTo S512x2048 r broadcasts_S512x1_S512x2048))) bitsLt_bf16_f32)
        (shapeCast S2048x128 v shapeCasts_S2048x128_S2048x128) (constant S512x128 .f32 0x00000000#32))
      (matmul dot_S512x512_S512x128_S512x128_1_0_0_1_n_n none
        (truncf .bf16 (subf c1 (mulf c2 (broadcastTo S512x512 r broadcasts_S512x1_S512x512))) bitsLt_bf16_f32)
        (truncf .bf16 (shapeCast S512x128 cv shapeCasts_S1x1x512x128_S512x128) bitsLt_bf16_f32) (constant S512x128 .f32 0x00000000#32)))
    (broadcastTo S512x128 (divf (broadcast S512x1 (Scalar.ofBits .f32 0x3F800000#32)) d1) broadcasts_S512x1_S512x128)

/-- The row normalisation and the gate. -/
def gated (o : FVec F S512x128 .f32) (g : Vec F S1x128 .f32) (z : Vec F S512x128 .bf16) : FVec F S512x128 .bf16 :=
  truncf .bf16 (mulf
    (mulf (mulf (mulf o (broadcastTo S512x128 (rsqrt (addf
        (divf (shapeCast S512x1 (multiReduction .add [1] S512 (mulf o o) 0x00000000#32 reduces_S512x128_S512 (.inl rfl) rfl) shapeCasts_S512_S512x1)
          (broadcast S512x1 (Scalar.ofBits .f32 0x43000000#32)))
        (broadcast S512x1 (Scalar.ofBits .f32 0x358637BD#32)))) broadcasts_S512x1_S512x128))
      (broadcastTo S512x128 (shapeCast S1x128 g shapeCasts_S1x128_S1x128) broadcasts_S1x128_S512x128))
      (broadcast S512x128 (Scalar.ofBits .f32 0x3F24FD5C#32)))
    (extf .f32 (shapeCast S512x128 z shapeCasts_S512x128_S512x128) bitsLt_bf16_f32)) bitsLt_bf16_f32

/-- A head from its weights. -/
def finish (lam : FVec F S1x1 .f32) (e1 : FVec F S512x2048 .f32) (c1 : FVec F S512x512 .f32) (e2 : FVec F S512x2048 .f32)
    (c2 : FVec F S512x512 .f32) (v : Vec F S2048x128 .bf16) (cv : Vec F S1x1x512x128 .f32) (g : Vec F S1x128 .f32)
    (z : Vec F S512x128 .bf16) : FVec F S512x128 .bf16 :=
  gated (weighted e1 c1 (rowSum e1 c1) e2 c2 (ratio lam (rowSum e1 c1) (rowSum e2 c2)) v cv) g z

/-- A head from its scores, the scores small: the weights are the powers of two of the scores. -/
def rawHead (lam : FVec F S1x1 .f32) (s1 : FVec F S512x2048 .f32) (t1 : FVec F S512x512 .f32) (s2 : FVec F S512x2048 .f32)
    (t2 : FVec F S512x512 .f32) (v : Vec F S2048x128 .bf16) (cv : Vec F S1x1x512x128 .f32) (g : Vec F S1x128 .f32)
    (z : Vec F S512x128 .bf16) : FVec F S512x128 .bf16 :=
  finish lam (exp2 s1) (exp2 t1) (exp2 s2) (exp2 t2) v cv g z

/-- A head from its scores, the row maximum subtracted first. -/
def shiftHead (lam : FVec F S1x1 .f32) (s1 : FVec F S512x2048 .f32) (t1 : FVec F S512x512 .f32) (s2 : FVec F S512x2048 .f32)
    (t2 : FVec F S512x512 .f32) (v : Vec F S2048x128 .bf16) (cv : Vec F S1x1x512x128 .f32) (g : Vec F S1x128 .f32)
    (z : Vec F S512x128 .bf16) : FVec F S512x128 .bf16 :=
  finish lam (shiftK s1 (rowMax s1 t1)) (shiftC t1 (rowMax s1 t1)) (shiftK s2 (rowMax s2 t2)) (shiftC t2 (rowMax s2 t2)) v cv g z

/-- Which of the two a branch runs. -/
def headOf (raw : Bool) (lam : FVec F S1x1 .f32) (s1 : FVec F S512x2048 .f32) (t1 : FVec F S512x512 .f32) (s2 : FVec F S512x2048 .f32)
    (t2 : FVec F S512x512 .f32) (v : Vec F S2048x128 .bf16) (cv : Vec F S1x1x512x128 .f32) (g : Vec F S1x128 .f32)
    (z : Vec F S512x128 .bf16) : FVec F S512x128 .bf16 :=
  match raw with
  | true => rawHead lam s1 t1 s2 t2 v cv g z
  | false => shiftHead lam s1 t1 s2 t2 v cv g z

/-- Head `h` of a grid point, of the point's input blocks. -/
def headAt (raw : Bool) (h : Fin 4) (x0 : Vec F S512x512 .bf16) (x1 : Vec F S2048x512 .bf16) (x2 : Vec F S2048x512 .bf16)
    (x3 : Vec F S512x512 .bf16) (x4 x5 : Vec F S2x64 .f32) (x6 : Vec F S1x128 .f32)
    (x8 x9 : Vec F S1x1x512x512 .f32) : Vec F S512x128 .bf16 :=
  headOf raw (k0_pay1 (View.ld x4 lamRect) (View.ld x5 lamRect))
    (scoresK (View.ld x0 (qRect ⟨2 * h.val, by omega⟩)) (View.ld x1 (kRect ⟨2 * h.val, by omega⟩)))
    (scoresC (View.ld x0 (qRect ⟨2 * h.val, by omega⟩)) (View.ld x8 (ckRect ⟨2 * h.val, by omega⟩)))
    (scoresK (View.ld x0 (qRect ⟨2 * h.val + 1, by omega⟩)) (View.ld x1 (kRect ⟨2 * h.val + 1, by omega⟩)))
    (scoresC (View.ld x0 (qRect ⟨2 * h.val + 1, by omega⟩)) (View.ld x8 (ckRect ⟨2 * h.val + 1, by omega⟩)))
    (View.ld x2 (vRect h)) (View.ld x9 (cvRect h)) (View.ld x6 gRect) (View.ld x3 (oRect h))

/-- The four heads' stores, the last first. -/
def stores (raw : Bool) (x0 : Vec F S512x512 .bf16) (x1 : Vec F S2048x512 .bf16) (x2 : Vec F S2048x512 .bf16)
    (x3 : Vec F S512x512 .bf16) (x4 x5 : Vec F S2x64 .f32) (x6 : Vec F S1x128 .f32)
    (x8 x9 : Vec F S1x1x512x512 .f32) : List (View.Piece (Elt F) S512x512 .bf16) :=
  [⟨oRect 3, headAt raw 3 x0 x1 x2 x3 x4 x5 x6 x8 x9⟩, ⟨oRect 2, headAt raw 2 x0 x1 x2 x3 x4 x5 x6 x8 x9⟩,
   ⟨oRect 1, headAt raw 1 x0 x1 x2 x3 x4 x5 x6 x8 x9⟩, ⟨oRect 0, headAt raw 0 x0 x1 x2 x3 x4 x5 x6 x8 x9⟩]

end Cert.KernelIdeal.Attn
-- ==== Proof.Run.lean ====
/- The body's run at one grid point: whichever branch the score bound picks, the body reads its input blocks and leaves
   the four heads' stores in the output block. -/
module

public import proofs.«01_k».proof.Proof.Heads
public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The word the body reads from the table of score bounds. -/
def boundWord (i : grid0.Coords) (x7 : Vec F S2x4 .f32) : F .f32 :=
  View.ld x7 (Rect.unit (s := S2x4) (k0_off1 i) S1x1.size (k0_off1_inb i)) (Shape.Idx.first (show 0 < S1x1.numel by decide))

/-- The comparison's bit: the scores are small. -/
def smallBit (i : grid0.Coords) (x7 : Vec F S2x4 .f32) : BitVec 1 :=
  Scalar.cmpf .ole (boundWord i x7) (Scalar.ofBits .f32 0x45610000#32)

/-- The output block after the body. -/
def outBlock (i : grid0.Coords) (x0 : Vec F S512x512 .bf16) (x1 : Vec F S2048x512 .bf16) (x2 : Vec F S2048x512 .bf16) (x3 : Vec F S512x512 .bf16) (x4 : Vec F S2x64 .f32) (x5 : Vec F S2x64 .f32) (x6 : Vec F S1x128 .f32) (x7 : Vec F S2x4 .f32) (x8 : Vec F S1x1x512x512 .f32) (x9 : Vec F S1x1x512x512 .f32) : Vec F S512x512 .bf16 :=
  View.canon (stores (decide (smallBit i x7 = 1#1)) x0 x1 x2 x3 x4 x5 x6 x8 x9)

/-- The four heads' columns are all the columns. -/
theorem stores_cover (p3 p2 p1 p0 : Vec F S512x128 .bf16) (y : S512x512.Idx) :
    ∃ p ∈ ([⟨oRect 3, p3⟩, ⟨oRect 2, p2⟩, ⟨oRect 1, p1⟩, ⟨oRect 0, p0⟩] : List (View.Piece (Elt F) S512x512 .bf16)), y ∈ p.1.set :=
  View.cover_of_tiled [⟨oRect 3, p3⟩, ⟨oRect 2, p2⟩, ⟨oRect 1, p1⟩, ⟨oRect 0, p0⟩] S512x128.size (by rfl) y

set_option maxHeartbeats 4000000 in
/-- The body's triple: the inputs' buffers are as they were, the output's holds the heads. -/
theorem sound_kernel (c : Dev nD) (E : Set ℕ) (i : grid0.Coords) (arg2 : Memref sig .tc .vmem S512x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x512 .bf16) (harg5 : arg5.IsWhole) (arg6 : Memref sig .tc .vmem S2x64 .f32) (harg6 : arg6.IsWhole) (arg7 : Memref sig .tc .vmem S2x64 .f32) (harg7 : arg7.IsWhole) (arg8 : Memref sig .tc .vmem S1x128 .f32) (harg8 : arg8.IsWhole) (arg9 : Memref sig .tc .smem S2x4 .f32) (harg9 : arg9.IsWhole) (arg10 : Memref sig .tc .vmem S1x1x512x512 .f32) (harg10 : arg10.IsWhole) (arg11 : Memref sig .tc .vmem S1x1x512x512 .f32) (harg11 : arg11.IsWhole) (arg12 : Memref sig .tc .vmem S512x512 .bf16) (harg12 : arg12.IsWhole)
    (x0 : Vec F S512x512 .bf16) (x1 : Vec F S2048x512 .bf16) (x2 : Vec F S2048x512 .bf16) (x3 : Vec F S512x512 .bf16) (x4 : Vec F S2x64 .f32) (x5 : Vec F S2x64 .f32) (x6 : Vec F S1x128 .f32) (x7 : Vec F S2x4 .f32) (x8 : Vec F S1x1x512x512 .f32) (x9 : Vec F S1x1x512x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outBlock i x0 x1 x2 x3 x4 x5 x6 x7 x8 x9)) -∗ K ⟨⟩))
      ⊢ wp frame (wpE (defs₀ (F := F)) Variants.none c none) E (cc0_diff_attn_2048 i arg2 harg2 arg3 harg3 arg4 harg4 arg5 harg5 arg6 harg6 arg7 harg7 arg8 harg8 arg9 harg9 arg10 harg10 arg11 harg11 arg12 harg12) K := by
  simp only [cc0_diff_attn_2048_eq_skeleton]; unfold cc0_diff_attn_2048_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  have hb : smallBit i (arg9.view.read (Elt F) f7) = 0#1 ∨ smallBit i (arg9.view.read (Elt F) f7) = 1#1 := by
    generalize smallBit i (arg9.view.read (Elt F) f7) = b
    revert b; decide
  rcases hb with hb | hb
  · refine (congrArg (arg12.view.read (Elt F)) (dif_pos (show Scalar.cmpi CmpIPredicate.ne (Scalar.extui (Scalar.xori (smallBit i (arg9.view.read (Elt F) f7)) 1#1)) 0#32 = 1#1 by
        rw [hb]; decide))).trans ?_
    refine (View.read_writes_eq_canon _ _ _ (stores_cover _ _ _ _)).trans ?_
    unfold outBlock
    rw [hb]
    rfl
  · refine (congrArg (arg12.view.read (Elt F)) (dif_neg (show ¬ Scalar.cmpi CmpIPredicate.ne (Scalar.extui (Scalar.xori (smallBit i (arg9.view.read (Elt F) f7)) 1#1)) 0#32 = 1#1 by
        rw [hb]; decide))).trans ?_
    refine (congrArg (arg12.view.read (Elt F)) (dif_pos (show Scalar.cmpi CmpIPredicate.ne (Scalar.extui (smallBit i (arg9.view.read (Elt F) f7))) 0#32 = 1#1 by
        rw [hb]; decide))).trans ?_
    refine (View.read_writes_eq_canon _ _ _ (stores_cover _ _ _ _)).trans ?_
    unfold outBlock
    rw [hb]
    rfl

end Cert.KernelIdeal.Attn
-- ==== Proof.Launch.lean ====
/- The launch: what each staging buffer holds before and after the body, the body's obligation at every grid point, the run
   of the whole program, and the claim that the arguments end unchanged. -/
module

public import proofs.«01_k».proof.Proof.Run
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block of grid point `t`, of the arrays' blocks there. -/
def outAt (c : Dev nD) (t : Fin cfg0.N) : Vec F S512x512 .bf16 :=
  outBlock (grid0.coords t) (iblk m c 0 t) (iblk m c 1 t) (iblk m c 2 t) (iblk m c 3 t) (iblk m c 4 t) (iblk m c 5 t) (iblk m c 6 t) (iblk m c 7 t) (iblk m c 8 t) (iblk m c 9 t)

/-- The proof data: inputs stay at their blocks, the output's buffer holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q w := Pipeline.shareOf spec0 w
  owed _ := 0

/-- The data's arrays are those the region finds. -/
theorem A_eq (c : Dev nD) (w : Fin cfg0.W) : (dats m 0 c).A w = V m c (Pipeline.arrRef spec0 w) := by
  dsimp only [dats]

/-! What the body leaves in each buffer. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t := by dsimp only [dats]

/-! What the body finds in each input buffer. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- The resources the body is entered with at point `t`. -/
def entry (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- The resources it leaves. -/
def exit (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point, by `sound_kernel` on the point's blocks. -/
theorem sound_point (c : Dev nD) (t : Fin cfg0.N) :
    entry m c t ⊢ wp frame (wpE (defs₀ (F := F)) Variants.none c none) Set.univ (bodyAt0 t) (fun _ => exit m c t) := by
  unfold entry exit bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at the point's slots. -/
theorem row_eq (t : Fin cfg0.N) : defs₀ (F := F) .tc cfg0.body (cfg0.bodyArgs t (cfg0.slots t)) = bodyAt0 t := by
  unfold defs₀; rw [Defs.onTc_tc]

/-- The obligation the launch asks of the body. -/
theorem obligation (c : Dev nD) : BodyObligation (dats (F := F) m 0 c) (defs₀ (F := F)) Variants.none () Set.univ := fun t => by
  rw [bigSep_W0, bigSep_W0, row_eq]
  exact triple_restated (sound_point m c t) rfl .rfl fun _ => .rfl

set_option backward.isDefEq.respectTransparency.types false in
set_option maxHeartbeats 1600000 in
/-- The program terminates, its arrays as the proof data says, all counters zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The arrays at the end. -/
theorem run_arrays : θ_run defs (onTc (τ := τ) (main (F := F))) (s₀ m ρ) (Pipeline.FramePost cfgs (dats m) 0 (V m)) :=
  (θ_run defs _ _).mono (fun _ h => h.1) (run_quiescent m ρ)

/-- The frame: every argument ends as it began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_arrays m ρ)) ((θ_run defs _ _).mono (fun _ h => h.2) (run_quiescent m ρ))

end Cert.KernelIdeal.Attn
-- ==== Proof.Softmax.lean ====
/- The difference of two softmaxes over extended reals: the scores are real, the second softmax's factor and the values may be
   any extended reals. Weights scaled by the first row's sum, with the division put off to the end, give the same sum. -/
module

public import Idealize.ShloMosaic.Lib.ValueIdx

@[expose] public section

noncomputable section

namespace Cert.Softmax

open Idealize.ShloMosaic

/-- A positive real factor of every term comes out of a sum of extended reals. -/
theorem mul_sum {ι : Type} (s : Finset ι) (D : ℝ) (hD : 0 < D) (f : ι → EReal) :
    ∑ k ∈ s, (D : EReal) * f k = (D : EReal) * ∑ k ∈ s, f k := by
  classical
  induction s using Finset.induction_on with
  | empty => simp
  | insert a s ha ih =>
    rw [Finset.sum_insert ha, Finset.sum_insert ha, ih,
      EReal.left_distrib_of_nonneg_of_ne_top (by exact_mod_cast hD.le) (EReal.coe_ne_top D)]

/-- A sum of reals read as extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Division by a nonzero real. -/
theorem div_coe (x : EReal) {D : ℝ} (hD : D ≠ 0) : Ideal.div x (D : EReal) = x * ((D⁻¹ : ℝ) : EReal) := by
  unfold Ideal.div
  rw [if_neg (by exact_mod_cast hD), ← EReal.coe_inv]

/-- Real by real. -/
theorem div_coe_coe (x : ℝ) {D : ℝ} (hD : D ≠ 0) : Ideal.div (x : EReal) (D : EReal) = ((x / D : ℝ) : EReal) := by
  rw [div_coe _ hD, ← EReal.coe_mul, div_eq_mul_inv]

/-- One weight: the difference scaled by the first row sum. -/
theorem weight_eq (lam : EReal) (e1 e2 d1 d2 : ℝ) (h2 : 0 < e2) (hd1 : 0 < d1) (hd2 : 0 < d2) :
    (e1 : EReal) - (e2 : EReal) * Ideal.div (lam * (d1 : EReal)) (d2 : EReal)
      = (d1 : EReal) * (((e1 / d1 : ℝ) : EReal) - lam * ((e2 / d2 : ℝ) : EReal)) := by
  rw [div_coe _ hd2.ne']
  induction lam with
  | bot =>
    rw [EReal.bot_mul_coe_of_pos hd1, EReal.bot_mul_coe_of_pos (inv_pos.mpr hd2), EReal.coe_mul_bot_of_pos h2,
      EReal.bot_mul_coe_of_pos (div_pos h2 hd2), EReal.coe_sub_bot, EReal.coe_sub_bot, EReal.coe_mul_top_of_pos hd1]
  | coe l =>
    norm_cast
    field_simp
  | top =>
    rw [EReal.top_mul_coe_of_pos hd1, EReal.top_mul_coe_of_pos (inv_pos.mpr hd2), EReal.coe_mul_top_of_pos h2,
      EReal.top_mul_coe_of_pos (div_pos h2 hd2), sub_eq_add_neg, sub_eq_add_neg, EReal.neg_top, EReal.add_bot, EReal.add_bot, EReal.coe_mul_bot_of_pos hd1]

/-- The shift cancels in a weight's share of its row sum. -/
theorem share_eq (a μ M t : ℝ) (ht : t ≠ 0) :
    Real.exp (a - M) / (Real.exp (μ - M) * t) = Real.exp (a - μ) / t := by
  rw [show a - M = (μ - M) + (a - μ) by ring, Real.exp_add]
  have := Real.exp_ne_zero (μ - M)
  field_simp

variable {ι κ : Type} [Fintype ι] [Fintype κ] [Nonempty ι]

/-- A row's sum of weights, at a shift. -/
def rowSum (a : ι → ℝ) (b : κ → ℝ) (μ : ℝ) : ℝ := ∑ k, Real.exp (a k - μ) + ∑ k, Real.exp (b k - μ)

theorem rowSum_pos (a : ι → ℝ) (b : κ → ℝ) (μ : ℝ) : 0 < rowSum a b μ :=
  add_pos_of_pos_of_nonneg (Finset.sum_pos (fun _ _ => Real.exp_pos _) Finset.univ_nonempty)
    (Finset.sum_nonneg fun _ _ => (Real.exp_pos _).le)

theorem rowSum_shift (a : ι → ℝ) (b : κ → ℝ) (μ M : ℝ) : rowSum a b M = Real.exp (μ - M) * rowSum a b μ := by
  unfold rowSum
  rw [mul_add, Finset.mul_sum, Finset.mul_sum]
  congr 1 <;> refine Finset.sum_congr rfl fun k _ => ?_ <;> rw [← Real.exp_add] <;> congr 1 <;> ring

/-- The kernel's sum, divided at the end, is the reference's sum of values by the differences of softmaxes. -/
theorem weighted_eq (a1 a2 : ι → ℝ) (b1 b2 : κ → ℝ) (μ1 μ2 M1 M2 : ℝ) (lam : EReal) (v : ι → EReal) (w : κ → EReal) :
    (∑ k, ((Real.exp (a1 k - μ1) : EReal) - (Real.exp (a2 k - μ2) : EReal)
            * Ideal.div (lam * (rowSum a1 b1 μ1 : EReal)) (rowSum a2 b2 μ2 : EReal)) * v k
      + ∑ k, ((Real.exp (b1 k - μ1) : EReal) - (Real.exp (b2 k - μ2) : EReal)
            * Ideal.div (lam * (rowSum a1 b1 μ1 : EReal)) (rowSum a2 b2 μ2 : EReal)) * w k)
        * Ideal.div 1 (rowSum a1 b1 μ1 : EReal)
    = ∑ k, v k * (Ideal.div (Real.exp (a1 k - M1) : EReal) (rowSum a1 b1 M1 : EReal)
            - lam * Ideal.div (Real.exp (a2 k - M2) : EReal) (rowSum a2 b2 M2 : EReal))
      + ∑ k, w k * (Ideal.div (Real.exp (b1 k - M1) : EReal) (rowSum a1 b1 M1 : EReal)
            - lam * Ideal.div (Real.exp (b2 k - M2) : EReal) (rowSum a2 b2 M2 : EReal)) := by
  have p1 := rowSum_pos a1 b1 μ1
  have p2 := rowSum_pos a2 b2 μ2
  have q1 := rowSum_pos a1 b1 M1
  have q2 := rowSum_pos a2 b2 M2
  simp only [div_coe_coe _ q1.ne', div_coe_coe _ q2.ne']
  simp only [rowSum_shift a1 b1 μ1 M1, rowSum_shift a2 b2 μ2 M2,
    share_eq _ _ _ _ p1.ne', share_eq _ _ _ _ p2.ne', weight_eq lam _ _ _ _ (Real.exp_pos _) p1 p2]
  generalize rowSum a1 b1 μ1 = d1 at *
  simp only [mul_assoc]
  rw [mul_sum _ _ p1, mul_sum _ _ p1, ← EReal.left_distrib_of_nonneg_of_ne_top (by exact_mod_cast p1.le) (EReal.coe_ne_top d1)]
  rw [div_coe _ p1.ne', one_mul, mul_comm, ← mul_assoc, ← EReal.coe_mul, inv_mul_cancel₀ p1.ne', EReal.coe_one, one_mul]
  simp only [mul_comm]

/-- The reference's weighted value: the values times the difference of the two softmax weights. -/
def attended (a1 a2 : Fin 2048 → ℝ) (b1 b2 : Fin 512 → ℝ) (M1 M2 : ℝ) (lam : EReal) (v : Fin 2048 → EReal) (w : Fin 512 → EReal) : EReal :=
  ∑ k, v k * (Ideal.div ↑(Real.exp (a1 k - M1)) ↑(rowSum a1 b1 M1)
      - lam * Ideal.div ↑(Real.exp (a2 k - M2)) ↑(rowSum a2 b2 M2))
    + ∑ k, w k * (Ideal.div ↑(Real.exp (b1 k - M1)) ↑(rowSum a1 b1 M1)
      - lam * Ideal.div ↑(Real.exp (b2 k - M2)) ↑(rowSum a2 b2 M2))

end Cert.Softmax
-- ==== Proof.HeadRead.lean ====
/- A head read at a row and a column, over extended reals: each step of `Heads.lean` at an index. -/
module

public import proofs.«01_k».proof.Proof.Heads
public import proofs.«01_k».proof.Proof.Softmax
public import Idealize.ShloMosaic.Lib.Pipeline.Value
public import Idealize.ShloMosaic.PureOps.Ideal.Laws
public import Idealize.ShloMosaic.Lib.Pointwise

@[expose] public section

noncomputable section

namespace Cert.KernelIdeal.Attn

open Idealize.ShloMosaic Idealize.ShloMosaic.TcCoe
open Cert.KernelIdeal.Gen

/-- A score against a latent key: the products of the 64 coordinates, summed. -/
theorem scoresK_apply (q : Vec Ideal S512x64 .bf16) (k : Vec Ideal S2048x64 .bf16) (r : Fin 512) (j : Fin 2048) :
    scoresK (F := Ideal) q k (ix2 r j) = ∑ d : Fin 64, q (ix2 r d) * k (ix2 j d) := by
  pointwise [scoresK]

/-- A score against a cached key. -/
theorem scoresC_apply (q : Vec Ideal S512x64 .bf16) (k : Vec Ideal S1x1x512x64 .f32) (r : Fin 512) (j : Fin 512) :
    scoresC (F := Ideal) q k (ix2 r j) = ∑ d : Fin 64, q (ix2 r d) * k (ix4 0 0 j d) := by
  pointwise [scoresC]

/-- A row's sum of weights. -/
theorem rowSum_apply (e : FVec Ideal S512x2048 .f32) (ec : FVec Ideal S512x512 .f32) (r : Fin 512) :
    rowSum (F := Ideal) e ec (ix2 r 0) = ∑ k : Fin 2048, e (ix2 r k) + ∑ k : Fin 512, ec (ix2 r k) := by
  pointwise [rowSum]

/-- The larger of the two maxima of a row. -/
theorem rowMax_apply (e : FVec Ideal S512x2048 .f32) (ec : FVec Ideal S512x512 .f32) (r : Fin 512) :
    rowMax (F := Ideal) e ec (ix2 r 0) =
      max (Finset.fold max (Ideal.ofBits FTy.f32 4286578688#32) (fun x => e (ix2 r x)) Finset.univ)
        (Finset.fold max (Ideal.ofBits FTy.f32 4286578688#32) (fun x => ec (ix2 r x)) Finset.univ) := by
  pointwise [rowMax]

/-- A shifted weight against a latent key. -/
theorem shiftK_apply (s : FVec Ideal S512x2048 .f32) (mx : FVec Ideal S512x1 .f32) (r : Fin 512) (k : Fin 2048) :
    shiftK (F := Ideal) s mx (ix2 r k) = Ideal.exp2 (s (ix2 r k) - mx (ix2 r 0)) := by
  pointwise [shiftK]
  rfl

/-- A shifted weight against a cached key. -/
theorem shiftC_apply (s : FVec Ideal S512x512 .f32) (mx : FVec Ideal S512x1 .f32) (r : Fin 512) (k : Fin 512) :
    shiftC (F := Ideal) s mx (ix2 r k) = Ideal.exp2 (s (ix2 r k) - mx (ix2 r 0)) := by
  pointwise [shiftC]
  rfl

/-- The weighted values at a row and a value column. -/
theorem weighted_apply (lam : FVec Ideal S1x1 .f32) (e1 e2 : FVec Ideal S512x2048 .f32) (c1 c2 : FVec Ideal S512x512 .f32)
    (d1 d2 : FVec Ideal S512x1 .f32) (v : Vec Ideal S2048x128 .bf16) (cv : Vec Ideal S1x1x512x128 .f32) (r : Fin 512) (e : Fin 128) :
    weighted (F := Ideal) e1 c1 d1 e2 c2 (ratio lam d1 d2) v cv (ix2 r e) =
      (∑ k : Fin 2048, (e1 (ix2 r k) - e2 (ix2 r k) * Ideal.div (lam (ix2 0 0) * d1 (ix2 r 0)) (d2 (ix2 r 0))) * v (ix2 k e)
        + ∑ k : Fin 512, (c1 (ix2 r k) - c2 (ix2 r k) * Ideal.div (lam (ix2 0 0) * d1 (ix2 r 0)) (d2 (ix2 r 0))) * cv (ix4 0 0 k e))
      * Ideal.div 1 (d1 (ix2 r 0)) := by
  pointwise [weighted, ratio]

/-- The row normalisation and the gate at a row and a column. -/
theorem gated_apply (o : FVec Ideal S512x128 .f32) (g : Vec Ideal S1x128 .f32) (z : Vec Ideal S512x128 .bf16) (r : Fin 512) (e : Fin 128) :
    gated (F := Ideal) o g z (ix2 r e) =
      o (ix2 r e) * Ideal.rsqrt (Ideal.div (∑ k : Fin 128, o (ix2 r k) * o (ix2 r k)) (Ideal.ofBits .f32 0x43000000#32)
        + Ideal.ofBits .f32 0x358637BD#32) * g (ix2 0 e) * Ideal.ofBits .f32 0x3F24FD5C#32 * z (ix2 r e) := by
  pointwise [gated]

end Cert.KernelIdeal.Attn
-- ==== Proof.HeadValue.lean ====
/- A head whose scores are real numbers is the reference's weighted value, normalised and gated. -/
module

public import proofs.«01_k».proof.Proof.HeadRead
public import proofs.«01_k».proof.Proof.Softmax
public import Idealize.ShloMosaic.Lib.Pipeline.Value
public import Idealize.ShloMosaic.PureOps.Ideal.Laws
public import Idealize.ShloMosaic.Lib.Pointwise

@[expose] public section

noncomputable section

namespace Cert.KernelIdeal.Attn

open Idealize.ShloMosaic Idealize.ShloMosaic.TcCoe
open Cert.KernelIdeal.Gen

/-! ## Real scores -/

/-- The bit pattern of minus infinity. -/
theorem neg_inf : Ideal.ofBits .f32 0xFF800000#32 = (⊥ : EReal) := by
  simp [Ideal.ofBits, Ideal.ieee]

/-- The maximum of a nonempty family of reals is a real. -/
theorem fold_max_real {n : ℕ} (f : Fin (n + 1) → EReal) (hf : ∀ k, ∃ a : ℝ, f k = ↑a) :
    ∃ M : ℝ, Finset.fold max (⊥ : EReal) f Finset.univ = ↑M := by
  have h : Finset.fold max (⊥ : EReal) f Finset.univ = Finset.univ.sup f := rfl
  obtain ⟨k, -, hk⟩ := Finset.exists_mem_eq_sup Finset.univ Finset.univ_nonempty f
  rw [h, hk]
  exact hf k

/-- A power of two of a real in units of `log 2` is an exponential. -/
theorem exp2_eq (a : ℝ) : Ideal.exp2 (↑(a / Real.log 2) : EReal) = ↑(Real.exp a) := by
  show ((Real.rpow 2 (a / Real.log 2) : ℝ) : EReal) = _
  congr 1
  show (2 : ℝ) ^ (a / Real.log 2) = _
  rw [Real.rpow_def_of_pos (by norm_num), mul_div_cancel₀ _ (Real.log_pos (by norm_num)).ne']

/-- The same with a shift. -/
theorem exp2_sub_eq (a M : ℝ) :
    Ideal.exp2 ((↑(a / Real.log 2) : EReal) - ↑M) = ↑(Real.exp (a - M * Real.log 2)) := by
  have h0 : Real.log 2 ≠ 0 := (Real.log_pos (by norm_num)).ne'
  rw [← EReal.coe_sub, ← exp2_eq]
  congr 3
  field_simp

/-- The row maximum of real scores is a real. -/
theorem rowMax_real (s : FVec Ideal S512x2048 .f32) (t : FVec Ideal S512x512 .f32) (r : Fin 512) (a : Fin 2048 → ℝ) (b : Fin 512 → ℝ)
    (hs : ∀ k, s (ix2 r k) = ↑(a k / Real.log 2)) (ht : ∀ k, t (ix2 r k) = ↑(b k / Real.log 2)) :
    ∃ M : ℝ, rowMax (F := Ideal) s t (ix2 r 0) = ↑M := by
  rw [rowMax_apply, neg_inf]
  obtain ⟨M1, h1⟩ := fold_max_real (n := 2047) (fun x => s (ix2 r x)) fun k => ⟨_, hs k⟩
  obtain ⟨M2, h2⟩ := fold_max_real (n := 511) (fun x => t (ix2 r x)) fun k => ⟨_, ht k⟩
  refine ⟨max M1 M2, ?_⟩
  rw [show ((max M1 M2 : ℝ) : EReal) = max (M1 : EReal) M2 from EReal.coe_strictMono.monotone.map_max]
  exact congrArg₂ max h1 h2

/-- Weights that are exponentials of shifted real scores: the weighted value is the reference's. -/
theorem weighted_exp (lam : FVec Ideal S1x1 .f32) (e1 e2 : FVec Ideal S512x2048 .f32) (c1 c2 : FVec Ideal S512x512 .f32)
    (v : Vec Ideal S2048x128 .bf16) (cv : Vec Ideal S1x1x512x128 .f32) (r : Fin 512) (e : Fin 128)
    (a1 a2 : Fin 2048 → ℝ) (b1 b2 : Fin 512 → ℝ) (μ1 μ2 M1 M2 : ℝ)
    (he1 : ∀ k, e1 (ix2 r k) = ↑(Real.exp (a1 k - μ1))) (he2 : ∀ k, e2 (ix2 r k) = ↑(Real.exp (a2 k - μ2)))
    (hc1 : ∀ k, c1 (ix2 r k) = ↑(Real.exp (b1 k - μ1))) (hc2 : ∀ k, c2 (ix2 r k) = ↑(Real.exp (b2 k - μ2))) :
    weighted (F := Ideal) e1 c1 (rowSum e1 c1) e2 c2 (ratio lam (rowSum e1 c1) (rowSum e2 c2)) v cv (ix2 r e)
      = Cert.Softmax.attended a1 a2 b1 b2 M1 M2 (lam (ix2 0 0)) (fun k => v (ix2 k e)) (fun k => cv (ix4 0 0 k e)) := by
  rw [weighted_apply, rowSum_apply, rowSum_apply]
  simp only [he1, he2, hc1, hc2]
  have hd1 : (∑ k : Fin 2048, (↑(Real.exp (a1 k - μ1)) : EReal) + ∑ k : Fin 512, (↑(Real.exp (b1 k - μ1)) : EReal))
      = ↑(Cert.Softmax.rowSum a1 b1 μ1) := by
    rw [Cert.Softmax.rowSum, EReal.coe_add, Cert.Softmax.coe_sum, Cert.Softmax.coe_sum]
  have hd2 : (∑ k : Fin 2048, (↑(Real.exp (a2 k - μ2)) : EReal) + ∑ k : Fin 512, (↑(Real.exp (b2 k - μ2)) : EReal))
      = ↑(Cert.Softmax.rowSum a2 b2 μ2) := by
    rw [Cert.Softmax.rowSum, EReal.coe_add, Cert.Softmax.coe_sum, Cert.Softmax.coe_sum]
  rw [hd1, hd2]
  exact Cert.Softmax.weighted_eq a1 a2 b1 b2 μ1 μ2 M1 M2 _ _ _

/-- Either branch's head, its scores real: the reference's weighted values, normalised and gated. -/
theorem headOf_real (raw : Bool) (lam : FVec Ideal S1x1 .f32) (s1 s2 : FVec Ideal S512x2048 .f32) (t1 t2 : FVec Ideal S512x512 .f32)
    (v : Vec Ideal S2048x128 .bf16) (cv : Vec Ideal S1x1x512x128 .f32) (g : Vec Ideal S1x128 .f32) (z : Vec Ideal S512x128 .bf16)
    (r : Fin 512) (e : Fin 128) (a1 a2 : Fin 2048 → ℝ) (b1 b2 : Fin 512 → ℝ) (M1 M2 : ℝ)
    (hs1 : ∀ k, s1 (ix2 r k) = ↑(a1 k / Real.log 2)) (hs2 : ∀ k, s2 (ix2 r k) = ↑(a2 k / Real.log 2))
    (ht1 : ∀ k, t1 (ix2 r k) = ↑(b1 k / Real.log 2)) (ht2 : ∀ k, t2 (ix2 r k) = ↑(b2 k / Real.log 2))
    (o : Fin 128 → EReal)
    (ho : ∀ e, o e = Cert.Softmax.attended a1 a2 b1 b2 M1 M2 (lam (ix2 0 0)) (fun k => v (ix2 k e)) (fun k => cv (ix4 0 0 k e))) :
    headOf (F := Ideal) raw lam s1 t1 s2 t2 v cv g z (ix2 r e) =
      o e * Ideal.rsqrt (Ideal.div (∑ k : Fin 128, o k * o k) (Ideal.ofBits .f32 0x43000000#32)
        + Ideal.ofBits .f32 0x358637BD#32) * g (ix2 0 e) * Ideal.ofBits .f32 0x3F24FD5C#32 * z (ix2 r e) := by
  cases raw with
  | true =>
    simp only [headOf, rawHead, finish]
    rw [gated_apply]
    have hw : ∀ e, weighted (F := Ideal) (exp2 s1) (exp2 t1) (rowSum (exp2 s1) (exp2 t1)) (exp2 s2) (exp2 t2)
        (ratio lam (rowSum (exp2 s1) (exp2 t1)) (rowSum (exp2 s2) (exp2 t2))) v cv (ix2 r e) = o e := by
      intro e
      rw [ho e]
      refine weighted_exp lam _ _ _ _ v cv r e a1 a2 b1 b2 0 0 M1 M2 ?_ ?_ ?_ ?_
      · exact fun k => (congrArg Ideal.exp2 (hs1 k)).trans (by rw [exp2_eq, sub_zero])
      · exact fun k => (congrArg Ideal.exp2 (hs2 k)).trans (by rw [exp2_eq, sub_zero])
      · exact fun k => (congrArg Ideal.exp2 (ht1 k)).trans (by rw [exp2_eq, sub_zero])
      · exact fun k => (congrArg Ideal.exp2 (ht2 k)).trans (by rw [exp2_eq, sub_zero])
    simp only [hw]
  | false =>
    simp only [headOf, shiftHead, finish]
    rw [gated_apply]
    obtain ⟨N1, hN1⟩ := rowMax_real s1 t1 r a1 b1 hs1 ht1
    obtain ⟨N2, hN2⟩ := rowMax_real s2 t2 r a2 b2 hs2 ht2
    have hw : ∀ e, weighted (F := Ideal) (shiftK s1 (rowMax s1 t1)) (shiftC t1 (rowMax s1 t1))
        (rowSum (shiftK s1 (rowMax s1 t1)) (shiftC t1 (rowMax s1 t1))) (shiftK s2 (rowMax s2 t2)) (shiftC t2 (rowMax s2 t2))
        (ratio lam (rowSum (shiftK s1 (rowMax s1 t1)) (shiftC t1 (rowMax s1 t1)))
          (rowSum (shiftK s2 (rowMax s2 t2)) (shiftC t2 (rowMax s2 t2)))) v cv (ix2 r e) = o e := by
      intro e
      rw [ho e]
      refine weighted_exp lam _ _ _ _ v cv r e a1 a2 b1 b2 (N1 * Real.log 2) (N2 * Real.log 2) M1 M2 ?_ ?_ ?_ ?_
      · exact fun k => by rw [shiftK_apply, hs1, hN1, exp2_sub_eq]
      · exact fun k => by rw [shiftK_apply, hs2, hN2, exp2_sub_eq]
      · exact fun k => by rw [shiftC_apply, ht1, hN1, exp2_sub_eq]
      · exact fun k => by rw [shiftC_apply, ht2, hN2, exp2_sub_eq]
    simp only [hw]

end Cert.KernelIdeal.Attn
-- ==== Proof.Act.lean ====
/- What the host lines before the launch leave in the activations' array. -/
module

public import proofs.«01_k».proof.Proof.Launch
public import proofs.«01_k».proof.Proof.Softmax
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Attn

open Idealize.ShloMosaic Idealize.ShloMosaic.TcCoe Idealize.SL.Sem
open Cert.KernelIdeal.Gen

variable (m : (ℓ : Loc nD τ sig) → Buf (Elt Ideal) ℓ)

/-- The factor applied to the queries: an eighth over the logarithm of two. -/
def scale : EReal := Ideal.div (Ideal.ofBits .f32 0x3E000000#32) (Ideal.log (Ideal.ofBits .f32 0x40000000#32))

/-- The projections with their query columns scaled. -/
def act (X : FVec Ideal S8192x8192 .f32) : FVec Ideal S8192x8192 .bf16 :=
  truncf .bf16 (concatenate S8192x8192 1 [⟨S8192x2048, extractStridedSlice S8192x2048 ![0, 0] X slices_S8192x8192_S8192x2048_0_0⟩,
    ⟨S8192x512, mulf (extractStridedSlice S8192x512 ![0, 2048] X slices_S8192x8192_S8192x512_0_2048)
      (broadcastInDim S8192x512 ![] bcast_S_S8192x512 (Host.divf (constant S_ .f32 0x3E000000#32) (Host.log (constant S_ .f32 0x40000000#32))))⟩,
    ⟨S8192x5632, extractStridedSlice S8192x5632 ![0, 2560] X slices_S8192x8192_S8192x5632_0_2560⟩]
    concatenates_S8192x2048_S8192x512_S8192x5632_S8192x8192_d1) bitsLt_bf16_f32

/-- The launch finds them in the activations' array. -/
theorem act_eq (c : Dev nD) : V m c main_v8 = act (m ((c : Thread nD τ).loc main_arg0)) := by
  rfl

/-- Away from the query columns the activations are the projections. -/
theorem act_other (X : FVec Ideal S8192x8192 .f32) (R : Fin 8192) (C : Fin 8192) (hC : 2560 ≤ C.val) :
    act X (ix2 R C) = X (ix2 R C) := by
  pointwise [act]
  rw [dif_neg (by omega), dif_neg (by omega)]
  exact congrArg X (congrArg (ix2 R) (Fin.ext (show 2560 + (C.val - 2048 - 512) = C.val by omega)))

/-- The query columns of the activations are the projections' scaled. -/
theorem act_query (X : FVec Ideal S8192x8192 .f32) (R : Fin 8192) (C : Fin 8192) (hC : 2048 ≤ C.val) (hC' : C.val < 2560) :
    act X (ix2 R C) = X (ix2 R C) * scale := by
  pointwise [act]
  rw [dif_neg (by omega), dif_pos (by omega)]
  exact congrArg₂ (· * ·) (congrArg X (congrArg (ix2 R) (Fin.ext (show 2048 + (C.val - 2048) = C.val by omega)))) rfl

/-- The bit pattern of an eighth. -/
theorem eighth : Ideal.ofBits .f32 0x3E000000#32 = (((1 / 8 : ℝ)) : EReal) := by
  simp [Ideal.ofBits, Ideal.ieee, -EReal.coe_mul]; norm_num

/-- The bit pattern of two. -/
theorem two : Ideal.ofBits .f32 0x40000000#32 = ((2 : ℝ) : EReal) := by
  simp [Ideal.ofBits, Ideal.ieee, -EReal.coe_mul]; norm_num

/-- The queries' factor as a real. -/
theorem scale_eq : scale = (((1 / 8 : ℝ) / Real.log 2 : ℝ) : EReal) := by
  have hl : Ideal.log (((2 : ℝ) : EReal)) = ((Real.log 2 : ℝ) : EReal) := by
    show (if (2 : ℝ) ≤ 0 then (⊥ : EReal) else ((Real.log 2 : ℝ) : EReal)) = _
    rw [if_neg (by norm_num)]
  unfold scale
  rw [eighth, two, hl, Cert.Softmax.div_coe_coe _ (Real.log_pos (by norm_num)).ne']

end Cert.KernelIdeal.Attn
-- ==== Proof.RefRead.lean ====
/- The reference's steps read at an index, over extended reals. -/
module

public import proofs.«01_k».proof.Proof.Gen.ReferenceIdeal.Read
public import Idealize.ShloMosaic.Lib.Pointwise
public import Idealize.ShloMosaic.Lib.KernelVsHost

@[expose] public section

set_option maxRecDepth 16384

noncomputable section

namespace Cert.ReferenceIdeal.Read

open Idealize.ShloMosaic Idealize.ShloMosaic.TcCoe
open Cert.ReferenceIdeal.Gen

variable (x0 : (⟨S8192x8192, .f32⟩ : BufTy).Contents (Elt Ideal)) (x1 x2 : (⟨S2x64, .f32⟩ : BufTy).Contents (Elt Ideal))
  (x3 : (⟨S128, .f32⟩ : BufTy).Contents (Elt Ideal)) (x5 : (⟨S4x2x512x4x2x64, .f32⟩ : BufTy).Contents (Elt Ideal))
  (x6 : (⟨S4x2x512x4x128, .f32⟩ : BufTy).Contents (Elt Ideal))

/-- A key: a latent's projection, or the layer's cached key. -/
theorem keys_apply (b : Fin 4) (k : Fin 2560) (h : Fin 4) (c : Fin 2) (d : Fin 64) :
    val_main_v30 (F := Ideal) x0 x5 (ix5 b k h c d) =
      if hk : k.val < 2048 then x0 (ix2 ⟨b.val * 2048 + k.val, by omega⟩ ⟨2560 + (h.val * 128 + c.val * 64 + d.val), by omega⟩)
      else x5 (ix6 b 1 ⟨k.val - 2048, by omega⟩ h c d) := by
  pointwise [val_main_v30, val_main_v10, val_main_v3, val_main_v29, val_main_v28]

/-- A query. -/
theorem query_apply (b : Fin 4) (s : Fin 2048) (h : Fin 4) (c : Fin 2) (d : Fin 64) :
    val_main_v9 (F := Ideal) x0 (ix5 b s h c d)
      = x0 (ix2 ⟨b.val * 2048 + s.val, by omega⟩ ⟨2048 + (h.val * 128 + c.val * 64 + d.val), by omega⟩) := by
  pointwise [val_main_v9, val_main_v2]

/-- A value: a latent's projection, or the layer's cached value. -/
theorem vals_apply (b : Fin 4) (k : Fin 2560) (h : Fin 4) (e : Fin 128) :
    val_main_v33 (F := Ideal) x0 x6 (ix4 b k h e) =
      if hk : k.val < 2048 then x0 (ix2 ⟨b.val * 2048 + k.val, by omega⟩ ⟨3072 + (h.val * 128 + e.val), by omega⟩)
      else x6 (ix5 b 1 ⟨k.val - 2048, by omega⟩ h e) := by
  pointwise [val_main_v33, val_main_v11, val_main_v4, val_main_v32, val_main_v31]

/-- A score: the product of a query and a key, scaled. -/
theorem scores_apply (b : Fin 4) (h : Fin 4) (c : Fin 2) (s : Fin 2048) (k : Fin 2560) :
    val_main_v36 (F := Ideal) x0 x5 (ix5 b h c s k)
      = (∑ d : Fin 64, val_main_v9 (F := Ideal) x0 (ix5 b s h c d) * val_main_v30 (F := Ideal) x0 x5 (ix5 b k h c d))
        * Ideal.ofBits .f32 0x3E000000#32 := by
  rw [val_main_v36_apply, val_main_v34_apply, val_main_v35_apply, val_main_cst_2_apply]
  refine congrArg₂ (· * ·) (Finset.sum_congr rfl fun d _ => congrArg₂ (· * ·) ?_ ?_) rfl
  · exact congrArg _ (funext fun a => by match a with | ⟨0, _⟩ | ⟨1, _⟩ | ⟨2, _⟩ | ⟨3, _⟩ | ⟨4, _⟩ => rfl)
  · exact congrArg _ (funext fun a => by match a with | ⟨0, _⟩ | ⟨1, _⟩ | ⟨2, _⟩ | ⟨3, _⟩ | ⟨4, _⟩ => rfl)

/-- A share: the exponential of the score less the row's maximum, over the row's sum of them. -/
theorem share_apply (b : Fin 4) (h : Fin 4) (c : Fin 2) (s : Fin 2048) (k : Fin 2560) :
    val_main_v47 (F := Ideal) x0 x5 (ix5 b h c s k)
      = Ideal.div (Ideal.exp (val_main_v36 (F := Ideal) x0 x5 (ix5 b h c s k) - val_main_v39 (F := Ideal) x0 x5 (ix4 b h c s)))
          (∑ x : Fin 2560, Ideal.exp (val_main_v36 (F := Ideal) x0 x5 (ix5 b h c s x) - val_main_v39 (F := Ideal) x0 x5 (ix4 b h c s))) := by
  pointwise [val_main_v47, val_main_v46, val_main_v45, val_main_v44, val_main_v43, val_main_v42, val_main_v41, val_main_v40, val_main_cst_5]

/-- The factor of the second component. -/
theorem lam_apply (i : S_.Idx) :
    val_main_v27 (F := Ideal) x1 x2 i =
      Ideal.exp (∑ d : Fin 64, x1 (ix2 0 d) * x2 (ix2 0 d)) - Ideal.exp (∑ d : Fin 64, x1 (ix2 1 d) * x2 (ix2 1 d))
        + Ideal.ofBits .f32 0x3EB60549#32 := by
  pointwise [val_main_v27, val_main_v26, val_main_v25, val_main_v24, val_main_v23, val_main_v22, val_main_v21, val_main_v20,
    val_main_v19, val_main_v18, val_main_v17, val_main_v16, val_main_v15, val_main_v14, val_main_v13, val_main_v12, val_main_cst,
    val_main_cst_0, val_main_cst_1]

/-- The first component's share. -/
theorem first_apply (b : Fin 4) (h : Fin 4) (s : Fin 2048) (k : Fin 2560) :
    val_main_v49 (F := Ideal) x0 x5 (ix4 b h s k) = val_main_v47 (F := Ideal) x0 x5 (ix5 b h 0 s k) := by
  have e : val_main_v49 (F := Ideal) x0 x5 (ix4 b h s k) = val_main_v48 (F := Ideal) x0 x5 (ix5 b h 0 s k) := by
    unfold val_main_v49
    refine shapeCast_apply _ shapeCasts_S4x4x1x2048x2560_S4x4x2048x2560 _ _ ?_
    rw [Shape.rowMajor_val_five, Shape.rowMajor_val_four]
    show ((((b.val * 4 + h.val) * 1 + 0) * 2048 + s.val) * 2560 + k.val) = ((b.val * 4 + h.val) * 2048 + s.val) * 2560 + k.val
    omega
  rw [e, val_main_v48_apply]
  exact congrArg _ (funext fun a => by match a with | ⟨0, _⟩ | ⟨1, _⟩ | ⟨2, _⟩ | ⟨3, _⟩ | ⟨4, _⟩ => rfl)

/-- The second component's share. -/
theorem second_apply (b : Fin 4) (h : Fin 4) (s : Fin 2048) (k : Fin 2560) :
    val_main_v51 (F := Ideal) x0 x5 (ix4 b h s k) = val_main_v47 (F := Ideal) x0 x5 (ix5 b h 1 s k) := by
  have e : val_main_v51 (F := Ideal) x0 x5 (ix4 b h s k) = val_main_v50 (F := Ideal) x0 x5 (ix5 b h 0 s k) := by
    unfold val_main_v51
    refine shapeCast_apply _ shapeCasts_S4x4x1x2048x2560_S4x4x2048x2560 _ _ ?_
    rw [Shape.rowMajor_val_five, Shape.rowMajor_val_four]
    show ((((b.val * 4 + h.val) * 1 + 0) * 2048 + s.val) * 2560 + k.val) = ((b.val * 4 + h.val) * 2048 + s.val) * 2560 + k.val
    omega
  rw [e, val_main_v50_apply]
  exact congrArg _ (funext fun a => by match a with | ⟨0, _⟩ | ⟨1, _⟩ | ⟨2, _⟩ | ⟨3, _⟩ | ⟨4, _⟩ => rfl)

/-- The difference of the two components' shares. -/
theorem diff_apply (b : Fin 4) (h : Fin 4) (s : Fin 2048) (k : Fin 2560) :
    val_main_v54 (F := Ideal) x0 x1 x2 x5 (ix4 b h s k) =
      val_main_v47 (F := Ideal) x0 x5 (ix5 b h 0 s k) - val_main_v27 (F := Ideal) x1 x2 ix0 * val_main_v47 (F := Ideal) x0 x5 (ix5 b h 1 s k) := by
  rw [val_main_v54_apply, val_main_v53_apply, val_main_v52_apply, first_apply, second_apply,
    show idx_main_v52 (ix4 b h s k) = ix0 from funext fun a => a.elim0]
  rfl

/-- The weighted values. -/
theorem out_apply (b : Fin 4) (s : Fin 2048) (h : Fin 4) (e : Fin 128) :
    val_main_v56 (F := Ideal) x0 x1 x2 x5 x6 (ix4 b s h e) =
      ∑ k : Fin 2560, val_main_v33 (F := Ideal) x0 x6 (ix4 b k h e) * val_main_v54 (F := Ideal) x0 x1 x2 x5 (ix4 b h s k) := by
  rw [val_main_v56_apply, val_main_v55_apply]
  refine Finset.sum_congr rfl fun d _ => congrArg₂ (· * ·) ?_ ?_
  · exact congrArg _ (funext fun a => by match a with | ⟨0, _⟩ | ⟨1, _⟩ | ⟨2, _⟩ | ⟨3, _⟩ => rfl)
  · exact congrArg _ (funext fun a => by match a with | ⟨0, _⟩ | ⟨1, _⟩ | ⟨2, _⟩ | ⟨3, _⟩ => rfl)

/-- The row normalisation, its weights and the constant factor. -/
theorem normed_apply (b : Fin 4) (s : Fin 2048) (h : Fin 4) (e : Fin 128) :
    val_main_v71 (F := Ideal) x0 x1 x2 x3 x5 x6 (ix4 b s h e) =
      val_main_v56 (F := Ideal) x0 x1 x2 x5 x6 (ix4 b s h e) * Ideal.rsqrt (Ideal.div
          (∑ x : Fin 128, val_main_v56 (F := Ideal) x0 x1 x2 x5 x6 (ix4 b s h x) * val_main_v56 (F := Ideal) x0 x1 x2 x5 x6 (ix4 b s h x))
          (Ideal.ofBits .f32 0x43000000#32) + Ideal.ofBits .f32 0x358637BD#32) * x3 (ix1 e) * Ideal.ofBits .f32 0x3F24FD5C#32 := by
  pointwise [val_main_v71, val_main_v70, val_main_v69, val_main_v68, val_main_v67, val_main_v66, val_main_v65, val_main_v64, val_main_v63,
    val_main_v62, val_main_v61, val_main_v60, val_main_v59, val_main_v58, val_main_v57, val_main_cst_6, val_main_cst_7, val_main_cst_8, val_main_cst_9]

/-- The result: the normalised value times the gate. -/
theorem res_apply (R : Fin 8192) (C : Fin 512) :
    val_main_v74 (F := Ideal) x0 x1 x2 x3 x5 x6 (ix2 R C)
      = val_main_v71 (F := Ideal) x0 x1 x2 x3 x5 x6 (ix4 ⟨R.val / 2048, by omega⟩ ⟨R.val % 2048, by omega⟩ ⟨C.val / 128, by omega⟩ ⟨C.val % 128, by omega⟩)
        * x0 (ix2 R ⟨3584 + C.val, by omega⟩) := by
  pointwise [val_main_v74, val_main_v73, val_main_v72, val_main_v5]

/-- The row's maximum is a real, the scores being real. -/
theorem max_real (b : Fin 4) (h : Fin 4) (c : Fin 2) (s : Fin 2048) (a : Fin 2560 → ℝ)
    (ha : ∀ k, val_main_v36 (F := Ideal) x0 x5 (ix5 b h c s k) = ↑(a k)) :
    ∃ M : ℝ, val_main_v39 (F := Ideal) x0 x5 (ix4 b h c s) = ↑M := by
  rw [val_main_v39_apply, val_main_v38_apply, val_main_cst_4_apply]
  have hr : S4x4x2x2048x2560.Reduces [4] S4x4x2x2048 := by decide
  have hb : Ideal.ofBits .f32 0xFF800000#32 = (⊥ : EReal) := by
    simp [Ideal.ofBits, Ideal.ieee]
  have hf : val_main_v37 (F := Ideal) x0 x5 (ix4 b h c s)
      = (Finset.univ : Finset (Fin 2560)).fold max (Ideal.ofBits .f32 0xFF800000#32) (val_main_v36 (F := Ideal) x0 x5 ∘ hr.lift (ix4 b h c s)) := by
    exact (congrFun (hostReduce_maximumf_eq_multiReduction (F := Ideal) (φ := .f32) (val_main_v36 (F := Ideal) x0 x5) 0xFF800000#32
      reducesTo_S4x4x2x2048x2560_S4x4x2x2048_d4 h_S_ hr (.inl rfl) rfl) (ix4 b h c s)).trans
      (Ideal.multiReduction_maximumf_single (φ := .f32) (val_main_v36 (F := Ideal) x0 x5) 0xFF800000#32 hr (.inl rfl) rfl (ix4 b h c s))
  have hl : ∀ k : Fin 2560, hr.lift (ix4 b h c s) k = ix5 b h c s k := fun k =>
    funext fun a => Fin.ext (by match a with | ⟨0, _⟩ | ⟨1, _⟩ | ⟨2, _⟩ | ⟨3, _⟩ | ⟨4, _⟩ => rfl)
  obtain ⟨k, -, hk⟩ := Finset.exists_mem_eq_sup (Finset.univ : Finset (Fin 2560)) Finset.univ_nonempty
    (val_main_v36 (F := Ideal) x0 x5 ∘ hr.lift (ix4 b h c s) : Fin 2560 → EReal)
  refine ⟨a k, ?_⟩
  rw [hf, hb]
  have hs : Finset.fold max (⊥ : EReal) (val_main_v36 (F := Ideal) x0 x5 ∘ hr.lift (ix4 b h c s) : Fin 2560 → EReal) Finset.univ
      = ↑(a k) := by
    refine Eq.trans (show _ = Finset.univ.sup (val_main_v36 (F := Ideal) x0 x5 ∘ hr.lift (ix4 b h c s) : Fin 2560 → EReal) from rfl) (hk.trans ?_)
    exact (congrArg (val_main_v36 (F := Ideal) x0 x5) (hl k)).trans (ha k)
  show max (Ideal.ofBits .f32 0xFF800000#32) _ = _
  rw [hb]
  exact (max_bot_left _).trans hs

end Cert.ReferenceIdeal.Read
-- ==== Proof.RefValue.lean ====
/- The reference's weighted values where queries and keys are real numbers. -/
module

public import proofs.«01_k».proof.Proof.RefRead
public import proofs.«01_k».proof.Proof.Softmax

@[expose] public section

set_option maxRecDepth 16384

noncomputable section

namespace Cert.ReferenceIdeal.Read

open Idealize.ShloMosaic Idealize.ShloMosaic.TcCoe
open Cert.ReferenceIdeal.Gen

variable (x0 : (⟨S8192x8192, .f32⟩ : BufTy).Contents (Elt Ideal)) (x1 x2 : (⟨S2x64, .f32⟩ : BufTy).Contents (Elt Ideal))
  (x3 : (⟨S128, .f32⟩ : BufTy).Contents (Elt Ideal)) (x5 : (⟨S4x2x512x4x2x64, .f32⟩ : BufTy).Contents (Elt Ideal))
  (x6 : (⟨S4x2x512x4x128, .f32⟩ : BufTy).Contents (Elt Ideal))

/-- The place of a latent among the 2560 keys. -/
def latent (k : Fin 2048) : Fin 2560 := ⟨k.val, by omega⟩

/-- The place of a cached token among the 2560 keys. -/
def cached (k : Fin 512) : Fin 2560 := ⟨2048 + k.val, by omega⟩

/-- A sum over all keys is one over the latents and one over the cached tokens. -/
theorem sum_keys {M : Type} [AddCommMonoid M] (f : Fin 2560 → M) : ∑ k, f k = ∑ k, f (latent k) + ∑ k, f (cached k) :=
  Fin.sum_univ_add (a := 2048) (b := 512) f

/-- A real score: the product of a query and a key, over eight. -/
def score (q k : Fin 64 → ℝ) : ℝ := (∑ d, q d * k d) * (1 / 8)

/-- A sum of products of reals, taken among extended reals. -/
theorem dot_coe (q k : Fin 64 → ℝ) : ∑ d, ((q d : ℝ) : EReal) * ((k d : ℝ) : EReal) = ((∑ d, q d * k d : ℝ) : EReal) := by
  rw [← Cert.Softmax.coe_sum]
  exact Finset.sum_congr rfl fun d _ => (EReal.coe_mul _ _).symm

/-- The reference's scores are real. -/
theorem scores_real (b h : Fin 4) (c : Fin 2) (s : Fin 2048) (k : Fin 2560) (Q K : Fin 64 → ℝ)
    (hQ : ∀ d, val_main_v9 (F := Ideal) x0 (ix5 b s h c d) = ↑(Q d))
    (hK : ∀ d, val_main_v30 (F := Ideal) x0 x5 (ix5 b k h c d) = ↑(K d)) :
    val_main_v36 (F := Ideal) x0 x5 (ix5 b h c s k) = ↑(score Q K) := by
  rw [scores_apply]
  have he : Ideal.ofBits .f32 0x3E000000#32 = (((1 / 8 : ℝ)) : EReal) := by
    simp [Ideal.ofBits, Ideal.ieee, -EReal.coe_mul]; norm_num
  rw [he, Finset.sum_congr rfl fun d _ => congrArg₂ (· * ·) (hQ d) (hK d), dot_coe, ← EReal.coe_mul]
  rfl

/-- The exponential of a difference of reals. -/
theorem exp_sub (a M : ℝ) : Ideal.exp ((a : EReal) - (M : EReal)) = ((Real.exp (a - M) : ℝ) : EReal) := by
  rw [← EReal.coe_sub]; rfl

/-- A share, the row's scores and maximum being real. -/
theorem share_real (b h : Fin 4) (c : Fin 2) (s : Fin 2048) (k : Fin 2560) (A : Fin 2560 → ℝ) (M : ℝ)
    (hA : ∀ k, val_main_v36 (F := Ideal) x0 x5 (ix5 b h c s k) = ↑(A k))
    (hM : val_main_v39 (F := Ideal) x0 x5 (ix4 b h c s) = ↑M) :
    val_main_v47 (F := Ideal) x0 x5 (ix5 b h c s k)
      = Ideal.div ↑(Real.exp (A k - M)) ↑(Cert.Softmax.rowSum (fun k => A (latent k)) (fun k => A (cached k)) M) := by
  rw [share_apply]
  simp only [hA, hM, exp_sub]
  rw [Cert.Softmax.coe_sum, sum_keys]
  rfl

/-- The weighted values, every score of the row being real. -/
theorem out_real (b h : Fin 4) (s : Fin 2048) (Q : Fin 2 → Fin 64 → ℝ) (K : Fin 2 → Fin 2560 → Fin 64 → ℝ)
    (hQ : ∀ c d, val_main_v9 (F := Ideal) x0 (ix5 b s h c d) = ↑(Q c d))
    (hK : ∀ c k d, val_main_v30 (F := Ideal) x0 x5 (ix5 b k h c d) = ↑(K c k d)) :
    ∃ M1 M2 : ℝ, ∀ e : Fin 128, val_main_v56 (F := Ideal) x0 x1 x2 x5 x6 (ix4 b s h e)
      = Cert.Softmax.attended (fun k => score (Q 0) (K 0 (latent k))) (fun k => score (Q 1) (K 1 (latent k)))
          (fun k => score (Q 0) (K 0 (cached k))) (fun k => score (Q 1) (K 1 (cached k))) M1 M2 (val_main_v27 (F := Ideal) x1 x2 ix0)
          (fun k => val_main_v33 (F := Ideal) x0 x6 (ix4 b (latent k) h e)) (fun k => val_main_v33 (F := Ideal) x0 x6 (ix4 b (cached k) h e)) := by
  have hA : ∀ c k, val_main_v36 (F := Ideal) x0 x5 (ix5 b h c s k) = ↑(score (Q c) (K c k)) := fun c k =>
    scores_real x0 x5 b h c s k (Q c) (K c k) (hQ c) (hK c k)
  obtain ⟨M1, hM1⟩ := max_real x0 x5 b h 0 s (fun k => score (Q 0) (K 0 k)) (hA 0)
  obtain ⟨M2, hM2⟩ := max_real x0 x5 b h 1 s (fun k => score (Q 1) (K 1 k)) (hA 1)
  refine ⟨M1, M2, fun e => ?_⟩
  rw [out_apply]
  have hd : ∀ k, val_main_v54 (F := Ideal) x0 x1 x2 x5 (ix4 b h s k) = _ := fun k =>
    (diff_apply x0 x1 x2 x5 b h s k).trans (congrArg₂ (fun p q => p - val_main_v27 (F := Ideal) x1 x2 ix0 * q)
      (share_real x0 x5 b h 0 s k _ M1 (hA 0) hM1) (share_real x0 x5 b h 1 s k _ M2 (hA 1) hM2))
  rw [Finset.sum_congr rfl fun k _ => congrArg _ (hd k), sum_keys]
  rfl

/-- A latent's key. -/
theorem key_latent (b : Fin 4) (k : Fin 2048) (h : Fin 4) (c : Fin 2) (d : Fin 64) :
    val_main_v30 (F := Ideal) x0 x5 (ix5 b (latent k) h c d)
      = x0 (ix2 ⟨b.val * 2048 + k.val, by omega⟩ ⟨2560 + (h.val * 128 + c.val * 64 + d.val), by omega⟩) := by
  rw [keys_apply, dif_pos (show (latent k).val < 2048 from k.isLt)]
  rfl

/-- A cached key. -/
theorem key_cached (b : Fin 4) (k : Fin 512) (h : Fin 4) (c : Fin 2) (d : Fin 64) :
    val_main_v30 (F := Ideal) x0 x5 (ix5 b (cached k) h c d) = x5 (ix6 b 1 k h c d) := by
  rw [keys_apply, dif_neg (show ¬ (cached k).val < 2048 by simp [cached])]
  exact congrArg x5 ((ix6_inj ..).2 ⟨rfl, rfl, Fin.ext (show 2048 + k.val - 2048 = k.val by omega), rfl, rfl, rfl⟩)

/-- A latent's value. -/
theorem val_latent (b : Fin 4) (k : Fin 2048) (h : Fin 4) (e : Fin 128) :
    val_main_v33 (F := Ideal) x0 x6 (ix4 b (latent k) h e)
      = x0 (ix2 ⟨b.val * 2048 + k.val, by omega⟩ ⟨3072 + (h.val * 128 + e.val), by omega⟩) := by
  rw [vals_apply, dif_pos (show (latent k).val < 2048 from k.isLt)]
  rfl

/-- A cached value. -/
theorem val_cached (b : Fin 4) (k : Fin 512) (h : Fin 4) (e : Fin 128) :
    val_main_v33 (F := Ideal) x0 x6 (ix4 b (cached k) h e) = x6 (ix5 b 1 k h e) := by
  rw [vals_apply, dif_neg (show ¬ (cached k).val < 2048 by simp [cached])]
  exact congrArg x6 ((ix5_inj ..).2 ⟨rfl, rfl, Fin.ext (show 2048 + k.val - 2048 = k.val by omega), rfl, rfl⟩)

end Cert.ReferenceIdeal.Read
-- ==== Proof.HeadBlocks.lean ====
/- One head of a grid point from the entries of the point's input blocks, the queries and keys being real. -/
module

public import proofs.«01_k».proof.Proof.HeadValue
public import proofs.«01_k».proof.Proof.Act
public import proofs.«01_k».proof.Proof.RefValue
public import Idealize.ShloMosaic.Lib.Pipeline.ValueKit
public import Idealize.ShloMosaic.Lib.Pointwise

@[expose] public section

set_option maxRecDepth 16384

noncomputable section

namespace Cert.KernelIdeal.Attn

open Idealize.ShloMosaic Idealize.ShloMosaic.TcCoe
open Cert.KernelIdeal.Gen

/-- An entry of a unit's queries. -/
theorem q_entry (x : Vec Ideal S512x512 .bf16) (j : Fin 8) (r : Fin 512) (d : Fin 64) :
    View.ld x (qRect j) (ix2 r d) = x (ix2 r ⟨64 * j.val + d.val, by omega⟩) := by
  pointwise
  blk_ext

/-- An entry of a unit's latent keys. -/
theorem k_entry (x : Vec Ideal S2048x512 .bf16) (j : Fin 8) (r : Fin 2048) (d : Fin 64) :
    View.ld x (kRect j) (ix2 r d) = x (ix2 r ⟨64 * j.val + d.val, by omega⟩) := by
  pointwise
  blk_ext

/-- An entry of a unit's cached keys. -/
theorem ck_entry (x : Vec Ideal S1x1x512x512 .f32) (j : Fin 8) (r : Fin 512) (d : Fin 64) :
    View.ld x (ckRect j) (ix4 0 0 r d) = x (ix4 0 0 r ⟨64 * j.val + d.val, by omega⟩) := by
  pointwise
  blk_ext

/-- An entry of a head's latent values. -/
theorem v_entry (x : Vec Ideal S2048x512 .bf16) (h : Fin 4) (r : Fin 2048) (d : Fin 128) :
    View.ld x (vRect h) (ix2 r d) = x (ix2 r ⟨128 * h.val + d.val, by omega⟩) := by
  pointwise
  blk_ext

/-- An entry of a head's cached values. -/
theorem cv_entry (x : Vec Ideal S1x1x512x512 .f32) (h : Fin 4) (r : Fin 512) (d : Fin 128) :
    View.ld x (cvRect h) (ix4 0 0 r d) = x (ix4 0 0 r ⟨128 * h.val + d.val, by omega⟩) := by
  pointwise
  blk_ext

/-- An entry of a head's gate. -/
theorem z_entry (x : Vec Ideal S512x512 .bf16) (h : Fin 4) (r : Fin 512) (d : Fin 128) :
    View.ld x (oRect h) (ix2 r d) = x (ix2 r ⟨128 * h.val + d.val, by omega⟩) := by
  pointwise
  blk_ext

/-- An entry of the normalisation's weights. -/
theorem g_entry (x : Vec Ideal S1x128 .f32) (d : Fin 128) : View.ld x gRect (ix2 0 d) = x (ix2 0 d) := by
  pointwise

/-- The factor of the second component. -/
theorem lam_entry (x4 x5 : Vec Ideal S2x64 .f32) :
    k0_pay1 (F := Ideal) (View.ld x4 lamRect) (View.ld x5 lamRect) (ix2 0 0) =
      Ideal.exp (∑ d : Fin 64, x4 (ix2 0 d) * x5 (ix2 0 d)) - Ideal.exp (∑ d : Fin 64, x4 (ix2 1 d) * x5 (ix2 1 d))
        + Ideal.ofBits .f32 0x3EB60549#32 := by
  pointwise [k0_pay1]

/-- A real score of the kernel: the scaled query times the key. -/
theorem score_eq (q k : Fin 64 → ℝ) :
    ∑ d, ((q d : ℝ) : EReal) * scale * ((k d : ℝ) : EReal) = ((Cert.ReferenceIdeal.Read.score q k / Real.log 2 : ℝ) : EReal) := by
  rw [scale_eq]
  simp only [← EReal.coe_mul]
  rw [Cert.Softmax.coe_sum]
  congr 1
  unfold Cert.ReferenceIdeal.Read.score
  rw [Finset.sum_mul, Finset.sum_div]
  exact Finset.sum_congr rfl fun d _ => by ring

/-- A score against a latent key. -/
theorem latent_score (x0 : Vec Ideal S512x512 .bf16) (x1 : Vec Ideal S2048x512 .bf16) (j : Fin 8) (r : Fin 512) (k : Fin 2048)
    (q u : Fin 64 → ℝ) (hq : ∀ d : Fin 64, x0 (ix2 r ⟨64 * j.val + d.val, by omega⟩) = ↑(q d) * scale)
    (hu : ∀ d : Fin 64, x1 (ix2 k ⟨64 * j.val + d.val, by omega⟩) = ↑(u d)) :
    scoresK (F := Ideal) (View.ld x0 (qRect j)) (View.ld x1 (kRect j)) (ix2 r k) = ↑(Cert.ReferenceIdeal.Read.score q u / Real.log 2) := by
  rw [scoresK_apply, ← score_eq]
  exact Finset.sum_congr rfl fun d _ => by rw [q_entry, k_entry, hq, hu]

/-- A score against a cached key. -/
theorem cached_score (x0 : Vec Ideal S512x512 .bf16) (x8 : Vec Ideal S1x1x512x512 .f32) (j : Fin 8) (r : Fin 512) (k : Fin 512)
    (q u : Fin 64 → ℝ) (hq : ∀ d : Fin 64, x0 (ix2 r ⟨64 * j.val + d.val, by omega⟩) = ↑(q d) * scale)
    (hu : ∀ d : Fin 64, x8 (ix4 0 0 k ⟨64 * j.val + d.val, by omega⟩) = ↑(u d)) :
    scoresC (F := Ideal) (View.ld x0 (qRect j)) (View.ld x8 (ckRect j)) (ix2 r k) = ↑(Cert.ReferenceIdeal.Read.score q u / Real.log 2) := by
  rw [scoresC_apply, ← score_eq]
  exact Finset.sum_congr rfl fun d _ => by rw [q_entry, ck_entry, hq, hu]

/-- One head of a grid point, of real queries `Q`, latent keys `K` and cached keys `L`. -/
theorem headAt_real (raw : Bool) (h : Fin 4) (x0 : Vec Ideal S512x512 .bf16) (x1 : Vec Ideal S2048x512 .bf16) (x2 : Vec Ideal S2048x512 .bf16)
    (x3 : Vec Ideal S512x512 .bf16) (x4 x5 : Vec Ideal S2x64 .f32) (x6 : Vec Ideal S1x128 .f32) (x8 x9 : Vec Ideal S1x1x512x512 .f32)
    (r : Fin 512) (e : Fin 128) (Q : Fin 2 → Fin 64 → ℝ) (K : Fin 2 → Fin 2048 → Fin 64 → ℝ) (L : Fin 2 → Fin 512 → Fin 64 → ℝ) (M1 M2 : ℝ)
    (hq : ∀ (c : Fin 2) (d : Fin 64) (D : Fin 512), D.val = h.val * 128 + c.val * 64 + d.val → x0 (ix2 r D) = ↑(Q c d) * scale)
    (hk : ∀ (c : Fin 2) (k : Fin 2048) (d : Fin 64) (D : Fin 512), D.val = h.val * 128 + c.val * 64 + d.val → x1 (ix2 k D) = ↑(K c k d))
    (hl : ∀ (c : Fin 2) (k : Fin 512) (d : Fin 64) (D : Fin 512), D.val = h.val * 128 + c.val * 64 + d.val → x8 (ix4 0 0 k D) = ↑(L c k d))
    (lam : EReal)
    (hlam : lam = Ideal.exp (∑ d : Fin 64, x4 (ix2 0 d) * x5 (ix2 0 d)) - Ideal.exp (∑ d : Fin 64, x4 (ix2 1 d) * x5 (ix2 1 d))
        + Ideal.ofBits .f32 0x3EB60549#32)
    (o : Fin 128 → EReal)
    (ho : ∀ e : Fin 128, o e = Cert.Softmax.attended (fun k => Cert.ReferenceIdeal.Read.score (Q 0) (K 0 k))
      (fun k => Cert.ReferenceIdeal.Read.score (Q 1) (K 1 k)) (fun k => Cert.ReferenceIdeal.Read.score (Q 0) (L 0 k))
      (fun k => Cert.ReferenceIdeal.Read.score (Q 1) (L 1 k)) M1 M2 lam
      (fun k => x2 (ix2 k ⟨128 * h.val + e.val, by omega⟩)) (fun k => x9 (ix4 0 0 k ⟨128 * h.val + e.val, by omega⟩))) :
    headAt (F := Ideal) raw h x0 x1 x2 x3 x4 x5 x6 x8 x9 (ix2 r e) =
      o e * Ideal.rsqrt (Ideal.div (∑ k : Fin 128, o k * o k) (Ideal.ofBits .f32 0x43000000#32)
        + Ideal.ofBits .f32 0x358637BD#32) * x6 (ix2 0 e) * Ideal.ofBits .f32 0x3F24FD5C#32 * x3 (ix2 r ⟨128 * h.val + e.val, by omega⟩) := by
  unfold headAt
  refine (headOf_real raw _ _ _ _ _ _ _ _ _ r e (fun k => Cert.ReferenceIdeal.Read.score (Q 0) (K 0 k))
    (fun k => Cert.ReferenceIdeal.Read.score (Q 1) (K 1 k)) (fun k => Cert.ReferenceIdeal.Read.score (Q 0) (L 0 k))
    (fun k => Cert.ReferenceIdeal.Read.score (Q 1) (L 1 k)) M1 M2 ?_ ?_ ?_ ?_ o ?_).trans ?_
  · exact fun k => latent_score x0 x1 _ r k _ _ (fun d => hq 0 d _ (by simp; omega)) (fun d => hk 0 k d _ (by simp; omega))
  · exact fun k => latent_score x0 x1 _ r k _ _ (fun d => hq 1 d _ (by simp; omega)) (fun d => hk 1 k d _ (by simp; omega))
  · exact fun k => cached_score x0 x8 _ r k _ _ (fun d => hq 0 d _ (by simp; omega)) (fun d => hl 0 k d _ (by simp; omega))
  · exact fun k => cached_score x0 x8 _ r k _ _ (fun d => hq 1 d _ (by simp; omega)) (fun d => hl 1 k d _ (by simp; omega))
  · intro e
    rw [ho e, lam_entry, ← hlam]
    exact congrArg₂ (Cert.Softmax.attended _ _ _ _ M1 M2 lam) (funext fun k => (v_entry x2 h k e).symm) (funext fun k => (cv_entry x9 h k e).symm)
  · rw [g_entry, z_entry]

end Cert.KernelIdeal.Attn
-- ==== Proof.Blocks.lean ====
/- The arrays the launch finds, and every input block of a grid point, as entries of the program's arguments. -/
module

public import proofs.«01_k».proof.Proof.Act
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal.Gen

variable (m : (ℓ : Loc nD τ sig) → Buf (Elt Ideal) ℓ)

/-- The cached keys the launch finds, as the program's argument holds them. -/
theorem ck_read (c : Dev nD) (b : Fin 4) (l : Fin 2) (k : Fin 512) (d : Fin 512) (h : Fin 4) (cc : Fin 2) (dd : Fin 64)
    (hd : d.val = h.val * 128 + cc.val * 64 + dd.val) :
    (show FVec Ideal S4x2x512x512 .f32 from V m c main_v9) (ix4 b l k d)
      = (show FVec Ideal S4x2x512x4x2x64 .f32 from m ((c : Thread nD τ).loc main_arg5)) (ix6 b l k h cc dd) := by
  entry_read
  pointwise
  exact congrArg (show FVec Ideal S4x2x512x4x2x64 .f32 from m ((c : Thread nD τ).loc main_arg5))
    ((ix6_inj ..).2 ⟨rfl, rfl, rfl, Fin.ext (show d.val / 128 = h.val by omega), Fin.ext (show d.val / 64 % 2 = cc.val by omega),
      Fin.ext (show d.val % 64 = dd.val by omega)⟩)

/-- The cached values the launch finds. -/
theorem cv_read (c : Dev nD) (b : Fin 4) (l : Fin 2) (k : Fin 512) (d : Fin 512) (h : Fin 4) (e : Fin 128)
    (hd : d.val = h.val * 128 + e.val) :
    (show FVec Ideal S4x2x512x512 .f32 from V m c main_v10) (ix4 b l k d)
      = (show FVec Ideal S4x2x512x4x128 .f32 from m ((c : Thread nD τ).loc main_arg6)) (ix5 b l k h e) := by
  entry_read
  pointwise
  exact congrArg (show FVec Ideal S4x2x512x4x128 .f32 from m ((c : Thread nD τ).loc main_arg6))
    ((ix5_inj ..).2 ⟨rfl, rfl, rfl, Fin.ext (show d.val / 128 = h.val by omega), Fin.ext (show d.val % 128 = e.val by omega)⟩)

/-- The normalisation's weights the launch finds. -/
theorem g_read (c : Dev nD) (d : Fin 128) :
    (show FVec Ideal S1x128 .f32 from V m c main_v11) (ix2 0 d)
      = (show FVec Ideal S128 .f32 from m ((c : Thread nD τ).loc main_arg3)) (ix1 d) := by
  entry_read
  pointwise

/-- Every window's block at a grid point, by the point's number. -/
theorem idx : ∀ t : Fin cfg0.N, win0_0.index t = ![t.val, 4] ∧ win0_1.index t = ![t.val / 4, 5] ∧ win0_2.index t = ![t.val / 4, 6]
    ∧ win0_3.index t = ![t.val, 7] ∧ win0_4.index t = ![0, 0] ∧ win0_5.index t = ![0, 0] ∧ win0_6.index t = ![0, 0]
    ∧ win0_7.index t = ![0, 0] ∧ win0_8.index t = ![t.val / 4, 1, 0, 0] ∧ win0_9.index t = ![t.val / 4, 1, 0, 0]
    ∧ win0_10.index t = ![t.val, 0] :=
  (by decide +kernel : ∀ t : Fin grid0.N, _)

/-- The query block: 512 rows of the activations, the query columns. -/
theorem blk0 (c : Dev nD) (t : Fin cfg0.N) (r : Fin 512) (d : Fin 512) (R : Fin 8192) (C : Fin 8192)
    (hR : R.val = t.val * 512 + r.val) (hC : C.val = 2048 + d.val) :
    (show FVec Ideal S512x512 .bf16 from iblk m c 0 t) (ix2 r d) = (show FVec Ideal S8192x8192 .bf16 from V m c main_v8) (ix2 R C) := by
  blk_ext [iblk, idx t]

/-- The key block: the batch entry's 2048 rows, the key columns. -/
theorem blk1 (c : Dev nD) (t : Fin cfg0.N) (r : Fin 2048) (d : Fin 512) (R : Fin 8192) (C : Fin 8192)
    (hR : R.val = (t.val / 4) * 2048 + r.val) (hC : C.val = 2560 + d.val) :
    (show FVec Ideal S2048x512 .bf16 from iblk m c 1 t) (ix2 r d) = (show FVec Ideal S8192x8192 .bf16 from V m c main_v8) (ix2 R C) := by
  blk_ext [iblk, idx t]

/-- The value block: its rows, the value columns. -/
theorem blk2 (c : Dev nD) (t : Fin cfg0.N) (r : Fin 2048) (d : Fin 512) (R : Fin 8192) (C : Fin 8192)
    (hR : R.val = (t.val / 4) * 2048 + r.val) (hC : C.val = 3072 + d.val) :
    (show FVec Ideal S2048x512 .bf16 from iblk m c 2 t) (ix2 r d) = (show FVec Ideal S8192x8192 .bf16 from V m c main_v8) (ix2 R C) := by
  blk_ext [iblk, idx t]

/-- The gate block: the query block's rows, the gate columns. -/
theorem blk3 (c : Dev nD) (t : Fin cfg0.N) (r : Fin 512) (d : Fin 512) (R : Fin 8192) (C : Fin 8192)
    (hR : R.val = t.val * 512 + r.val) (hC : C.val = 3584 + d.val) :
    (show FVec Ideal S512x512 .bf16 from iblk m c 3 t) (ix2 r d) = (show FVec Ideal S8192x8192 .bf16 from V m c main_v8) (ix2 R C) := by
  blk_ext [iblk, idx t]

/-- The lambda vectors of the queries. -/
theorem blk4 (c : Dev nD) (t : Fin cfg0.N) (r : Fin 2) (d : Fin 64) :
    (show FVec Ideal S2x64 .f32 from iblk m c 4 t) (ix2 r d) = (show FVec Ideal S2x64 .f32 from m ((c : Thread nD τ).loc main_arg1)) (ix2 r d) := by
  blk_ext [iblk, V, idx t]

/-- The lambda vectors of the keys. -/
theorem blk5 (c : Dev nD) (t : Fin cfg0.N) (r : Fin 2) (d : Fin 64) :
    (show FVec Ideal S2x64 .f32 from iblk m c 5 t) (ix2 r d) = (show FVec Ideal S2x64 .f32 from m ((c : Thread nD τ).loc main_arg2)) (ix2 r d) := by
  blk_ext [iblk, V, idx t]

/-- The normalisation's weights. -/
theorem blk6 (c : Dev nD) (t : Fin cfg0.N) (d : Fin 128) :
    (show FVec Ideal S1x128 .f32 from iblk m c 6 t) (ix2 0 d) = (show FVec Ideal S1x128 .f32 from V m c main_v11) (ix2 0 d) := by
  blk_ext [iblk, idx t]

/-- The cached keys of the batch entry, second layer. -/
theorem blk8 (c : Dev nD) (t : Fin cfg0.N) (r : Fin 512) (d : Fin 512) (b : Fin 4) (hb : b.val = t.val / 4) :
    (show FVec Ideal S1x1x512x512 .f32 from iblk m c 8 t) (ix4 0 0 r d) = (show FVec Ideal S4x2x512x512 .f32 from V m c main_v9) (ix4 b 1 r d) := by
  blk_ext [iblk, idx t]

/-- The cached values of the batch entry, second layer. -/
theorem blk9 (c : Dev nD) (t : Fin cfg0.N) (r : Fin 512) (d : Fin 512) (b : Fin 4) (hb : b.val = t.val / 4) :
    (show FVec Ideal S1x1x512x512 .f32 from iblk m c 9 t) (ix4 0 0 r d) = (show FVec Ideal S4x2x512x512 .f32 from V m c main_v10) (ix4 b 1 r d) := by
  blk_ext [iblk, idx t]

end Cert.KernelIdeal.Attn
-- ==== Proof.RefHead.lean ====
/- The reference's weighted values of a head, of real queries, latent keys and cached keys. -/
module

public import proofs.«01_k».proof.Proof.RefValue

@[expose] public section

set_option maxRecDepth 16384

noncomputable section

namespace Cert.ReferenceIdeal.Read

open Idealize.ShloMosaic

variable (x0 : FVec Ideal S8192x8192 .f32) (x1 x2 : FVec Ideal S2x64 .f32) (x5 : FVec Ideal S4x2x512x4x2x64 .f32)
  (x6 : FVec Ideal S4x2x512x4x128 .f32)

/-- The keys of one component, latent before cached. -/
def keys (K : Fin 2048 → Fin 64 → ℝ) (L : Fin 512 → Fin 64 → ℝ) : Fin 2560 → Fin 64 → ℝ :=
  Fin.addCases (m := 2048) (n := 512) K L

theorem keys_latent (K : Fin 2048 → Fin 64 → ℝ) (L : Fin 512 → Fin 64 → ℝ) (k : Fin 2048) : keys K L (latent k) = K k :=
  Fin.addCases_left k

theorem keys_cached (K : Fin 2048 → Fin 64 → ℝ) (L : Fin 512 → Fin 64 → ℝ) (k : Fin 512) : keys K L (cached k) = L k :=
  Fin.addCases_right k

/-- A statement of every key follows from the latent ones' and the cached ones'. -/
theorem forall_keys {p : Fin 2560 → Prop} (h1 : ∀ k, p (latent k)) (h2 : ∀ k, p (cached k)) (k : Fin 2560) : p k :=
  Fin.addCases (m := 2048) (n := 512) (motive := p) h1 h2 k

/-- The weighted values of a head. -/
theorem head_real (b h : Fin 4) (s : Fin 2048) (Q : Fin 2 → Fin 64 → ℝ) (K : Fin 2 → Fin 2048 → Fin 64 → ℝ) (L : Fin 2 → Fin 512 → Fin 64 → ℝ)
    (hQ : ∀ (c : Fin 2) (d : Fin 64), x0 (ix2 ⟨b.val * 2048 + s.val, by omega⟩ ⟨2048 + (h.val * 128 + c.val * 64 + d.val), by omega⟩) = ↑(Q c d))
    (hK : ∀ (c : Fin 2) (k : Fin 2048) (d : Fin 64),
      x0 (ix2 ⟨b.val * 2048 + k.val, by omega⟩ ⟨2560 + (h.val * 128 + c.val * 64 + d.val), by omega⟩) = ↑(K c k d))
    (hL : ∀ (c : Fin 2) (k : Fin 512) (d : Fin 64), x5 (ix6 b 1 k h c d) = ↑(L c k d)) :
    ∃ M1 M2 : ℝ, ∀ e : Fin 128, val_main_v56 (F := Ideal) x0 x1 x2 x5 x6 (ix4 b s h e)
      = Cert.Softmax.attended (fun k => score (Q 0) (K 0 k)) (fun k => score (Q 1) (K 1 k)) (fun k => score (Q 0) (L 0 k))
          (fun k => score (Q 1) (L 1 k)) M1 M2 (val_main_v27 (F := Ideal) x1 x2 ix0)
          (fun k => x0 (ix2 ⟨b.val * 2048 + k.val, by omega⟩ ⟨3072 + (h.val * 128 + e.val), by omega⟩)) (fun k => x6 (ix5 b 1 k h e)) := by
  obtain ⟨M1, M2, hM⟩ := out_real x0 x1 x2 x5 x6 b h s Q (fun c => keys (K c) (L c)) (fun c d => by rw [query_apply, hQ])
    (fun c k d => by
      revert k
      refine forall_keys (fun k => ?_) (fun k => ?_)
      · rw [keys_latent, key_latent, hK]
      · rw [keys_cached, key_cached, hL])
  refine ⟨M1, M2, fun e => ?_⟩
  rw [hM e]
  simp only [keys_latent, keys_cached, val_latent, val_cached]

end Cert.ReferenceIdeal.Read
-- ==== Proof.Point.lean ====
/- One entry of the output block at a grid point is the reference's entry at that place, the queries and keys being real. -/
module

public import proofs.«01_k».proof.Proof.HeadBlocks
public import proofs.«01_k».proof.Proof.Blocks
public import proofs.«01_k».proof.Proof.RefHead

@[expose] public section

set_option maxRecDepth 16384

noncomputable section

namespace Cert.KernelIdeal.Attn

open Idealize.ShloMosaic Idealize.ShloMosaic.TcCoe
open Cert.KernelIdeal.Gen
open Cert.ReferenceIdeal.Read (head_real normed_apply res_apply lam_apply)

variable (m : (ℓ : Loc nD τ sig) → Buf (Elt Ideal) ℓ)

/-- The reference's result of the kernel's arguments. -/
def want (c : Dev nD) : FVec Ideal S8192x512 .f32 :=
  Cert.ReferenceIdeal.Read.val_main_v74 (F := Ideal) (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg6))

/-- Head `h` of the point's block, row `r`, column `e`, is the reference's entry there. -/
theorem point (c : Dev nD) (t : Fin cfg0.N) (raw : Bool) (h : Fin 4) (r : Fin 512) (e : Fin 128) (R : Fin 8192) (C : Fin 512)
    (hR : R.val = t.val * 512 + r.val) (hC : C.val = 128 * h.val + e.val)
    (f : Fin 8192 → Fin 1024 → ℝ) (g : Fin 4 → Fin 512 → Fin 4 → Fin 2 → Fin 64 → ℝ)
    (hf : ∀ (R : Fin 8192) (C : Fin 1024), (show FVec Ideal S8192x8192 .f32 from m ((c : Thread nD τ).loc main_arg0)) (ix2 R ⟨2048 + C.val, by omega⟩) = ((f R C : ℝ) : EReal))
    (hg : ∀ b k h cc d, (show FVec Ideal S4x2x512x4x2x64 .f32 from m ((c : Thread nD τ).loc main_arg5)) (ix6 b 1 k h cc d) = ((g b k h cc d : ℝ) : EReal)) :
    headAt (F := Ideal) raw h (iblk m c 0 t) (iblk m c 1 t) (iblk m c 2 t) (iblk m c 3 t) (iblk m c 4 t) (iblk m c 5 t) (iblk m c 6 t)
      (iblk m c 8 t) (iblk m c 9 t) (ix2 r e) = want m c (ix2 R C) := by
  have ht : t.val < 16 := t.isLt
  have hb : t.val / 4 < 4 := by omega
  have hs : (t.val % 4) * 512 + r.val < 2048 := by omega
  have ha : ∀ (A : Fin 8192) (C : Fin 1024) (B : Fin 8192), B.val = 2048 + C.val →
      (show FVec Ideal S8192x8192 .f32 from m ((c : Thread nD τ).loc main_arg0)) (ix2 A B) = ((f A C : ℝ) : EReal) := fun A C B hB =>
    (congrArg (show FVec Ideal S8192x8192 .f32 from m ((c : Thread nD τ).loc main_arg0)) ((ix2_inj ..).2 ⟨rfl, Fin.ext hB⟩)).trans (hf A C)
  have hRb : (⟨(t.val / 4) * 2048 + ((t.val % 4) * 512 + r.val), by omega⟩ : Fin 8192) = R := Fin.ext (by
    show (t.val / 4) * 2048 + ((t.val % 4) * 512 + r.val) = R.val
    omega)
  obtain ⟨M1, M2, hM⟩ := head_real (m ((c : Thread nD τ).loc main_arg0)) (m ((c : Thread nD τ).loc main_arg1))
    (m ((c : Thread nD τ).loc main_arg2)) (m ((c : Thread nD τ).loc main_arg5)) (m ((c : Thread nD τ).loc main_arg6))
    ⟨t.val / 4, hb⟩ h ⟨(t.val % 4) * 512 + r.val, hs⟩
    (fun cc d => f R ⟨h.val * 128 + cc.val * 64 + d.val, by omega⟩)
    (fun cc k d => f ⟨(t.val / 4) * 2048 + k.val, by omega⟩ ⟨512 + (h.val * 128 + cc.val * 64 + d.val), by omega⟩)
    (fun cc k d => g ⟨t.val / 4, hb⟩ k h cc d)
    (fun cc d => (congrArg (fun A => (show FVec Ideal S8192x8192 .f32 from m ((c : Thread nD τ).loc main_arg0)) (ix2 A _)) hRb).trans (ha _ _ _ rfl))
    (fun cc k d => ha _ _ _ (by show 2560 + (h.val * 128 + cc.val * 64 + d.val) = 2048 + (512 + (h.val * 128 + cc.val * 64 + d.val)); omega))
    (fun cc k d => hg _ _ _ _ _)
  have hv : want m c (ix2 R C) = _ := res_apply _ _ _ _ _ _ R C
  rw [hv]
  rw [show (ix4 (⟨R.val / 2048, by omega⟩ : Fin 4) (⟨R.val % 2048, by omega⟩ : Fin 2048) (⟨C.val / 128, by omega⟩ : Fin 4) (⟨C.val % 128, by omega⟩ : Fin 128))
      = ix4 ⟨t.val / 4, hb⟩ ⟨(t.val % 4) * 512 + r.val, hs⟩ h e from (ix4_inj ..).2 ⟨Fin.ext (by simp; omega), Fin.ext (by simp; omega), Fin.ext (by simp; omega), Fin.ext (by simp; omega)⟩]
  rw [normed_apply]
  refine (headAt_real raw h _ _ _ _ _ _ _ _ _ r e
    (fun cc d => f R ⟨h.val * 128 + cc.val * 64 + d.val, by omega⟩)
    (fun cc k d => f ⟨(t.val / 4) * 2048 + k.val, by omega⟩ ⟨512 + (h.val * 128 + cc.val * 64 + d.val), by omega⟩)
    (fun cc k d => g ⟨t.val / 4, hb⟩ k h cc d) M1 M2 ?_ ?_ ?_
    (Cert.ReferenceIdeal.Read.val_main_v27 (F := Ideal) (m ((c : Thread nD τ).loc main_arg1)) (m ((c : Thread nD τ).loc main_arg2)) ix0) ?_
    (fun e => Cert.ReferenceIdeal.Read.val_main_v56 (F := Ideal) (m ((c : Thread nD τ).loc main_arg0)) (m ((c : Thread nD τ).loc main_arg1))
      (m ((c : Thread nD τ).loc main_arg2)) (m ((c : Thread nD τ).loc main_arg5)) (m ((c : Thread nD τ).loc main_arg6))
      (ix4 ⟨t.val / 4, hb⟩ ⟨(t.val % 4) * 512 + r.val, hs⟩ h e)) ?_).trans ?_
  · intro cc d D hD
    refine (blk0 m c t r D R ⟨2048 + D.val, by omega⟩ hR rfl).trans ?_
    rw [act_eq]
    refine (act_query _ _ _ (by simp) (by simp; omega)).trans (congrArg (· * scale) ?_)
    exact ha _ _ _ (by show 2048 + D.val = 2048 + (h.val * 128 + cc.val * 64 + d.val); omega)
  · intro cc k d D hD
    refine (blk1 m c t k D ⟨(t.val / 4) * 2048 + k.val, by omega⟩ ⟨2560 + D.val, by omega⟩ rfl rfl).trans ?_
    rw [act_eq]
    refine (act_other _ _ _ (by simp)).trans ?_
    exact ha _ _ _ (by show 2560 + D.val = 2048 + (512 + (h.val * 128 + cc.val * 64 + d.val)); omega)
  · intro cc k d D hD
    refine (blk8 m c t k D ⟨t.val / 4, hb⟩ rfl).trans ?_
    exact (ck_read m c ⟨t.val / 4, hb⟩ 1 k D h cc d hD).trans (hg _ _ _ _ _)
  · rw [lam_apply]
    refine congrArg₂ (fun a b => Ideal.exp a - Ideal.exp b + Ideal.ofBits .f32 0x3EB60549#32) ?_ ?_
    · exact Finset.sum_congr rfl fun d _ => congrArg₂ (· * ·) (blk4 m c t 0 d).symm (blk5 m c t 0 d).symm
    · exact Finset.sum_congr rfl fun d _ => congrArg₂ (· * ·) (blk4 m c t 1 d).symm (blk5 m c t 1 d).symm
  · intro e'
    refine (hM e').trans ?_
    refine congrArg₂ (Cert.Softmax.attended _ _ _ _ M1 M2 _) (funext fun k => ?_) (funext fun k => ?_)
    · refine Eq.symm ((blk2 m c t k _ ⟨(t.val / 4) * 2048 + k.val, by omega⟩ ⟨3072 + (128 * h.val + e'.val), by omega⟩ rfl rfl).trans ?_)
      rw [act_eq]
      refine (act_other _ _ _ (by simp; omega)).trans ?_
      exact congrArg (show FVec Ideal S8192x8192 .f32 from m ((c : Thread nD τ).loc main_arg0)) ((ix2_inj ..).2 ⟨rfl, Fin.ext (by simp; omega)⟩)
    · exact Eq.symm ((blk9 m c t k _ ⟨t.val / 4, hb⟩ rfl).trans (cv_read m c ⟨t.val / 4, hb⟩ 1 k _ h e' (by simp; omega)))
  · refine congrArg₂ (· * ·) (congrArg (· * Ideal.ofBits .f32 0x3F24FD5C#32) (congrArg₂ (· * ·) rfl ?_)) ?_
    · exact (blk6 m c t e).trans (g_read m c e)
    · refine (blk3 m c t r _ R ⟨3584 + (128 * h.val + e.val), by omega⟩ hR rfl).trans ?_
      rw [act_eq]
      refine (act_other _ _ _ (by simp; omega)).trans ?_
      exact congrArg (show FVec Ideal S8192x8192 .f32 from m ((c : Thread nD τ).loc main_arg0)) ((ix2_inj ..).2 ⟨rfl, Fin.ext (by simp; omega)⟩)

/-- The same, the entry's two indices given by their coordinates. -/
theorem point_at (c : Dev nD) (t : Fin cfg0.N) (raw : Bool) (h : Fin 4) (x : S512x128.Idx) (i : S8192x512.Idx)
    (f : Fin 8192 → Fin 1024 → ℝ) (g : Fin 4 → Fin 512 → Fin 4 → Fin 2 → Fin 64 → ℝ)
    (hf : ∀ (R : Fin 8192) (C : Fin 1024), (show FVec Ideal S8192x8192 .f32 from m ((c : Thread nD τ).loc main_arg0)) (ix2 R ⟨2048 + C.val, by omega⟩) = ((f R C : ℝ) : EReal))
    (hg : ∀ b k h cc d, (show FVec Ideal S4x2x512x4x2x64 .f32 from m ((c : Thread nD τ).loc main_arg5)) (ix6 b 1 k h cc d) = ((g b k h cc d : ℝ) : EReal))
    (hi0 : (i 0 : ℕ) = t.val * 512 + (x 0 : ℕ)) (hi1 : (i 1 : ℕ) = 128 * h.val + (x 1 : ℕ)) :
    headAt (F := Ideal) raw h (iblk m c 0 t) (iblk m c 1 t) (iblk m c 2 t) (iblk m c 3 t) (iblk m c 4 t) (iblk m c 5 t) (iblk m c 6 t)
      (iblk m c 8 t) (iblk m c 9 t) x = want m c i := by
  have hx : x = ix2 (x 0) (x 1) := funext fun a => by match a with | ⟨0, _⟩ | ⟨1, _⟩ => rfl
  have hi : i = ix2 (i 0) (i 1) := funext fun a => by match a with | ⟨0, _⟩ | ⟨1, _⟩ => rfl
  rw [hx, hi]
  exact point m c t raw h (x 0) (x 1) (i 0) (i 1) hi0 hi1 f g hf hg

end Cert.KernelIdeal.Attn
-- ==== Proof.Finite.lean ====
/- The precondition, read: the queries' and keys' columns of the projections are real, and so are the layer's cached keys. -/
module

public import proofs.«01_k».proof.Pre_finite
public import Idealize.ShloMosaic.Lib.ReduceAll
public import Idealize.ShloMosaic.Lib.Pointwise

@[expose] public section

set_option maxRecDepth 16384

noncomputable section

namespace Cert.Pre_finite

open Idealize.ShloMosaic

instance : Subsingleton S_.Idx := ⟨fun i j => funext fun a => a.elim0⟩

/-- The bit pattern of infinity. -/
theorem inf_eq : Ideal.ofBits .f32 0x7F800000#32 = (⊤ : EReal) := by
  simp [Ideal.ofBits, Ideal.ieee]

/-- An extended real of finite absolute value is real. -/
theorem real_of_abs (x : EReal) (h : max x (-x) < ⊤) : ∃ a : ℝ, x = (a : EReal) := by
  induction x with
  | bot => simp at h
  | top => simp at h
  | coe a => exact ⟨a, rfl⟩

/-- A comparison that holds, read. -/
theorem real_of_cmp (x : EReal) (h : Ideal.cmp .olt (max x (-x)) (Ideal.ofBits .f32 0x7F800000#32) = 1#1) : ∃ a : ℝ, x = (a : EReal) := by
  rw [inf_eq] at h
  refine real_of_abs x ?_
  by_contra hn
  simp [Ideal.cmp, hn] at h

variable [Facts]
open Facts

/-- Both conjuncts of the precondition, at every entry. -/
theorem reads (a0 : FVec Ideal S8192x8192 .f32) (a1 a2 : FVec Ideal S2x64 .f32) (a3 : FVec Ideal S128 .f32) (a4 : FVec Ideal S2x4 .f32)
    (a5 : FVec Ideal S4x2x512x4x2x64 .f32) (a6 : FVec Ideal S4x2x512x4x128 .f32) (hp : fn a0 a1 a2 a3 a4 a5 a6 = fun _ => 1#1) :
    (∀ (R : Fin 8192) (C : Fin 1024), ∃ a : ℝ, a0 (ix2 R ⟨2048 + C.val, by omega⟩) = (a : EReal))
      ∧ (∀ (b : Fin 4) (k : Fin 512) (h : Fin 4) (c : Fin 2) (d : Fin 64), ∃ a : ℝ, a5 (ix6 b 1 k h c d) = (a : EReal)) := by
  have h0 := congrFun hp ix0
  obtain ⟨h1, h2⟩ := IntOp.andi_eq_one.mp h0
  constructor
  · intro R C
    have e := Host.reduce_andi_all _ _ _ _ _ h1 (ix2 R C)
    refine real_of_cmp _ (Eq.trans ?_ e)
    pointwise
    rfl
  · intro b k h c d
    have e := Host.reduce_andi_all _ _ _ _ _ h2 (ix5 b k h c d)
    refine real_of_cmp _ (Eq.trans ?_ e)
    pointwise
    rfl

end Cert.Pre_finite
-- ==== Proof.Final.lean ====
/- The whole result after the run is the reference's, the precondition holding. -/
module

public import proofs.«01_k».proof.Defs
public import proofs.«01_k».proof.Proof.Point
public import proofs.«01_k».proof.Proof.Finite
public import proofs.«01_k».proof.Proof.Gen.Pre_finite
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal.Gen

variable (m : (ℓ : Loc nD τ sig) → Buf (Elt Ideal) ℓ)

/-- The result array after the run. -/
theorem final (c : Dev nD) (f : Fin 8192 → Fin 1024 → ℝ) (g : Fin 4 → Fin 512 → Fin 4 → Fin 2 → Fin 64 → ℝ)
    (hf : ∀ (R : Fin 8192) (C : Fin 1024), (show FVec Ideal S8192x8192 .f32 from m ((c : Thread nD τ).loc main_arg0)) (ix2 R ⟨2048 + C.val, by omega⟩) = ((f R C : ℝ) : EReal))
    (hg : ∀ b k h cc d, (show FVec Ideal S4x2x512x4x2x64 .f32 from m ((c : Thread nD τ).loc main_arg5)) (ix6 b 1 k h cc d) = ((g b k h cc d : ℝ) : EReal)) :
    (dats m 0 c).arrAt 10 (cfgs 0).N = want m c := by
  refine (dats m 0 c).arrAt_eq_of_covers 10 _ (by decide +kernel) fun t _ y => ?_
  blk_simp
  rw [after_10]
  unfold outAt outBlock stores
  canon_tiles x q
  all_goals refine point_at m c t _ _ x _ f g hf hg ?_ ?_
  all_goals (blk_simp [idx t] <;> omega)

/-- The precondition makes it so. -/
theorem final_pre (hp : Cert.Pre_KernelIdeal_finite m) (c : Dev nD) : (dats m 0 c).arrAt 10 (cfgs 0).N = want m c := by
  obtain ⟨h1, h2⟩ := Cert.Pre_finite.reads _ _ _ _ _ _ _ (hp c)
  choose f hf using h1
  choose g hg using h2
  exact final m c f g hf hg

end Cert.KernelIdeal.Attn
-- ==== Proof.InProjSpec.lean ====
/- The input projections' mathematics at one entry, as both programs compute it, and the one law that joins them: a mean over 64
   neighbours is a sum over all 512 columns weighted 1/64 within the group of 64 and 0 outside it. -/
module

public import proofs.«01_k».proof.Proof.Softmax

@[expose] public section

noncomputable section

namespace Cert.InProj

open Idealize.ShloMosaic

/-- The small constant under both normalisations' square roots. -/
def eps : EReal := Ideal.ofBits .f32 0x358637BD#32

/-- An entry of the projections' input: the row normalised, weighted, scaled and shifted. -/
def hid (x : Fin 1024 → EReal) (g sc sh : EReal) (d : Fin 1024) : EReal :=
  x d * Ideal.rsqrt (Ideal.div (∑ k, x k * x k) (Ideal.ofBits .f32 0x44800000#32) + eps) * g
    * (1 + sc) + sh

/-- A value times its sigmoid. -/
def silu (a : EReal) : EReal := a * Ideal.logistic a

/-- An entry of a group of 64, normalised by the group's mean square and weighted. -/
def normed (p : Fin 64 → EReal) (g : EReal) (j : Fin 64) : EReal :=
  p j * Ideal.rsqrt (Ideal.div (∑ k, p k * p k) (Ideal.ofBits .f32 0x42800000#32) + eps) * g

/-- 1/64 as the kernel writes it. -/
theorem inv64 : Ideal.ofBits .f32 0x3C800000#32 = ((1 / 64 : ℝ) : EReal) := by
  simp [Ideal.ofBits, Ideal.ieee, -EReal.coe_mul]; norm_num

/-- 64 as the reference writes it. -/
theorem sixtyFour : Ideal.ofBits .f32 0x42800000#32 = ((64 : ℝ) : EReal) := by
  simp [Ideal.ofBits, Ideal.ieee, -EReal.coe_mul]; norm_num

/-- The weighted sum over all columns is the group's mean. -/
theorem group_mean (y : Fin 512 → EReal) (q : Fin 8) :
    ∑ k : Fin 512, y k * (if k.val / 64 = q.val then Ideal.ofBits .f32 0x3C800000#32 else 0)
      = Ideal.div (∑ j : Fin 64, y ⟨q.val * 64 + j.val, by omega⟩) (Ideal.ofBits .f32 0x42800000#32) := by
  rw [sixtyFour, Cert.Softmax.div_coe _ (by norm_num : (64 : ℝ) ≠ 0), inv64, mul_comm, show ((64 : ℝ))⁻¹ = 1 / 64 by norm_num,
    ← Cert.Softmax.mul_sum _ _ (by norm_num)]
  rw [← Equiv.sum_comp (finProdFinEquiv : Fin 8 × Fin 64 ≃ Fin 512), Fintype.sum_prod_type, Finset.sum_eq_single q]
  · refine Finset.sum_congr rfl fun j _ => ?_
    rw [if_pos (by simp [finProdFinEquiv]; omega), mul_comm]
    exact congrArg (_ * y ·) (Fin.ext (by simp [finProdFinEquiv]; omega))
  · intro b _ hb
    refine Finset.sum_eq_zero fun j _ => ?_
    rw [if_neg (by simp [finProdFinEquiv]; intro h; exact hb (Fin.ext (by omega))), mul_zero]
  · exact fun h => absurd (Finset.mem_univ q) h

end Cert.InProj
-- ==== Proof.InProjRead.lean ====
/- The input projections: the entries of what a grid point stores, from the point's input blocks. -/
module

public import proofs.«01_k».proof.Proof.InProjSpec
public import proofs.«01_k».proof.Proof.Gen.Kernel2Ideal.Frame
public import Idealize.ShloMosaic.Lib.Pointwise

@[expose] public section

set_option maxRecDepth 16384

noncomputable section

namespace Cert.Kernel2Ideal.InProj

open Idealize.ShloMosaic Idealize.ShloMosaic.TcCoe
open Cert.Kernel2Ideal.Gen
open Cert.InProj

/-- The hidden rows kept in scratch, at an entry. -/
theorem hid_apply (x0 : Vec Ideal S512x1024 .f32) (x2 : Vec Ideal S1x1024 .f32) (sc sh : Vec Ideal S1x1x1024 .f32)
    (r : Fin 512) (d : Fin 1024) :
    k0_pay4 (F := Ideal) x0 x2 sc sh (ix2 r d)
      = hid (fun d => x0 (ix2 r d)) (x2 (ix2 0 d)) (sc (ix3 0 0 d)) (sh (ix3 0 0 d)) d := by
  pointwise [k0_pay4]
  rfl

/-- A projected entry: a hidden row times a column of the weights. -/
def proj (H : Vec Ideal S512x1024 .bf16) (W : Vec Ideal S1x1024x512 .bf16) (r e : Fin 512) : EReal :=
  ∑ j : Fin 1024, H (ix2 r j) * W (ix3 0 j e)

/-- A chunk stored as it is. -/
theorem plain_apply (H : Vec Ideal S512x1024 .bf16) (W : Vec Ideal S1x1024x512 .bf16) (r e : Fin 512) :
    k0_pay5 (F := Ideal) H W (ix2 r e) = proj H W r e := by
  pointwise [k0_pay5]
  rfl

/-- A chunk stored through silu. -/
theorem silu_apply (H : Vec Ideal S512x1024 .bf16) (W : Vec Ideal S1x1024x512 .bf16) (r e : Fin 512) :
    k0_pay9 (F := Ideal) H W (ix2 r e) = silu (proj H W r e) := by
  pointwise [k0_pay9]
  rfl

/-- A chunk stored through the sigmoid. -/
theorem gate_apply (H : Vec Ideal S512x1024 .bf16) (W : Vec Ideal S1x1024x512 .bf16) (r e : Fin 512) :
    k0_pay12 (F := Ideal) H W (ix2 r e) = Ideal.logistic (proj H W r e) := by
  pointwise [k0_pay12]
  rfl

/-- The values' chunk. -/
theorem value_apply (H : Vec Ideal S512x1024 .bf16) (W : Vec Ideal S1x1024x512 .bf16) (r e : Fin 512) :
    k0_pay25 (F := Ideal) H W (ix2 r e) = proj H W r e := by
  pointwise [k0_pay25]
  rfl

/-- The group-mean matrix as the body builds it. -/
def mask : FVec Ideal S512x512 .bf16 :=
  k0_pay21 (F := Ideal) k0_pay18 (iota .tc S512x512 32 [1] iota_S512x512_d1_w32) 64#32 k0_pay19 k0_pay20 0#32

/-- The number of a column's group of 64, as the body computes it. -/
def group (k : Fin 512) : BitVec 32 :=
  Scalar.select
    (IntOp.andi
      (IntOp.cmpi CmpIPredicate.ne
        (IntOp.subi (BitVec.setWidth 32 (IntOp.cmpi CmpIPredicate.sgt (BitVec.ofNat 32 k.val) 0#32))
          (BitVec.setWidth 32 (IntOp.cmpi CmpIPredicate.slt (BitVec.ofNat 32 k.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 k.val) 64#32) 0#32))
    (IntOp.subi (IntOp.divsi ArithUnit.vector (BitVec.ofNat 32 k.val) 64#32) 1#32)
    (IntOp.divsi ArithUnit.vector (BitVec.ofNat 32 k.val) 64#32)

/-- It is the column's number divided by 64. -/
theorem group_eq : ∀ k : Fin 512, group k = BitVec.ofNat 32 (k.val / 64) := by decide +kernel

/-- The group-mean matrix: 1/64 within a group of 64 columns, 0 elsewhere. -/
theorem mask_apply (k d : Fin 512) :
    mask (ix2 k d) = if k.val / 64 = d.val / 64 then Ideal.ofBits .f32 0x3C800000#32 else 0 := by
  have h : mask (ix2 k d) = Scalar.select (IntOp.cmpi CmpIPredicate.eq (group k) (group d)) (Ideal.ofBits .f32 0x3C800000#32) 0 := by
    unfold mask
    pointwise [k0_pay21, k0_pay18, k0_pay19, k0_pay20]
    rfl
  have hk : k.val < 512 := k.isLt
  have hd : d.val < 512 := d.isLt
  rw [h, group_eq, group_eq]
  by_cases e : k.val / 64 = d.val / 64
  · rw [e, if_pos rfl]
    simp [Scalar.select, IntOp.cmpi]
  · rw [if_neg e]
    have hne : BitVec.ofNat 32 (k.val / 64) ≠ BitVec.ofNat 32 (d.val / 64) := fun h => e (by
      have := congrArg BitVec.toNat h
      simp only [BitVec.toNat_ofNat] at this
      omega)
    have hb : (BitVec.ofNat 32 (k.val / 64) == BitVec.ofNat 32 (d.val / 64)) = false := beq_false_of_ne hne
    simp [Scalar.select, IntOp.cmpi, hb]

/-- A chunk normalised by groups of 64 (the keys'). -/
theorem key_apply (P : FVec Ideal S512x512 .f32) (g : Vec Ideal S1x512 .f32) (r e : Fin 512) :
    k0_pay24 (F := Ideal) mask P g (ix2 r e)
      = normed (fun j => P (ix2 r ⟨e.val / 64 * 64 + j.val, by omega⟩)) (g (ix2 0 e)) ⟨e.val % 64, by omega⟩ := by
  have h : k0_pay24 (F := Ideal) mask P g (ix2 r e)
      = P (ix2 r e) * Ideal.rsqrt ((∑ k : Fin 512, P (ix2 r k) * P (ix2 r k) * mask (ix2 k e)) + eps) * g (ix2 0 e) := by
    pointwise [k0_pay24]
    rfl
  rw [h]
  refine congrArg₂ (· * ·) (congrArg₂ (fun a b => a * Ideal.rsqrt (b + eps)) ?_ ?_) rfl
  · exact congrArg P ((ix2_inj ..).2 ⟨rfl, Fin.ext (by show e.val = e.val / 64 * 64 + e.val % 64; omega)⟩)
  · simp only [mask_apply]
    exact group_mean (fun k => P (ix2 r k) * P (ix2 r k)) ⟨e.val / 64, by omega⟩

/-- The same of the queries' chunk. -/
theorem query_apply (H : Vec Ideal S512x1024 .bf16) (W : Vec Ideal S1x1024x512 .bf16) (g : Vec Ideal S1x512 .f32) (r e : Fin 512) :
    k0_pay22 (F := Ideal) k0_pay18 (iota .tc S512x512 32 [1] iota_S512x512_d1_w32) 64#32 k0_pay19 k0_pay20 0#32 H W g (ix2 r e)
      = normed (fun j => proj H W r ⟨e.val / 64 * 64 + j.val, by omega⟩) (g (ix2 0 e)) ⟨e.val % 64, by omega⟩ := by
  have h : k0_pay22 (F := Ideal) k0_pay18 (iota .tc S512x512 32 [1] iota_S512x512_d1_w32) 64#32 k0_pay19 k0_pay20 0#32 H W g
      = k0_pay24 (F := Ideal) mask (k0_pay23 (F := Ideal) H W) g := rfl
  rw [h, key_apply]
  refine congrArg (fun p => normed p _ _) (funext fun j => ?_)
  pointwise [k0_pay23]
  rfl

/-- The queries' scale, the named constant: an eighth over the logarithm of 2. -/
theorem scaled_apply (P : FVec Ideal S512x512 .f32) (r e : Fin 512) :
    k0_pay1 (F := Ideal) P (ix2 r e) = P (ix2 r e) * (((1 / 8) * (Real.log 2)⁻¹ : ℝ) : EReal) := by
  pointwise [k0_pay1]
  rfl

/-- The keys' two stores into the new slots: the chunk's rows, 256 to a batch entry. -/
theorem new_key_apply (M : FVec Ideal S512x512 .bf16) (P : FVec Ideal S512x512 .f32) (g : Vec Ideal S1x512 .f32) (s : Fin 256) (e : Fin 512) :
    k0_pay26 (F := Ideal) M P g (ix4 0 0 s e) = k0_pay24 (F := Ideal) M P g (ix2 ⟨s.val, by omega⟩ e)
    ∧ k0_pay27 (F := Ideal) M P g (ix4 0 0 s e) = k0_pay24 (F := Ideal) M P g (ix2 ⟨256 + s.val, by omega⟩ e) := by
  refine ⟨?_, ?_⟩
  · pointwise [k0_pay26]
  · pointwise [k0_pay27]

/-- The values' likewise. -/
theorem new_value_apply (H : Vec Ideal S512x1024 .bf16) (W : Vec Ideal S1x1024x512 .bf16) (s : Fin 256) (e : Fin 512) :
    k0_pay28 (F := Ideal) H W (ix4 0 0 s e) = proj H W ⟨s.val, by omega⟩ e
    ∧ k0_pay29 (F := Ideal) H W (ix4 0 0 s e) = proj H W ⟨256 + s.val, by omega⟩ e := by
  simp only [← value_apply]
  refine ⟨?_, ?_⟩
  · pointwise [k0_pay28]
  · pointwise [k0_pay29]

end Cert.Kernel2Ideal.InProj
-- ==== Proof.InProjBlocks.lean ====
/- The input projections: the arrays the launch finds, and every input block of a grid point, as entries of the arguments. -/
module

public import proofs.«01_k».proof.Proof.InProjRead
public import Idealize.ShloMosaic.Lib.Pipeline.ValueKit
public import Idealize.ShloMosaic.Lib.Claim

@[expose] public section

set_option maxRecDepth 16384

noncomputable section

namespace Cert.Kernel2Ideal.InProj

open Idealize.ShloMosaic Idealize.ShloMosaic.TcCoe Idealize.SL.Sem
open Idealize.ShloMosaic.Pipeline (Dat)
open Cert.Kernel2Ideal.Gen

variable (m : (ℓ : Loc nD τ sig) → Buf (Elt Ideal) ℓ)

/-- The modulation the launch finds. -/
theorem mod_read (c : Dev nD) (b : Fin 8) (d : Fin 3072) :
    (show FVec Ideal S8x1x3072 .f32 from V m c main_v8) (ix3 b 0 d)
      = (show FVec Ideal S8x3072 .f32 from m ((c : Thread nD τ).loc main_arg1)) (ix2 b d) := by
  entry_read
  pointwise

/-- The row normalisation's weights the launch finds. -/
theorem norm_read (c : Dev nD) (d : Fin 1024) :
    (show FVec Ideal S1x1024 .f32 from V m c main_v9) (ix2 0 d)
      = (show FVec Ideal S1024 .f32 from m ((c : Thread nD τ).loc main_arg2)) (ix1 d) := by
  entry_read
  pointwise

/-- The projection's weights: the ideal cast changes nothing. -/
theorem w_read (c : Dev nD) : V m c main_v10 = m ((c : Thread nD τ).loc main_arg3) := rfl

/-- The queries' normalisation's weights, one copy for each group of 64. -/
theorem gq_read (c : Dev nD) (e : Fin 512) :
    (show FVec Ideal S1x512 .f32 from V m c main_v3) (ix2 0 e)
      = (show FVec Ideal S64 .f32 from m ((c : Thread nD τ).loc main_arg4)) (ix1 ⟨e.val % 64, by omega⟩) := by
  entry_read
  pointwise

/-- The keys' likewise. -/
theorem gk_read (c : Dev nD) (e : Fin 512) :
    (show FVec Ideal S1x512 .f32 from V m c main_v7) (ix2 0 e)
      = (show FVec Ideal S64 .f32 from m ((c : Thread nD τ).loc main_arg5)) (ix1 ⟨e.val % 64, by omega⟩) := by
  entry_read
  pointwise

/-- Every window's block at a grid point, by the point's number. -/
theorem idx : ∀ t : Fin cfg0.N, win0_0.index t = ![t.val, 0] ∧ win0_1.index t = ![0, 0, 0] ∧ win0_2.index t = ![0, 0]
    ∧ win0_3.index t = ![1, 0, 0] ∧ win0_4.index t = ![0, 0] ∧ win0_5.index t = ![0, 0] ∧ win0_6.index t = ![t.val, 0]
    ∧ win0_7.index t = ![t.val, 1, 0, 0] ∧ win0_8.index t = ![t.val, 1, 0, 0] :=
  (by decide +kernel : ∀ t : Fin grid0.N, _)

/-- The layer input's block: 512 rows. -/
theorem blk0 (c : Dev nD) (t : Fin cfg0.N) (r : Fin 512) (d : Fin 1024) (R : Fin 8192) (hR : R.val = t.val * 512 + r.val) :
    (show FVec Ideal S512x1024 .f32 from iblk m c 0 t) (ix2 r d)
      = (show FVec Ideal S8192x1024 .f32 from m ((c : Thread nD τ).loc main_arg0)) (ix2 R d) := by
  blk_ext [iblk, V, idx t]

/-- The modulation's block: the contexts' row. -/
theorem blk1 (c : Dev nD) (t : Fin cfg0.N) (d : Fin 3072) :
    (show FVec Ideal S1x1x3072 .f32 from iblk m c 1 t) (ix3 0 0 d)
      = (show FVec Ideal S8x3072 .f32 from m ((c : Thread nD τ).loc main_arg1)) (ix2 0 d) := by
  refine Eq.trans ?_ (mod_read m c 0 d)
  blk_ext [iblk, idx t]

/-- The row normalisation's weights. -/
theorem blk2 (c : Dev nD) (t : Fin cfg0.N) (d : Fin 1024) :
    (show FVec Ideal S1x1024 .f32 from iblk m c 2 t) (ix2 0 d)
      = (show FVec Ideal S1024 .f32 from m ((c : Thread nD τ).loc main_arg2)) (ix1 d) := by
  refine Eq.trans ?_ (norm_read m c d)
  blk_ext [iblk, idx t]

/-- The projection's weights: the second layer's. -/
theorem blk3 (c : Dev nD) (t : Fin cfg0.N) (j : Fin 1024) (C : Fin 8192) :
    (show FVec Ideal S1x1024x8192 .bf16 from iblk m c 3 t) (ix3 0 j C)
      = (show FVec Ideal S2x1024x8192 .f32 from m ((c : Thread nD τ).loc main_arg3)) (ix3 1 j C) := by
  refine Eq.trans ?_ (congrFun (w_read m c) (ix3 1 j C))
  blk_ext [iblk, idx t]

/-- The queries' normalisation's weights. -/
theorem blk4 (c : Dev nD) (t : Fin cfg0.N) (e : Fin 512) :
    (show FVec Ideal S1x512 .f32 from iblk m c 4 t) (ix2 0 e)
      = (show FVec Ideal S64 .f32 from m ((c : Thread nD τ).loc main_arg4)) (ix1 ⟨e.val % 64, by omega⟩) := by
  refine Eq.trans ?_ (gq_read m c e)
  blk_ext [iblk, idx t]

/-- The keys' likewise. -/
theorem blk5 (c : Dev nD) (t : Fin cfg0.N) (e : Fin 512) :
    (show FVec Ideal S1x512 .f32 from iblk m c 5 t) (ix2 0 e)
      = (show FVec Ideal S64 .f32 from m ((c : Thread nD τ).loc main_arg5)) (ix1 ⟨e.val % 64, by omega⟩) := by
  refine Eq.trans ?_ (gk_read m c e)
  blk_ext [iblk, idx t]

/-- A chunk of the weights' block: 512 columns from column `o`. -/
theorem chunk (X : Vec Ideal S1x1024x8192 .bf16) (o : ℕ)
    (h : ∀ a, (![0, 0, o] : Fin 3 → ℕ) a + (![1, 1024, 512] : Fin 3 → ℕ) a ≤ S1x1024x8192.size a)
    (j : Fin 1024) (e : Fin 512) (C : Fin 8192) (hC : C.val = o + e.val) :
    (show Vec Ideal S1x1024x512 .bf16 from View.ld (Val := Elt Ideal) (S := S1x1024x8192) (e' := .bf16) X (Rect.unit ![0, 0, o] ![1, 1024, 512] h))
      (ix3 0 j e) = X (ix3 0 j C) :=
  View.ld_unit_apply_of X _ _ h _ (ix3 0 j C) fun a => by
    match a with
    | ⟨0, _⟩ => rfl
    | ⟨1, _⟩ => exact (Nat.zero_add _).symm
    | ⟨2, _⟩ => exact hC

/-- The hidden rows of a grid point. -/
def rows (c : Dev nD) (t : Fin cfg0.N) : FVec Ideal S512x1024 .bf16 :=
  k0_pay4 (F := Ideal) (iblk m c 0 t) (iblk m c 2 t)
    (View.ld (iblk m c 1 t) (Rect.unit ![0, 0, 1024] ![1, 1, 1024] inb_S1x1x3072_S1x1x1024_0_0_1024))
    (View.ld (iblk m c 1 t) (Rect.unit ![0, 0, 0] ![1, 1, 1024] inb_S1x1x3072_S1x1x1024_0_0_0))

end Cert.Kernel2Ideal.InProj
-- ==== Proof.InProjRef.lean ====
/- The reference of the input projections, read at an entry. -/
module

public import proofs.«01_k».proof.Proof.InProjSpec
public import proofs.«01_k».proof.Proof.Act
public import proofs.«01_k».proof.Proof.Gen.Reference2Ideal.Read
public import Idealize.ShloMosaic.Lib.Pointwise
public import Idealize.ShloMosaic.Lib.KernelVsHost

@[expose] public section

set_option maxRecDepth 16384

noncomputable section

namespace Cert.Reference2Ideal.Read

open Idealize.ShloMosaic Idealize.ShloMosaic.TcCoe
open Cert.Reference2Ideal.Gen
open Cert.InProj

variable (x0 : FVec Ideal S8192x1024 .f32) (x1 : FVec Ideal S8x3072 .f32) (x2 : FVec Ideal S1024 .f32)
  (x3 : FVec Ideal S2x1024x8192 .f32) (x4 x5 : FVec Ideal S64 .f32) (x6 x7 : FVec Ideal S32x2x256x512 .f32)

/-- The projections' input. -/
theorem hid_apply (R : Fin 8192) (d : Fin 1024) :
    val_main_v22 (F := Ideal) x0 x1 x2 (ix2 R d)
      = hid (fun d => x0 (ix2 R d)) (x2 (ix1 d)) (x1 (ix2 0 ⟨1024 + d.val, by omega⟩)) (x1 (ix2 0 ⟨d.val, by omega⟩)) d := by
  have h : val_main_v5 (F := Ideal) x0 (ix1 R) = ∑ k : Fin 1024, x0 (ix2 R k) * x0 (ix2 R k) := by
    rw [val_main_v5_apply, val_main_cst_apply]
    refine (congrArg (· + _) (by simp : (FloatOps.ofBits .f32 0x00000000#32 : Ideal .f32) = 0)).trans ((zero_add _).trans ?_)
    refine Finset.sum_congr rfl fun k _ => ?_
    rw [val_main_v4_apply]
    exact congrArg (fun i => x0 i * x0 i) (funext fun a => by match a with | ⟨0, _⟩ | ⟨1, _⟩ => rfl)
  unfold hid
  rw [← h]
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v2, val_main_v1, val_main_v0, val_main_cst_0, val_main_cst_1, val_main_cst_2]
  rfl

/-- A projected entry. -/
def proj (R C : Fin 8192) : EReal :=
  ∑ j : Fin 1024, hid (fun d => x0 (ix2 R d)) (x2 (ix1 j)) (x1 (ix2 0 ⟨1024 + j.val, by omega⟩)) (x1 (ix2 0 ⟨j.val, by omega⟩)) j
    * x3 (ix3 1 j C)

/-- The projections. -/
theorem proj_apply (R C : Fin 8192) : val_main_v25 (F := Ideal) x0 x1 x2 x3 (ix2 R C) = proj x0 x1 x2 x3 R C := by
  rw [val_main_v25_apply]
  refine Finset.sum_congr rfl fun j _ => congrArg₂ (· * ·) ?_ ?_
  · exact (congrArg (val_main_v22 (F := Ideal) x0 x1 x2) (funext fun a => by match a with | ⟨0, _⟩ | ⟨1, _⟩ => rfl)).trans
      (hid_apply x0 x1 x2 R j)
  · have e : ridx_main_v25 (ix2 R C) j = ix2 j C := funext fun a => by match a with | ⟨0, _⟩ | ⟨1, _⟩ => rfl
    rw [e]
    pointwise [val_main_v24, val_main_v23]

/-- The queries, normalised by groups of 64. -/
theorem query_apply (R : Fin 8192) (e : Fin 512) :
    val_main_v49 (F := Ideal) x0 x1 x2 x3 x4 (ix2 R e)
      = normed (fun j => proj x0 x1 x2 x3 R ⟨2048 + (e.val / 64 * 64 + j.val), by omega⟩) (x4 (ix1 ⟨e.val % 64, by omega⟩)) ⟨e.val % 64, by omega⟩ := by
  have h : ∀ (k : Fin 64) (d : Fin 512), d.val = e.val / 64 * 64 + k.val → val_main_v28 (F := Ideal) x0 x1 x2 x3 (ix2 R d)
      = proj x0 x1 x2 x3 R ⟨2048 + (e.val / 64 * 64 + k.val), by omega⟩ := fun k d hd => by
    rw [← proj_apply, show d = ⟨e.val / 64 * 64 + k.val, by omega⟩ from Fin.ext hd]
    pointwise [val_main_v28]
  pointwise [val_main_v49, val_main_v48, val_main_v47, val_main_v46, val_main_v45, val_main_v44, val_main_v43, val_main_v42, val_main_v41, val_main_v40, val_main_v39, val_main_v38, val_main_v37, val_main_v36, val_main_v35, val_main_cst_3, val_main_cst_4, val_main_cst_5]
  refine congrArg₂ (· * ·) (congrArg₂ (fun a b => a * Ideal.rsqrt (Ideal.div b _ + eps)) (h _ _ ?_) (Finset.sum_congr rfl fun k _ => ?_)) rfl
  · show e.val = e.val / 64 * 64 + e.val % 64
    omega
  · rw [h k _ (by show e.val / 128 * 128 + e.val / 64 % 2 * 64 + k.val = e.val / 64 * 64 + k.val; omega)]

/-- The keys, normalised by groups of 64. -/
theorem key_apply (R : Fin 8192) (e : Fin 512) :
    val_main_v64 (F := Ideal) x0 x1 x2 x3 x5 (ix2 R e)
      = normed (fun j => proj x0 x1 x2 x3 R ⟨2560 + (e.val / 64 * 64 + j.val), by omega⟩) (x5 (ix1 ⟨e.val % 64, by omega⟩)) ⟨e.val % 64, by omega⟩ := by
  have h : ∀ (k : Fin 64) (d : Fin 512), d.val = e.val / 64 * 64 + k.val → val_main_v29 (F := Ideal) x0 x1 x2 x3 (ix2 R d)
      = proj x0 x1 x2 x3 R ⟨2560 + (e.val / 64 * 64 + k.val), by omega⟩ := fun k d hd => by
    rw [← proj_apply, show d = ⟨e.val / 64 * 64 + k.val, by omega⟩ from Fin.ext hd]
    pointwise [val_main_v29]
  pointwise [val_main_v64, val_main_v63, val_main_v62, val_main_v61, val_main_v60, val_main_v59, val_main_v58, val_main_v57, val_main_v56, val_main_v55, val_main_v54, val_main_v53, val_main_v52, val_main_v51, val_main_v50, val_main_cst_6, val_main_cst_7, val_main_cst_8]
  refine congrArg₂ (· * ·) (congrArg₂ (fun a b => a * Ideal.rsqrt (Ideal.div b _ + eps)) (h _ _ ?_) (Finset.sum_congr rfl fun k _ => ?_)) rfl
  · show e.val = e.val / 64 * 64 + e.val % 64
    omega
  · rw [h k _ (by show e.val / 128 * 128 + e.val / 64 % 2 * 64 + k.val = e.val / 64 * 64 + k.val; omega)]

/-- The queries' scale: an eighth over the logarithm of 2. -/
theorem scaled_apply (R : Fin 8192) (e : Fin 512) :
    val_main_v69 (F := Ideal) x0 x1 x2 x3 x4 (ix2 R e)
      = val_main_v49 (F := Ideal) x0 x1 x2 x3 x4 (ix2 R e) * (((1 / 8) * (Real.log 2)⁻¹ : ℝ) : EReal) := by
  have h : val_main_v69 (F := Ideal) x0 x1 x2 x3 x4 (ix2 R e) = Ideal.div (val_main_v49 (F := Ideal) x0 x1 x2 x3 x4 (ix2 R e)
      * Ideal.ofBits .f32 0x3E000000#32) (Ideal.log (Ideal.ofBits .f32 0x40000000#32)) := by
    pointwise [val_main_v69, val_main_v68, val_main_v67, val_main_v66, val_main_v65, val_main_cst_9, val_main_cst_10]
  have hl : Ideal.log (((2 : ℝ) : EReal)) = ((Real.log 2 : ℝ) : EReal) := by
    show (if (2 : ℝ) ≤ 0 then (⊥ : EReal) else ((Real.log 2 : ℝ) : EReal)) = _
    rw [if_neg (by norm_num)]
  rw [h, Cert.KernelIdeal.Attn.eighth, Cert.KernelIdeal.Attn.two, hl, Cert.Softmax.div_coe _ (Real.log_pos (by norm_num)).ne',
    mul_assoc, ← EReal.coe_mul]

/-- The columns kept as they are: the long convolution's three inputs, the values and the pool's input. -/
theorem act_plain (R C : Fin 8192) (hC : C.val < 1536 ∨ 3072 ≤ C.val ∧ C.val < 3584 ∨ 4096 ≤ C.val ∧ C.val < 4608) :
    val_main_v80 (F := Ideal) x0 x1 x2 x3 x4 x5 (ix2 R C) = proj x0 x1 x2 x3 R C := by
  rw [← proj_apply]
  pointwise [val_main_v80, val_main_v79]
  rcases hC with h | h | h
  · rw [dif_pos h]
    pointwise [val_main_v26]
  · rw [dif_neg (by omega), dif_neg (by omega), dif_neg (by omega), dif_neg (by omega), dif_pos (by omega)]
    pointwise [val_main_v30]
    exact congrArg (val_main_v25 (F := Ideal) x0 x1 x2 x3) ((ix2_inj ..).2 ⟨rfl, Fin.ext (by simp; omega)⟩)
  · rw [dif_neg (by omega), dif_neg (by omega), dif_neg (by omega), dif_neg (by omega), dif_neg (by omega), dif_neg (by omega),
      dif_pos (by omega)]
    pointwise [val_main_v32]
    exact congrArg (val_main_v25 (F := Ideal) x0 x1 x2 x3) ((ix2_inj ..).2 ⟨rfl, Fin.ext (by simp; omega)⟩)

/-- The silu of the long convolution's gate. -/
theorem silu_v70 (R : Fin 8192) (e : Fin 512) :
    val_main_v70 (F := Ideal) x0 x1 x2 x3 (ix2 R e) = silu (val_main_v27 (F := Ideal) x0 x1 x2 x3 (ix2 R e)) := by
  pointwise [val_main_v70, val_main_call0_v5, val_main_call0_v4, val_main_call0_v3, val_main_call0_v2, val_main_call0_v1,
    val_main_call0_v0, val_main_call0_cst, val_main_call0_cst_0]
  rfl

/-- The silu of the attention's gate. -/
theorem silu_v71 (R : Fin 8192) (e : Fin 512) :
    val_main_v71 (F := Ideal) x0 x1 x2 x3 (ix2 R e) = silu (val_main_v31 (F := Ideal) x0 x1 x2 x3 (ix2 R e)) := by
  pointwise [val_main_v71, val_main_call1_v5, val_main_call1_v4, val_main_call1_v3, val_main_call1_v2, val_main_call1_v1,
    val_main_call1_v0, val_main_call1_cst, val_main_call1_cst_0]
  rfl

/-- The silu of the pool's gate. -/
theorem silu_v72 (R : Fin 8192) (e : Fin 512) :
    val_main_v72 (F := Ideal) x0 x1 x2 x3 (ix2 R e) = silu (val_main_v33 (F := Ideal) x0 x1 x2 x3 (ix2 R e)) := by
  pointwise [val_main_v72, val_main_call2_v5, val_main_call2_v4, val_main_call2_v3, val_main_call2_v2, val_main_call2_v1,
    val_main_call2_v0, val_main_call2_cst, val_main_call2_cst_0]
  rfl

/-- The sigmoid of the merge gates. -/
theorem logistic_v78 (R : Fin 8192) (e : Fin 3072) :
    val_main_v78 (F := Ideal) x0 x1 x2 x3 (ix2 R e) = Ideal.logistic (val_main_v34 (F := Ideal) x0 x1 x2 x3 (ix2 R e)) := by
  pointwise [val_main_v78, val_main_v77, val_main_v76, val_main_v75, val_main_v74, val_main_v73, val_main_cst_11, val_main_cst_12]
  rfl

/-- The columns through silu: the mixers' gates. -/
theorem act_silu (R C : Fin 8192)
    (hC : 1536 ≤ C.val ∧ C.val < 2048 ∨ 3584 ≤ C.val ∧ C.val < 4096 ∨ 4608 ≤ C.val ∧ C.val < 5120) :
    val_main_v80 (F := Ideal) x0 x1 x2 x3 x4 x5 (ix2 R C) = silu (proj x0 x1 x2 x3 R C) := by
  rw [← proj_apply]
  pointwise [val_main_v80, val_main_v79]
  rcases hC with h | h | h
  · rw [dif_neg (by omega), dif_pos (by omega)]
    exact (silu_v70 x0 x1 x2 x3 R _).trans (congrArg silu (by
      pointwise [val_main_v27]
      exact congrArg (val_main_v25 (F := Ideal) x0 x1 x2 x3) ((ix2_inj ..).2 ⟨rfl, Fin.ext (by simp; omega)⟩)))
  · rw [dif_neg (by omega), dif_neg (by omega), dif_neg (by omega), dif_neg (by omega), dif_neg (by omega), dif_pos (by omega)]
    exact (silu_v71 x0 x1 x2 x3 R _).trans (congrArg silu (by
      pointwise [val_main_v31]
      exact congrArg (val_main_v25 (F := Ideal) x0 x1 x2 x3) ((ix2_inj ..).2 ⟨rfl, Fin.ext (by simp; omega)⟩)))
  · rw [dif_neg (by omega), dif_neg (by omega), dif_neg (by omega), dif_neg (by omega), dif_neg (by omega), dif_neg (by omega),
      dif_neg (by omega), dif_pos (by omega)]
    exact (silu_v72 x0 x1 x2 x3 R _).trans (congrArg silu (by
      pointwise [val_main_v33]
      exact congrArg (val_main_v25 (F := Ideal) x0 x1 x2 x3) ((ix2_inj ..).2 ⟨rfl, Fin.ext (by simp; omega)⟩)))

/-- The columns through the sigmoid: the merge gates. -/
theorem act_gate (R C : Fin 8192) (hC : 5120 ≤ C.val) :
    val_main_v80 (F := Ideal) x0 x1 x2 x3 x4 x5 (ix2 R C) = Ideal.logistic (proj x0 x1 x2 x3 R C) := by
  rw [← proj_apply]
  pointwise [val_main_v80, val_main_v79]
  rw [dif_neg (by omega), dif_neg (by omega), dif_neg (by omega), dif_neg (by omega), dif_neg (by omega), dif_neg (by omega),
    dif_neg (by omega), dif_neg (by omega)]
  exact (logistic_v78 x0 x1 x2 x3 R _).trans (congrArg Ideal.logistic (by
    pointwise [val_main_v34]
    exact congrArg (val_main_v25 (F := Ideal) x0 x1 x2 x3) ((ix2_inj ..).2 ⟨rfl, Fin.ext (by simp; omega)⟩)))

/-- The query columns. -/
theorem act_query (R C : Fin 8192) (e : Fin 512) (hC : C.val = 2048 + e.val) :
    val_main_v80 (F := Ideal) x0 x1 x2 x3 x4 x5 (ix2 R C)
      = normed (fun j => proj x0 x1 x2 x3 R ⟨2048 + (e.val / 64 * 64 + j.val), by omega⟩) (x4 (ix1 ⟨e.val % 64, by omega⟩)) ⟨e.val % 64, by omega⟩
        * (((1 / 8) * (Real.log 2)⁻¹ : ℝ) : EReal) := by
  rw [← query_apply, ← scaled_apply]
  pointwise [val_main_v80, val_main_v79]
  rw [dif_neg (by omega), dif_neg (by omega), dif_pos (by omega)]
  exact congrArg (val_main_v69 (F := Ideal) x0 x1 x2 x3 x4) ((ix2_inj ..).2 ⟨rfl, Fin.ext (by simp; omega)⟩)

/-- The key columns. -/
theorem act_key (R C : Fin 8192) (e : Fin 512) (hC : C.val = 2560 + e.val) :
    val_main_v80 (F := Ideal) x0 x1 x2 x3 x4 x5 (ix2 R C)
      = normed (fun j => proj x0 x1 x2 x3 R ⟨2560 + (e.val / 64 * 64 + j.val), by omega⟩) (x5 (ix1 ⟨e.val % 64, by omega⟩)) ⟨e.val % 64, by omega⟩ := by
  rw [← key_apply]
  pointwise [val_main_v80, val_main_v79]
  rw [dif_neg (by omega), dif_neg (by omega), dif_neg (by omega), dif_pos (by omega)]
  exact congrArg (val_main_v64 (F := Ideal) x0 x1 x2 x3 x5) ((ix2_inj ..).2 ⟨rfl, Fin.ext (by simp; omega)⟩)

/-- The new keys: the first layer's slot as it was, the second layer's the keys. -/
theorem new_k_apply (b : Fin 32) (l : Fin 2) (s : Fin 256) (e : Fin 512) :
    val_main_v86 (F := Ideal) x0 x1 x2 x3 x5 x6 (ix4 b l s e)
      = if l.val < 1 then x6 (ix4 b 0 s e) else val_main_v64 (F := Ideal) x0 x1 x2 x3 x5 (ix2 ⟨b.val * 256 + s.val, by omega⟩ e) := by
  pointwise [val_main_v86, val_main_v85, val_main_v84, val_main_v83, val_main_v82, val_main_v81]
  rfl

/-- The new values likewise. -/
theorem new_v_apply (b : Fin 32) (l : Fin 2) (s : Fin 256) (e : Fin 512) :
    val_main_v92 (F := Ideal) x0 x1 x2 x3 x7 (ix4 b l s e)
      = if l.val < 1 then x7 (ix4 b 0 s e) else proj x0 x1 x2 x3 ⟨b.val * 256 + s.val, by omega⟩ ⟨3072 + e.val, by omega⟩ := by
  simp only [← proj_apply]
  pointwise [val_main_v92, val_main_v91, val_main_v90, val_main_v89, val_main_v88, val_main_v87, val_main_v30]
  rfl

end Cert.Reference2Ideal.Read
-- ==== Proof.InProjFinal.lean ====
/- The input projections: the whole results after the run are the reference's. -/
module

public import proofs.«01_k».proof.Proof.InProjBlocks
public import proofs.«01_k».proof.Proof.InProjRef

@[expose] public section

set_option maxRecDepth 16384

noncomputable section

namespace Cert.Kernel2Ideal.InProj

open Idealize.ShloMosaic Idealize.ShloMosaic.TcCoe Idealize.SL.Sem
open Idealize.ShloMosaic.Pipeline (Dat)
open Cert.Kernel2Ideal.Gen
open Cert.InProj

variable (m : (ℓ : Loc nD τ sig) → Buf (Elt Ideal) ℓ)

/-- An entry of the reference's projections of the kernel's arguments. -/
def entry (c : Dev nD) (R C : Fin 8192) : EReal :=
  Cert.Reference2Ideal.Read.proj (m ((c : Thread nD τ).loc main_arg0)) (m ((c : Thread nD τ).loc main_arg1))
    (m ((c : Thread nD τ).loc main_arg2)) (m ((c : Thread nD τ).loc main_arg3)) R C

/-- The reference's activations of the kernel's arguments. -/
def want (c : Dev nD) : FVec Ideal S8192x8192 .bf16 :=
  Cert.Reference2Ideal.Read.val_main_v80 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- A hidden entry of a grid point. -/
theorem rows_apply (c : Dev nD) (t : Fin cfg0.N) (r : Fin 512) (d : Fin 1024) (R : Fin 8192) (hR : R.val = t.val * 512 + r.val) :
    rows m c t (ix2 r d)
      = hid (fun d => (show FVec Ideal S8192x1024 .f32 from m ((c : Thread nD τ).loc main_arg0)) (ix2 R d))
          ((show FVec Ideal S1024 .f32 from m ((c : Thread nD τ).loc main_arg2)) (ix1 d))
          ((show FVec Ideal S8x3072 .f32 from m ((c : Thread nD τ).loc main_arg1)) (ix2 0 ⟨1024 + d.val, by omega⟩))
          ((show FVec Ideal S8x3072 .f32 from m ((c : Thread nD τ).loc main_arg1)) (ix2 0 ⟨d.val, by omega⟩)) d := by
  refine (hid_apply _ _ _ _ r d).trans ?_
  refine (congrArg₂ (fun x g => hid x g _ _ d) (funext fun d => blk0 m c t r d R hR) (blk2 m c t d)).trans ?_
  refine congrArg₂ (fun a b => hid _ _ a b d) ((View.ld_unit_apply_of _ _ _ _ _ (ix3 0 0 ⟨1024 + d.val, by omega⟩) fun a => ?_).trans
    (blk1 m c t _)) ((View.ld_unit_apply_of _ _ _ _ _ (ix3 0 0 ⟨d.val, by omega⟩) fun a => ?_).trans (blk1 m c t _))
  · match a with
    | ⟨0, _⟩ | ⟨1, _⟩ | ⟨2, _⟩ => rfl
  · match a with
    | ⟨0, _⟩ | ⟨1, _⟩ => rfl
    | ⟨2, _⟩ => exact (Nat.zero_add _).symm

/-- A projected entry of a grid point's chunk at column `o`. -/
theorem proj_at (c : Dev nD) (t : Fin cfg0.N) (o : ℕ)
    (h : ∀ a, (![0, 0, o] : Fin 3 → ℕ) a + (![1, 1024, 512] : Fin 3 → ℕ) a ≤ S1x1024x8192.size a)
    (r e : Fin 512) (R C : Fin 8192) (hR : R.val = t.val * 512 + r.val) (hC : C.val = o + e.val) :
    proj (rows m c t) (View.ld (iblk m c 3 t) (Rect.unit ![0, 0, o] ![1, 1024, 512] h)) r e = entry m c R C :=
  Finset.sum_congr rfl fun j _ => congrArg₂ (· * ·) (rows_apply m c t r j R hR) ((chunk _ o h j e C hC).trans (blk3 m c t j C))

/-- An index of a block by its coordinates. -/
theorem ix_eq (x : S512x512.Idx) : x = ix2 (x 0) (x 1) := funext fun a => by match a with | ⟨0, _⟩ | ⟨1, _⟩ => rfl

/-- An index of the activations by its coordinates. -/
theorem act_ix (i : S8192x8192.Idx) : i = ix2 (i 0) (i 1) := funext fun a => by match a with | ⟨0, _⟩ | ⟨1, _⟩ => rfl

section pieces

variable (c : Dev nD) (t : Fin cfg0.N) (o : ℕ)
  (h : ∀ a, (![0, 0, o] : Fin 3 → ℕ) a + (![1, 1024, 512] : Fin 3 → ℕ) a ≤ S1x1024x8192.size a)
  (x : S512x512.Idx) (i : S8192x8192.Idx) (hi0 : (i 0 : ℕ) = t.val * 512 + (x 0 : ℕ)) (hi1 : (i 1 : ℕ) = o + (x 1 : ℕ))

include hi0 hi1

/-- A chunk stored as it is. -/
theorem plain_at (ho : o + 512 ≤ 1536 ∨ 3072 ≤ o ∧ o + 512 ≤ 3584 ∨ 4096 ≤ o ∧ o + 512 ≤ 4608) :
    k0_pay5 (F := Ideal) (rows m c t) (View.ld (iblk m c 3 t) (Rect.unit ![0, 0, o] ![1, 1024, 512] h)) x = want m c i := by
  have h1 : (x 1 : ℕ) < 512 := (x 1).isLt
  rw [ix_eq x, act_ix i]
  exact (plain_apply _ _ _ _).trans ((proj_at m c t o h _ _ _ _ hi0 hi1).trans
    (Cert.Reference2Ideal.Read.act_plain _ _ _ _ _ _ _ _ (by omega)).symm)

/-- A chunk stored through silu. -/
theorem silu_at (ho : 1536 ≤ o ∧ o + 512 ≤ 2048 ∨ 3584 ≤ o ∧ o + 512 ≤ 4096 ∨ 4608 ≤ o ∧ o + 512 ≤ 5120) :
    k0_pay9 (F := Ideal) (rows m c t) (View.ld (iblk m c 3 t) (Rect.unit ![0, 0, o] ![1, 1024, 512] h)) x = want m c i := by
  have h1 : (x 1 : ℕ) < 512 := (x 1).isLt
  rw [ix_eq x, act_ix i]
  exact (silu_apply _ _ _ _).trans ((congrArg silu (proj_at m c t o h _ _ _ _ hi0 hi1)).trans
    (Cert.Reference2Ideal.Read.act_silu _ _ _ _ _ _ _ _ (by omega)).symm)

/-- A chunk stored through the sigmoid. -/
theorem gate_at (ho : 5120 ≤ o) :
    k0_pay12 (F := Ideal) (rows m c t) (View.ld (iblk m c 3 t) (Rect.unit ![0, 0, o] ![1, 1024, 512] h)) x = want m c i := by
  have h1 : (x 1 : ℕ) < 512 := (x 1).isLt
  rw [ix_eq x, act_ix i]
  exact (gate_apply _ _ _ _).trans ((congrArg Ideal.logistic (proj_at m c t o h _ _ _ _ hi0 hi1)).trans
    (Cert.Reference2Ideal.Read.act_gate _ _ _ _ _ _ _ _ (by omega)).symm)

end pieces

section heads

variable (c : Dev nD) (t : Fin cfg0.N) (x : S512x512.Idx) (i : S8192x8192.Idx) (hi0 : (i 0 : ℕ) = t.val * 512 + (x 0 : ℕ))

/-- The weights' chunk at a column. -/
abbrev wchunk (o : ℕ) (h : ∀ a, (![0, 0, o] : Fin 3 → ℕ) a + (![1, 1024, 512] : Fin 3 → ℕ) a ≤ S1x1024x8192.size a) :
    Vec Ideal S1x1024x512 .bf16 :=
  View.ld (Val := Elt Ideal) (S := S1x1024x8192) (e' := .bf16) (iblk m c 3 t) (Rect.unit ![0, 0, o] ![1, 1024, 512] h)

/-- The keys of a grid point, at an entry. -/
theorem key_point (h) (r e : Fin 512) (R : Fin 8192) (hR : R.val = t.val * 512 + r.val) :
    k0_pay24 (F := Ideal) mask (k0_pay23 (F := Ideal) (rows m c t) (wchunk m c t 2560 h)) (iblk m c 5 t) (ix2 r e)
      = Cert.Reference2Ideal.Read.val_main_v64 (F := Ideal) (m ((c : Thread nD τ).loc main_arg0)) (m ((c : Thread nD τ).loc main_arg1))
          (m ((c : Thread nD τ).loc main_arg2)) (m ((c : Thread nD τ).loc main_arg3)) (m ((c : Thread nD τ).loc main_arg5)) (ix2 R e) := by
  refine (key_apply _ _ r e).trans (Eq.trans ?_ (Cert.Reference2Ideal.Read.key_apply _ _ _ _ _ R e).symm)
  refine congrArg₂ (fun p g => normed p g _) (funext fun j => ?_) (blk5 m c t e)
  exact (value_apply _ _ _ _).trans (proj_at m c t 2560 h _ _ R _ hR rfl)

include hi0

/-- The keys' chunk. -/
theorem key_at (h) (hi1 : (i 1 : ℕ) = 2560 + (x 1 : ℕ)) :
    k0_pay2 (F := Ideal) (k0_pay24 (F := Ideal) mask (k0_pay23 (F := Ideal) (rows m c t) (wchunk m c t 2560 h)) (iblk m c 5 t)) x
      = want m c i := by
  rw [ix_eq x, act_ix i]
  refine Eq.trans ?_ ((key_point m c t h _ _ _ hi0).trans ((Cert.Reference2Ideal.Read.key_apply _ _ _ _ _ _ _).trans
    (Cert.Reference2Ideal.Read.act_key _ _ _ _ _ _ _ _ _ hi1).symm))
  rfl

/-- The queries' chunk, scaled. -/
theorem query_at (h) (hi1 : (i 1 : ℕ) = 2048 + (x 1 : ℕ)) :
    k0_pay1 (F := Ideal) (k0_pay22 (F := Ideal) k0_pay18 (iota .tc S512x512 32 [1] iota_S512x512_d1_w32) 64#32 k0_pay19 k0_pay20 0#32
        (rows m c t) (wchunk m c t 2048 h) (iblk m c 4 t)) x
      = want m c i := by
  rw [ix_eq x, act_ix i]
  refine (scaled_apply _ _ _).trans (Eq.trans ?_ (Cert.Reference2Ideal.Read.act_query _ _ _ _ _ _ _ _ _ hi1).symm)
  refine congrArg (· * _) ((query_apply _ _ _ _ _).trans ?_)
  exact congrArg₂ (fun p g => normed p g _) (funext fun j => proj_at m c t 2048 h _ _ _ _ hi0 rfl) (blk4 m c t _)

/-- The values' chunk. -/
theorem value_at (h) (hi1 : (i 1 : ℕ) = 3072 + (x 1 : ℕ)) :
    k0_pay3 (F := Ideal) (k0_pay25 (F := Ideal) (rows m c t) (wchunk m c t 3072 h)) x = want m c i :=
  plain_at m c t 3072 h x i hi0 hi1 (by omega)

end heads

/-- The activations after the run. -/
theorem final (c : Dev nD) : (dats m 0 c).arrAt 6 (cfgs 0).N = want m c := by
  refine (dats m 0 c).arrAt_eq_of_covers 6 _ (by decide +kernel) fun t _ y => ?_
  blk_simp
  rw [after0_6]
  unfold outsAt0
  frame_out
  canon_tiles x q
  · refine value_at m c t x _ ?_ _ ?_ <;> blk_simp [idx t] <;> omega
  · refine key_at m c t x _ ?_ _ ?_ <;> blk_simp [idx t] <;> omega
  · refine query_at m c t x _ ?_ _ ?_ <;> blk_simp [idx t] <;> omega
  iterate 6 · refine gate_at m c t _ _ x _ ?_ ?_ (by omega) <;> blk_simp [idx t] <;> omega
  iterate 3 · refine silu_at m c t _ _ x _ ?_ ?_ (by omega) <;> blk_simp [idx t] <;> omega
  iterate 4 · refine plain_at m c t _ _ x _ ?_ ?_ (by omega) <;> blk_simp [idx t] <;> omega

/-- The reference's new keys of the kernel's arguments. -/
def wantK (c : Dev nD) : FVec Ideal S32x2x256x512 .f32 :=
  Cert.Reference2Ideal.Read.val_main_v86 (F := Ideal) (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg6))

/-- The new values likewise. -/
def wantV (c : Dev nD) : FVec Ideal S32x2x256x512 .f32 :=
  Cert.Reference2Ideal.Read.val_main_v92 (F := Ideal) (m ((c : Thread nD τ).loc main_arg0)) (m ((c : Thread nD τ).loc main_arg1))
    (m ((c : Thread nD τ).loc main_arg2)) (m ((c : Thread nD τ).loc main_arg3)) (m ((c : Thread nD τ).loc main_arg7))

/-- An index of a new slot's piece by its coordinates. -/
theorem piece_ix (x : S1x1x256x512.Idx) : x = ix4 0 0 (x 2) (x 3) := funext fun a => by
  match a with
  | ⟨0, _⟩ | ⟨1, _⟩ => exact Fin.fin_one_eq_zero _
  | ⟨2, _⟩ | ⟨3, _⟩ => rfl

/-- An index of the new keys by its coordinates. -/
theorem slot_ix (i : S32x2x256x512.Idx) : i = ix4 (i 0) (i 1) (i 2) (i 3) := funext fun a => by
  match a with
  | ⟨0, _⟩ | ⟨1, _⟩ | ⟨2, _⟩ | ⟨3, _⟩ => rfl

section slots

variable (c : Dev nD) (t : Fin cfg0.N) (x : S1x1x256x512.Idx) (i : S32x2x256x512.Idx) (hi1 : (i 1 : ℕ) = 1)
  (hi2 : (i 2 : ℕ) = (x 2 : ℕ)) (hi3 : (i 3 : ℕ) = (x 3 : ℕ))

include hi1 hi2 hi3

/-- The keys of a grid point's first batch entry. -/
theorem new_key_at (h) (hi0 : (i 0 : ℕ) = t.val * 2) :
    k0_pay26 (F := Ideal) mask (k0_pay23 (F := Ideal) (rows m c t) (wchunk m c t 2560 h)) (iblk m c 5 t) x = wantK m c i := by
  rw [piece_ix x, slot_ix i]
  refine (new_key_apply _ _ _ _ _).1.trans (Eq.trans ?_ (Cert.Reference2Ideal.Read.new_k_apply _ _ _ _ _ _ _ _ _ _).symm)
  rw [if_neg (by omega), show i 3 = x 3 from Fin.ext hi3]
  exact key_point m c t h _ _ _ (by show (i 0 : ℕ) * 256 + (i 2 : ℕ) = t.val * 512 + (x 2 : ℕ); omega)

/-- The keys of its second. -/
theorem new_key_at' (h) (hi0 : (i 0 : ℕ) = t.val * 2 + 1) :
    k0_pay27 (F := Ideal) mask (k0_pay23 (F := Ideal) (rows m c t) (wchunk m c t 2560 h)) (iblk m c 5 t) x = wantK m c i := by
  rw [piece_ix x, slot_ix i]
  refine (new_key_apply _ _ _ _ _).2.trans (Eq.trans ?_ (Cert.Reference2Ideal.Read.new_k_apply _ _ _ _ _ _ _ _ _ _).symm)
  rw [if_neg (by omega), show i 3 = x 3 from Fin.ext hi3]
  exact key_point m c t h _ _ _ (by show (i 0 : ℕ) * 256 + (i 2 : ℕ) = t.val * 512 + (256 + (x 2 : ℕ)); omega)

/-- The values of a grid point's first batch entry. -/
theorem new_value_at (h) (hi0 : (i 0 : ℕ) = t.val * 2) :
    k0_pay28 (F := Ideal) (rows m c t) (wchunk m c t 3072 h) x = wantV m c i := by
  rw [piece_ix x, slot_ix i]
  refine (new_value_apply _ _ _ _).1.trans (Eq.trans ?_ (Cert.Reference2Ideal.Read.new_v_apply _ _ _ _ _ _ _ _ _).symm)
  rw [if_neg (by omega), show i 3 = x 3 from Fin.ext hi3]
  exact proj_at m c t 3072 h _ _ _ _ (by show (i 0 : ℕ) * 256 + (i 2 : ℕ) = t.val * 512 + (x 2 : ℕ); omega) rfl

/-- The values of its second. -/
theorem new_value_at' (h) (hi0 : (i 0 : ℕ) = t.val * 2 + 1) :
    k0_pay29 (F := Ideal) (rows m c t) (wchunk m c t 3072 h) x = wantV m c i := by
  rw [piece_ix x, slot_ix i]
  refine (new_value_apply _ _ _ _).2.trans (Eq.trans ?_ (Cert.Reference2Ideal.Read.new_v_apply _ _ _ _ _ _ _ _ _).symm)
  rw [if_neg (by omega), show i 3 = x 3 from Fin.ext hi3]
  exact proj_at m c t 3072 h _ _ _ _ (by show (i 0 : ℕ) * 256 + (i 2 : ℕ) = t.val * 512 + (256 + (x 2 : ℕ)); omega) rfl

end slots

/-- The arrays the new slots are written into start as the arguments. -/
theorem slots_read (c : Dev nD) : V m c main_v11_1 = m ((c : Thread nD τ).loc main_arg6) ∧ V m c main_v11_2 = m ((c : Thread nD τ).loc main_arg7) := by
  refine ⟨?_, ?_⟩ <;> (entry_read; try rfl)

/-- The new keys after the run: the second layer's written, the first layer's as they were. -/
theorem finalK (c : Dev nD) : (dats m 0 c).arrAt 7 (cfgs 0).N = wantK m c := by
  have h : (dats m 0 c).arrAt 7 (cfgs 0).N = fun i : S32x2x256x512.Idx => if (i 1 : ℕ) = 1 then wantK m c i else V m c main_v11_1 i := by
    refine (dats m 0 c).arrAt_eq_of_coversWhere 7 _ (fun β => β 1 = 1) (by decide +kernel) (fun t hf y => ?_)
      (fun j => by blk_simp [Pipeline.Window.cell_apply]; omega)
    blk_simp
    rw [after0_7]
    unfold outsAt0
    frame_out
    canon_tiles x q
    · refine new_key_at' m c t x _ ?_ ?_ ?_ _ ?_ <;> blk_simp [idx t] <;> omega
    · refine new_key_at m c t x _ ?_ ?_ ?_ _ ?_ <;> blk_simp [idx t] <;> omega
  rw [h, (slots_read m c).1]
  funext i
  split
  · rfl
  · rename_i hn
    have h1 : (i 1 : ℕ) < 2 := (i 1).isLt
    have e0 : i 1 = (0 : Fin 2) := Fin.ext (by show (i 1 : ℕ) = 0; omega)
    rw [slot_ix i]
    refine Eq.trans ?_ (Cert.Reference2Ideal.Read.new_k_apply _ _ _ _ _ _ _ _ _ _).symm
    rw [if_pos (by omega), e0]
    rfl

/-- The new values after the run, likewise. -/
theorem finalV (c : Dev nD) : (dats m 0 c).arrAt 8 (cfgs 0).N = wantV m c := by
  have h : (dats m 0 c).arrAt 8 (cfgs 0).N = fun i : S32x2x256x512.Idx => if (i 1 : ℕ) = 1 then wantV m c i else V m c main_v11_2 i := by
    refine (dats m 0 c).arrAt_eq_of_coversWhere 8 _ (fun β => β 1 = 1) (by decide +kernel) (fun t hf y => ?_)
      (fun j => by blk_simp [Pipeline.Window.cell_apply]; omega)
    blk_simp
    rw [after0_8]
    unfold outsAt0
    frame_out
    canon_tiles x q
    · refine new_value_at' m c t x _ ?_ ?_ ?_ _ ?_ <;> blk_simp [idx t] <;> omega
    · refine new_value_at m c t x _ ?_ ?_ ?_ _ ?_ <;> blk_simp [idx t] <;> omega
  rw [h, (slots_read m c).2]
  funext i
  split
  · rfl
  · rename_i hn
    have h1 : (i 1 : ℕ) < 2 := (i 1).isLt
    have e0 : i 1 = (0 : Fin 2) := Fin.ext (by show (i 1 : ℕ) = 0; omega)
    rw [slot_ix i]
    refine Eq.trans ?_ (Cert.Reference2Ideal.Read.new_v_apply _ _ _ _ _ _ _ _ _).symm
    rw [if_pos (by omega), e0]
    rfl

end Cert.Kernel2Ideal.InProj
-- ==== Proof.MergeRead.lean ====
/- The latent tokens' merge: one entry of the block a grid point stores, from the point's input blocks. -/
module

public import proofs.«01_k».proof.Proof.Gen.Kernel3Ideal.Frame
public import Idealize.ShloMosaic.Lib.Pointwise

@[expose] public section

set_option maxRecDepth 16384

noncomputable section

namespace Cert.Kernel3Ideal.Merge

open Idealize.ShloMosaic Idealize.ShloMosaic.TcCoe
open Cert.Kernel3Ideal.Gen

/-- One merged entry: the three mixers' rows through their output weights, each times its merge gate, and summed. -/
def gated (g0 g1 g2 : EReal) (y0 y1 y2 w0 w1 w2 : Fin 512 → EReal) : EReal :=
  g0 * ∑ k, y0 k * w0 k + g1 * ∑ k, y1 k * w1 k + g2 * ∑ k, y2 k * w2 k

/-- An entry of the stored block. -/
theorem pay_apply (x0 : Vec Ideal S1024x1024 .f32) (x1 : Vec Ideal S1x1x3072 .f32) (x2 x3 x4 : Vec Ideal S1024x512 .bf16)
    (x5 x6 x7 : Vec Ideal S1024x1024 .bf16) (x8 x9 x10 : Vec Ideal S512x1024 .bf16) (x11 : Vec Ideal S1024x1024 .bf16)
    (r e : Fin 1024) :
    k0_pay1 (F := Ideal) (k0_pay2 (View.ld x5 r0_0) (View.ld x2 r0_1) (View.ld x8 r0_2) (View.ld x6 r0_0) (View.ld x3 r0_1)
        (View.ld x9 r0_2) (View.ld x7 r0_0) (View.ld x4 r0_1) (View.ld x10 r0_2) (View.ld x11 r0_0)) (View.ld x0 r0_0) (View.ld x1 r0_3) (ix2 r e)
      = x0 (ix2 r e) + x1 (ix3 0 0 ⟨2048 + e.val, by omega⟩) * ∑ j : Fin 1024,
          gated (x5 (ix2 r j)) (x6 (ix2 r j)) (x7 (ix2 r j)) (fun k => x2 (ix2 r k)) (fun k => x3 (ix2 r k)) (fun k => x4 (ix2 r k))
            (fun k => x8 (ix2 k j)) (fun k => x9 (ix2 k j)) (fun k => x10 (ix2 k j)) * x11 (ix2 j e) := by
  pointwise [k0_pay1, k0_pay2]
  rfl

end Cert.Kernel3Ideal.Merge
-- ==== Proof.MergeRef.lean ====
/- The reference of the latent tokens' merge, read at an entry. -/
module

public import proofs.«01_k».proof.Proof.Gen.Reference3Ideal.Read
public import Idealize.ShloMosaic.Lib.Pointwise

@[expose] public section

set_option maxRecDepth 16384

noncomputable section

namespace Cert.Reference3Ideal.Read

open Idealize.ShloMosaic Idealize.ShloMosaic.TcCoe

/-- A gate's entry: one of the three groups of the activations' last columns. -/
theorem gate_apply (x2 : FVec Ideal S8192x8192 .f32) (b : Fin 4) (s : Fin 2048) (j : Fin 1024) (R : Fin 8192)
    (hR : R.val = b.val * 2048 + s.val) :
    val_main_v8 (F := Ideal) x2 (ix3 b s j) = x2 (ix2 R ⟨5120 + j.val, by omega⟩)
    ∧ val_main_v12 (F := Ideal) x2 (ix3 b s j) = x2 (ix2 R ⟨6144 + j.val, by omega⟩)
    ∧ val_main_v17 (F := Ideal) x2 (ix3 b s j) = x2 (ix2 R ⟨7168 + j.val, by omega⟩) := by
  refine ⟨?_, ?_, ?_⟩
  · rw [val_main_v8_apply, val_main_v7_apply, val_main_v3_apply, val_main_v2_apply]
    exact congrArg x2 (funext fun a => by
      match a with
      | ⟨0, _⟩ | ⟨1, _⟩ =>
        exact Fin.ext (by simp [idx_main_v8, idx_main_v7, idx_main_v3, idx_main_v2, ix2, ix3]; omega))
  · rw [val_main_v12_apply, val_main_v11_apply, val_main_v3_apply, val_main_v2_apply]
    exact congrArg x2 (funext fun a => by
      match a with
      | ⟨0, _⟩ | ⟨1, _⟩ =>
        exact Fin.ext (by simp [idx_main_v12, idx_main_v11, idx_main_v3, idx_main_v2, ix2, ix3]; omega))
  · rw [val_main_v17_apply, val_main_v16_apply, val_main_v3_apply, val_main_v2_apply]
    exact congrArg x2 (funext fun a => by
      match a with
      | ⟨0, _⟩ | ⟨1, _⟩ =>
        exact Fin.ext (by simp [idx_main_v17, idx_main_v16, idx_main_v3, idx_main_v2, ix2, ix3]; omega))

/-- A mixer's row through its output weights. -/
theorem branch_apply (x3 : FVec Ideal S8192x512 .f32) (x6 : FVec Ideal S512x1024 .f32) (b : Fin 4) (s : Fin 2048) (j : Fin 1024)
    (R : Fin 8192) (hR : R.val = b.val * 2048 + s.val) :
    val_main_v9 (F := Ideal) x3 x6 (ix3 b s j) = ∑ k : Fin 512, x3 (ix2 R k) * x6 (ix2 k j) := by
  rw [val_main_v9_apply]
  refine Finset.sum_congr rfl fun k _ => congrArg₂ (· * ·) ?_ ?_
  · rw [val_main_v4_apply]
    exact congrArg x3 (funext fun a => by
      match a with
      | ⟨0, _⟩ | ⟨1, _⟩ => exact Fin.ext (by simp [idx_main_v4, lidx_main_v9, ix2, ix3] <;> omega))
  · exact congrArg x6 (funext fun a => by
      match a with
      | ⟨0, _⟩ | ⟨1, _⟩ => rfl)

/-- The result at a row and column: the layer's input plus the gate times the merged row through the output weights. -/
theorem res_apply (x0 : FVec Ideal S8192x1024 .f32) (x1 : FVec Ideal S8x3072 .f32) (x2 : FVec Ideal S8192x8192 .f32)
    (x3 x4 x5 : FVec Ideal S8192x512 .f32) (x6 x7 x8 : FVec Ideal S512x1024 .f32) (x9 : FVec Ideal S1024x1024 .f32)
    (R : Fin 8192) (e : Fin 1024) :
    val_main_v26 (F := Ideal) x0 x1 x2 x3 x4 x5 x6 x7 x8 x9 (ix2 R e)
      = x0 (ix2 R e) + x1 (ix2 ⟨1 + R.val / 2048, by omega⟩ ⟨2048 + e.val, by omega⟩) * ∑ j : Fin 1024,
          (x2 (ix2 R ⟨5120 + j.val, by omega⟩) * ∑ k : Fin 512, x3 (ix2 R k) * x6 (ix2 k j)
            + x2 (ix2 R ⟨6144 + j.val, by omega⟩) * ∑ k : Fin 512, x4 (ix2 R k) * x7 (ix2 k j)
            + x2 (ix2 R ⟨7168 + j.val, by omega⟩) * ∑ k : Fin 512, x5 (ix2 R k) * x8 (ix2 k j)) * x9 (ix2 j e) := by
  have he : e.val < 1024 := e.isLt
  rw [val_main_v26_apply, val_main_v25_apply, val_main_v24_apply, val_main_v23_apply, val_main_v22_apply, val_main_v21_apply,
    val_main_v1_apply, val_main_v0_apply]
  refine congrArg₂ (· + ·) (congrArg x0 ?_) (congrArg₂ (· * ·) (congrArg x1 ?_) (Finset.sum_congr rfl fun j _ => ?_))
  · exact funext fun a => by
      match a with
      | ⟨0, _⟩ => exact Fin.ext (by simp [idx_main_v22, idx_main_v26, ix2]; omega)
      | ⟨1, _⟩ => exact Fin.ext (by simp [idx_main_v22, idx_main_v26, ix2])
  · exact funext fun a => by
      match a with
      | ⟨0, _⟩ => exact Fin.ext (by simp [idx_main_v23, idx_main_v26, idx_main_v1, idx_main_v0, ix2]; omega)
      | ⟨1, _⟩ => exact Fin.ext (by simp [idx_main_v23, idx_main_v26, idx_main_v1, idx_main_v0, ix2])
  · refine congrArg₂ (· * ·) ?_ (congrArg x9 (funext fun a => by
      match a with
      | ⟨0, _⟩ => rfl
      | ⟨1, _⟩ => exact Fin.ext (by simp [ridx_main_v21, idx_main_v26, ix2])))
    have hi : lidx_main_v21 (idx_main_v26 (ix2 R e)) j = ix3 ⟨R.val / 2048, by omega⟩ ⟨R.val % 2048, by omega⟩ j :=
      funext fun a => by
        match a with
        | ⟨0, _⟩ | ⟨1, _⟩ | ⟨2, _⟩ => exact Fin.ext (by simp [lidx_main_v21, idx_main_v26, ix2, ix3] <;> omega)
    have hR : R.val = R.val / 2048 * 2048 + R.val % 2048 := by omega
    obtain ⟨g0, g1, g2⟩ := gate_apply x2 ⟨R.val / 2048, by omega⟩ ⟨R.val % 2048, by omega⟩ j R hR
    rw [hi, val_main_v20_apply, val_main_v15_apply, val_main_v10_apply, val_main_v14_apply, val_main_v19_apply, g0, g1, g2]
    exact congrArg₂ (· + ·) (congrArg₂ (· + ·) (congrArg (x2 _ * ·) (branch_apply x3 x6 _ _ j R hR))
      (congrArg (x2 _ * ·) (branch_apply x4 x7 _ _ j R hR))) (congrArg (x2 _ * ·) (branch_apply x5 x8 _ _ j R hR))

end Cert.Reference3Ideal.Read
-- ==== Proof.MergeFinal.lean ====
/- The latent tokens' merge: the whole result after the run is the reference's. -/
module

public import proofs.«01_k».proof.Proof.MergeRead
public import proofs.«01_k».proof.Proof.MergeRef
public import Idealize.ShloMosaic.Lib.Pipeline.ValueKit

@[expose] public section

set_option maxRecDepth 16384

noncomputable section

namespace Cert.Kernel3Ideal.Merge

open Idealize.ShloMosaic Idealize.ShloMosaic.TcCoe Idealize.SL.Sem
open Idealize.ShloMosaic.Pipeline (Dat)
open Cert.Kernel3Ideal.Gen

variable (m : (ℓ : Loc nD τ sig) → Buf (Elt Ideal) ℓ)

/-- The reference's result of the kernel's arguments. -/
def want (c : Dev nD) : FVec Ideal S8192x1024 .f32 :=
  Cert.Reference3Ideal.Read.val_main_v26 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- The modulation the launch finds, as the program's argument holds it. -/
theorem mod_read (c : Dev nD) (b : Fin 8) (d : Fin 3072) :
    (show FVec Ideal S8x1x3072 .f32 from V m c main_v0) (ix3 b 0 d)
      = (show FVec Ideal S8x3072 .f32 from m ((c : Thread nD τ).loc main_arg1)) (ix2 b d) := by
  entry_read
  pointwise

/-- The arrays cast on the host before the launch are the arguments: ideal casts change nothing. -/
theorem cast_read (c : Dev nD) :
    V m c main_v1 = m ((c : Thread nD τ).loc main_arg2) ∧ V m c main_v2 = m ((c : Thread nD τ).loc main_arg3)
    ∧ V m c main_v3 = m ((c : Thread nD τ).loc main_arg4) ∧ V m c main_v4 = m ((c : Thread nD τ).loc main_arg5)
    ∧ V m c main_v5 = m ((c : Thread nD τ).loc main_arg6) ∧ V m c main_v6 = m ((c : Thread nD τ).loc main_arg7)
    ∧ V m c main_v7 = m ((c : Thread nD τ).loc main_arg8) ∧ V m c main_v8 = m ((c : Thread nD τ).loc main_arg9) :=
  ⟨rfl, rfl, rfl, rfl, rfl, rfl, rfl, rfl⟩

/-- Every window's block at a grid point, by the point's number. -/
theorem idx : ∀ t : Fin cfg0.N, win0_0.index t = ![t.val, 0] ∧ win0_1.index t = ![1 + t.val / 2, 0, 0] ∧ win0_2.index t = ![t.val, 0]
    ∧ win0_3.index t = ![t.val, 0] ∧ win0_4.index t = ![t.val, 0] ∧ win0_5.index t = ![t.val, 5] ∧ win0_6.index t = ![t.val, 6]
    ∧ win0_7.index t = ![t.val, 7] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, _)

/-- The layer input's block: 1024 rows. -/
theorem blk0 (c : Dev nD) (t : Fin cfg0.N) (r e : Fin 1024) (R : Fin 8192) (hR : R.val = t.val * 1024 + r.val) :
    (show FVec Ideal S1024x1024 .f32 from iblk m c 0 t) (ix2 r e)
      = (show FVec Ideal S8192x1024 .f32 from m ((c : Thread nD τ).loc main_arg0)) (ix2 R e) := by
  blk_ext [iblk, V, idx t]

/-- The modulation's block: the row of the point's batch entry. -/
theorem blk1 (c : Dev nD) (t : Fin cfg0.N) (d : Fin 3072) (b : Fin 8) (hb : b.val = 1 + t.val / 2) :
    (show FVec Ideal S1x1x3072 .f32 from iblk m c 1 t) (ix3 0 0 d) = (show FVec Ideal S8x1x3072 .f32 from V m c main_v0) (ix3 b 0 d) := by
  blk_ext [iblk, idx t]

/-- The mixers' blocks: 1024 rows each. -/
theorem blk234 (c : Dev nD) (t : Fin cfg0.N) (r : Fin 1024) (k : Fin 512) (R : Fin 8192) (hR : R.val = t.val * 1024 + r.val) :
    (show FVec Ideal S1024x512 .bf16 from iblk m c 2 t) (ix2 r k) = (show FVec Ideal S8192x512 .bf16 from V m c main_v2) (ix2 R k)
    ∧ (show FVec Ideal S1024x512 .bf16 from iblk m c 3 t) (ix2 r k) = (show FVec Ideal S8192x512 .bf16 from V m c main_v3) (ix2 R k)
    ∧ (show FVec Ideal S1024x512 .bf16 from iblk m c 4 t) (ix2 r k) = (show FVec Ideal S8192x512 .bf16 from V m c main_v4) (ix2 R k) := by
  refine ⟨?_, ?_, ?_⟩
  · blk_ext [iblk, idx t]
  · blk_ext [iblk, idx t]
  · blk_ext [iblk, idx t]

/-- The gates' blocks: the activations' last three groups of columns. -/
theorem blk567 (c : Dev nD) (t : Fin cfg0.N) (r j : Fin 1024) (R : Fin 8192) (hR : R.val = t.val * 1024 + r.val) :
    (show FVec Ideal S1024x1024 .bf16 from iblk m c 5 t) (ix2 r j)
      = (show FVec Ideal S8192x8192 .bf16 from V m c main_v1) (ix2 R ⟨5120 + j.val, by omega⟩)
    ∧ (show FVec Ideal S1024x1024 .bf16 from iblk m c 6 t) (ix2 r j)
      = (show FVec Ideal S8192x8192 .bf16 from V m c main_v1) (ix2 R ⟨6144 + j.val, by omega⟩)
    ∧ (show FVec Ideal S1024x1024 .bf16 from iblk m c 7 t) (ix2 r j)
      = (show FVec Ideal S8192x8192 .bf16 from V m c main_v1) (ix2 R ⟨7168 + j.val, by omega⟩) := by
  refine ⟨?_, ?_, ?_⟩
  · blk_ext [iblk, idx t]
  · blk_ext [iblk, idx t]
  · blk_ext [iblk, idx t]

/-- The weights' blocks: the whole arrays. -/
theorem blkw (c : Dev nD) (t : Fin cfg0.N) (k : Fin 512) (j e : Fin 1024) :
    (show FVec Ideal S512x1024 .bf16 from iblk m c 8 t) (ix2 k j) = (show FVec Ideal S512x1024 .bf16 from V m c main_v5) (ix2 k j)
    ∧ (show FVec Ideal S512x1024 .bf16 from iblk m c 9 t) (ix2 k j) = (show FVec Ideal S512x1024 .bf16 from V m c main_v6) (ix2 k j)
    ∧ (show FVec Ideal S512x1024 .bf16 from iblk m c 10 t) (ix2 k j) = (show FVec Ideal S512x1024 .bf16 from V m c main_v7) (ix2 k j)
    ∧ (show FVec Ideal S1024x1024 .bf16 from iblk m c 11 t) (ix2 j e) = (show FVec Ideal S1024x1024 .bf16 from V m c main_v8) (ix2 j e) := by
  refine ⟨?_, ?_, ?_, ?_⟩
  · blk_ext [iblk, idx t]
  · blk_ext [iblk, idx t]
  · blk_ext [iblk, idx t]
  · blk_ext [iblk, idx t]

/-- What a grid point stores, at an entry, is the reference's entry there. -/
theorem point (c : Dev nD) (t : Fin cfg0.N) (r e : Fin 1024) (R : Fin 8192) (hR : R.val = t.val * 1024 + r.val) :
    k0_pay1 (F := Ideal) (k0_pay2 (View.ld (iblk m c 5 t) r0_0) (View.ld (iblk m c 2 t) r0_1) (View.ld (iblk m c 8 t) r0_2)
        (View.ld (iblk m c 6 t) r0_0) (View.ld (iblk m c 3 t) r0_1) (View.ld (iblk m c 9 t) r0_2) (View.ld (iblk m c 7 t) r0_0)
        (View.ld (iblk m c 4 t) r0_1) (View.ld (iblk m c 10 t) r0_2) (View.ld (iblk m c 11 t) r0_0)) (View.ld (iblk m c 0 t) r0_0)
        (View.ld (iblk m c 1 t) r0_3) (ix2 r e) = want m c (ix2 R e) := by
  have ht : t.val < 8 := t.isLt
  refine (pay_apply _ _ _ _ _ _ _ _ _ _ _ _ r e).trans (Eq.trans ?_ (Cert.Reference3Ideal.Read.res_apply _ _ _ _ _ _ _ _ _ _ R e).symm)
  refine congrArg₂ (· + ·) (blk0 m c t r e R hR) (congrArg₂ (· * ·) ?_ (Finset.sum_congr rfl fun j _ => ?_))
  · exact (blk1 m c t _ ⟨1 + R.val / 2048, by omega⟩ (by show 1 + R.val / 2048 = 1 + t.val / 2; omega)).trans (mod_read m c _ _)
  · obtain ⟨g0, g1, g2⟩ := blk567 m c t r j R hR
    refine congrArg₂ (· * ·) (congrArg₂ (· + ·) (congrArg₂ (· + ·) (congrArg₂ (· * ·) g0 ?_) (congrArg₂ (· * ·) g1 ?_)) (congrArg₂ (· * ·) g2 ?_))
      (blkw m c t 0 j e).2.2.2
    · exact Finset.sum_congr rfl fun k _ => congrArg₂ (· * ·) (blk234 m c t r k R hR).1 (blkw m c t k j e).1
    · exact Finset.sum_congr rfl fun k _ => congrArg₂ (· * ·) (blk234 m c t r k R hR).2.1 (blkw m c t k j e).2.1
    · exact Finset.sum_congr rfl fun k _ => congrArg₂ (· * ·) (blk234 m c t r k R hR).2.2 (blkw m c t k j e).2.2.1

/-- The same, the entry's two indices given by their coordinates. -/
theorem point_at (c : Dev nD) (t : Fin cfg0.N) (x : S1024x1024.Idx) (i : S8192x1024.Idx)
    (hi0 : (i 0 : ℕ) = t.val * 1024 + (x 0 : ℕ)) (hi1 : (i 1 : ℕ) = (x 1 : ℕ)) :
    k0_pay1 (F := Ideal) (k0_pay2 (View.ld (iblk m c 5 t) r0_0) (View.ld (iblk m c 2 t) r0_1) (View.ld (iblk m c 8 t) r0_2)
        (View.ld (iblk m c 6 t) r0_0) (View.ld (iblk m c 3 t) r0_1) (View.ld (iblk m c 9 t) r0_2) (View.ld (iblk m c 7 t) r0_0)
        (View.ld (iblk m c 4 t) r0_1) (View.ld (iblk m c 10 t) r0_2) (View.ld (iblk m c 11 t) r0_0)) (View.ld (iblk m c 0 t) r0_0)
        (View.ld (iblk m c 1 t) r0_3) x = want m c i := by
  have hx : x = ix2 (x 0) (x 1) := funext fun a => by match a with | ⟨0, _⟩ | ⟨1, _⟩ => rfl
  have hi : i = ix2 (i 0) (x 1) := funext fun a => by
    match a with
    | ⟨0, _⟩ => rfl
    | ⟨1, _⟩ => exact Fin.ext hi1
  rw [hx, hi]
  exact point m c t (x 0) (x 1) (i 0) hi0

/-- The result array after the run. -/
theorem final (c : Dev nD) : (dats m 0 c).arrAt 12 (cfgs 0).N = want m c := by
  refine (dats m 0 c).arrAt_eq_of_covers 12 _ (by decide +kernel) fun t _ y => ?_
  blk_simp
  rw [after0_12]
  unfold out0_12
  canon_tiles x q
  all_goals refine point_at m c t x _ ?_ ?_
  all_goals (blk_simp [idx t] <;> omega)

end Cert.Kernel3Ideal.Merge
-- ==== Proof.Merge4Ref.lean ====
/- The reference of the context tokens' merge, read at an entry. -/
module

public import proofs.«01_k».proof.Proof.Gen.Reference4Ideal.Read
public import Idealize.ShloMosaic.Lib.Pointwise

@[expose] public section

set_option maxRecDepth 16384

noncomputable section

namespace Cert.Reference4Ideal.Read

open Idealize.ShloMosaic Idealize.ShloMosaic.TcCoe

/-- A gate's entry: one of the three groups of the activations' last columns. -/
theorem gate_apply (x2 : FVec Ideal S8192x8192 .f32) (R : Fin 8192) (j : Fin 1024) :
    val_main_v4 (F := Ideal) x2 (ix2 R j) = x2 (ix2 R ⟨5120 + j.val, by omega⟩)
    ∧ val_main_v8 (F := Ideal) x2 (ix2 R j) = x2 (ix2 R ⟨6144 + j.val, by omega⟩)
    ∧ val_main_v13 (F := Ideal) x2 (ix2 R j) = x2 (ix2 R ⟨7168 + j.val, by omega⟩) := by
  refine ⟨?_, ?_, ?_⟩
  · rw [val_main_v4_apply, val_main_v3_apply, val_main_v2_apply, val_main_v1_apply]
    exact congrArg x2 (funext fun a => by
      match a with
      | ⟨0, _⟩ | ⟨1, _⟩ =>
        exact Fin.ext (by simp [idx_main_v4, idx_main_v3, idx_main_v2, idx_main_v1, ix2] <;> omega))
  · rw [val_main_v8_apply, val_main_v7_apply, val_main_v2_apply, val_main_v1_apply]
    exact congrArg x2 (funext fun a => by
      match a with
      | ⟨0, _⟩ | ⟨1, _⟩ =>
        exact Fin.ext (by simp [idx_main_v8, idx_main_v7, idx_main_v2, idx_main_v1, ix2] <;> omega))
  · rw [val_main_v13_apply, val_main_v12_apply, val_main_v2_apply, val_main_v1_apply]
    exact congrArg x2 (funext fun a => by
      match a with
      | ⟨0, _⟩ | ⟨1, _⟩ =>
        exact Fin.ext (by simp [idx_main_v13, idx_main_v12, idx_main_v2, idx_main_v1, ix2] <;> omega))

/-- A mixer's row through its output weights. -/
theorem branch_apply (x3 : FVec Ideal S8192x512 .f32) (x6 : FVec Ideal S512x1024 .f32) (R : Fin 8192) (j : Fin 1024) :
    val_main_v5 (F := Ideal) x3 x6 (ix2 R j) = ∑ k : Fin 512, x3 (ix2 R k) * x6 (ix2 k j) := by
  rw [val_main_v5_apply]
  exact Finset.sum_congr rfl fun k _ => congrArg₂ (· * ·)
    (congrArg x3 (funext fun a => by match a with | ⟨0, _⟩ | ⟨1, _⟩ => rfl))
    (congrArg x6 (funext fun a => by match a with | ⟨0, _⟩ | ⟨1, _⟩ => rfl))

/-- The result at a row and column: the layer's input plus the gate times the merged row through the output weights. -/
theorem res_apply (x0 : FVec Ideal S8192x1024 .f32) (x1 : FVec Ideal S8x3072 .f32) (x2 : FVec Ideal S8192x8192 .f32)
    (x3 x4 x5 : FVec Ideal S8192x512 .f32) (x6 x7 x8 : FVec Ideal S512x1024 .f32) (x9 : FVec Ideal S1024x1024 .f32)
    (R : Fin 8192) (e : Fin 1024) :
    val_main_v20 (F := Ideal) x0 x1 x2 x3 x4 x5 x6 x7 x8 x9 (ix2 R e)
      = x0 (ix2 R e) + x1 (ix2 0 ⟨2048 + e.val, by omega⟩) * ∑ j : Fin 1024,
          (x2 (ix2 R ⟨5120 + j.val, by omega⟩) * ∑ k : Fin 512, x3 (ix2 R k) * x6 (ix2 k j)
            + x2 (ix2 R ⟨6144 + j.val, by omega⟩) * ∑ k : Fin 512, x4 (ix2 R k) * x7 (ix2 k j)
            + x2 (ix2 R ⟨7168 + j.val, by omega⟩) * ∑ k : Fin 512, x5 (ix2 R k) * x8 (ix2 k j)) * x9 (ix2 j e) := by
  rw [val_main_v20_apply, val_main_v19_apply, val_main_v18_apply, val_main_v17_apply, val_main_v0_apply]
  refine congrArg₂ (· + ·) rfl (congrArg₂ (· * ·) (congrArg x1 ?_) (Finset.sum_congr rfl fun j _ => ?_))
  · exact funext fun a => by
      match a with
      | ⟨0, _⟩ | ⟨1, _⟩ => exact Fin.ext (by simp [idx_main_v18, idx_main_v0, ix2])
  · refine congrArg₂ (· * ·) ?_ (congrArg x9 (funext fun a => by match a with | ⟨0, _⟩ | ⟨1, _⟩ => rfl))
    have hi : lidx_main_v17 (ix2 R e) j = ix2 R j := funext fun a => by match a with | ⟨0, _⟩ | ⟨1, _⟩ => rfl
    obtain ⟨g0, g1, g2⟩ := gate_apply x2 R j
    rw [hi, val_main_v16_apply, val_main_v11_apply, val_main_v6_apply, val_main_v10_apply, val_main_v15_apply, g0, g1, g2]
    exact congrArg₂ (· + ·) (congrArg₂ (· + ·) (congrArg (x2 _ * ·) (branch_apply x3 x6 R j))
      (congrArg (x2 _ * ·) (branch_apply x4 x7 R j))) (congrArg (x2 _ * ·) (branch_apply x5 x8 R j))

end Cert.Reference4Ideal.Read
-- ==== Proof.Merge4Final.lean ====
/- The context tokens' merge: the whole result after the run is the reference's.

   The launch differs from the latent tokens' in one window: every grid point has the modulation's first row. -/
module

public import proofs.«01_k».proof.Proof.Gen.Kernel4Ideal.Value
public import proofs.«01_k».proof.Proof.MergeFinal
public import proofs.«01_k».proof.Proof.Merge4Ref
public import Idealize.ShloMosaic.Lib.Pipeline.ValueKit

@[expose] public section

set_option maxRecDepth 16384

noncomputable section

namespace Cert.Kernel4Ideal.Merge

open Idealize.ShloMosaic Idealize.ShloMosaic.TcCoe Idealize.SL.Sem
open Idealize.ShloMosaic.Pipeline (Dat)
open Cert.Kernel4Ideal.Gen

variable (m : (ℓ : Loc nD τ sig) → Buf (Elt Ideal) ℓ)

/-- The reference's result of the kernel's arguments. -/
def want (c : Dev nD) : FVec Ideal S8192x1024 .f32 :=
  Cert.Reference4Ideal.Read.val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- The modulation's block and the result's block at a grid point. -/
theorem idx : ∀ t : Fin cfg0.N, win0_1.index t = ![0, 0, 0] ∧ win0_12.index t = ![t.val, 0] :=
  (by decide +kernel : ∀ t : Fin grid0.N, _)

/-- The modulation's block: its first row, as the program's argument holds it. -/
theorem blk1 (c : Dev nD) (t : Fin cfg0.N) (d : Fin 3072) :
    (show FVec Ideal S1x1x3072 .f32 from iblk m c 1 t) (ix3 0 0 d)
      = (show FVec Ideal S8x3072 .f32 from m ((c : Thread nD τ).loc main_arg1)) (ix2 0 d) := by
  refine Eq.trans (b := (show FVec Ideal S8x1x3072 .f32 from V m c main_v0) (ix3 0 0 d)) ?_ ?_
  · blk_ext [iblk, idx t]
  · entry_read
    pointwise

/-- What a grid point stores, at an entry, is the reference's entry there. -/
theorem point (c : Dev nD) (t : Fin cfg0.N) (r e : Fin 1024) (R : Fin 8192) (hR : R.val = t.val * 1024 + r.val) :
    k0_pay1 (F := Ideal) (k0_pay2 (View.ld (iblk m c 5 t) r0_0) (View.ld (iblk m c 2 t) r0_1) (View.ld (iblk m c 8 t) r0_2)
        (View.ld (iblk m c 6 t) r0_0) (View.ld (iblk m c 3 t) r0_1) (View.ld (iblk m c 9 t) r0_2) (View.ld (iblk m c 7 t) r0_0)
        (View.ld (iblk m c 4 t) r0_1) (View.ld (iblk m c 10 t) r0_2) (View.ld (iblk m c 11 t) r0_0)) (View.ld (iblk m c 0 t) r0_0)
        (View.ld (iblk m c 1 t) r0_3) (ix2 r e) = want m c (ix2 R e) := by
  refine (Cert.Kernel3Ideal.Merge.pay_apply _ _ _ _ _ _ _ _ _ _ _ _ r e).trans
    (Eq.trans ?_ (Cert.Reference4Ideal.Read.res_apply _ _ _ _ _ _ _ _ _ _ R e).symm)
  refine congrArg₂ (· + ·) (Cert.Kernel3Ideal.Merge.blk0 m c t r e R hR) (congrArg₂ (· * ·) (blk1 m c t _) (Finset.sum_congr rfl fun j _ => ?_))
  obtain ⟨g0, g1, g2⟩ := Cert.Kernel3Ideal.Merge.blk567 m c t r j R hR
  refine congrArg₂ (· * ·) (congrArg₂ (· + ·) (congrArg₂ (· + ·) (congrArg₂ (· * ·) g0 ?_) (congrArg₂ (· * ·) g1 ?_)) (congrArg₂ (· * ·) g2 ?_))
    (Cert.Kernel3Ideal.Merge.blkw m c t 0 j e).2.2.2
  · exact Finset.sum_congr rfl fun k _ => congrArg₂ (· * ·) (Cert.Kernel3Ideal.Merge.blk234 m c t r k R hR).1
      (Cert.Kernel3Ideal.Merge.blkw m c t k j e).1
  · exact Finset.sum_congr rfl fun k _ => congrArg₂ (· * ·) (Cert.Kernel3Ideal.Merge.blk234 m c t r k R hR).2.1
      (Cert.Kernel3Ideal.Merge.blkw m c t k j e).2.1
  · exact Finset.sum_congr rfl fun k _ => congrArg₂ (· * ·) (Cert.Kernel3Ideal.Merge.blk234 m c t r k R hR).2.2
      (Cert.Kernel3Ideal.Merge.blkw m c t k j e).2.2.1

/-- The same, the entry's two indices given by their coordinates. -/
theorem point_at (c : Dev nD) (t : Fin cfg0.N) (x : S1024x1024.Idx) (i : S8192x1024.Idx)
    (hi0 : (i 0 : ℕ) = t.val * 1024 + (x 0 : ℕ)) (hi1 : (i 1 : ℕ) = (x 1 : ℕ)) :
    k0_pay1 (F := Ideal) (k0_pay2 (View.ld (iblk m c 5 t) r0_0) (View.ld (iblk m c 2 t) r0_1) (View.ld (iblk m c 8 t) r0_2)
        (View.ld (iblk m c 6 t) r0_0) (View.ld (iblk m c 3 t) r0_1) (View.ld (iblk m c 9 t) r0_2) (View.ld (iblk m c 7 t) r0_0)
        (View.ld (iblk m c 4 t) r0_1) (View.ld (iblk m c 10 t) r0_2) (View.ld (iblk m c 11 t) r0_0)) (View.ld (iblk m c 0 t) r0_0)
        (View.ld (iblk m c 1 t) r0_3) x = want m c i := by
  have hx : x = ix2 (x 0) (x 1) := funext fun a => by match a with | ⟨0, _⟩ | ⟨1, _⟩ => rfl
  have hi : i = ix2 (i 0) (x 1) := funext fun a => by
    match a with
    | ⟨0, _⟩ => rfl
    | ⟨1, _⟩ => exact Fin.ext hi1
  rw [hx, hi]
  exact point m c t (x 0) (x 1) (i 0) hi0

/-- The result array after the run. -/
theorem final (c : Dev nD) : (dats m 0 c).arrAt 12 (cfgs 0).N = want m c := by
  refine (dats m 0 c).arrAt_eq_of_covers 12 _ (by decide +kernel) fun t _ y => ?_
  blk_simp
  rw [after0_12]
  unfold out0_12
  canon_tiles x q
  all_goals refine point_at m c t x _ ?_ ?_
  all_goals (blk_simp [idx t] <;> omega)

end Cert.Kernel4Ideal.Merge
-- ==== Proof.PoolSpec.lean ====
/- The pooling mixer's mathematics: the sum over a clipped window of a sequence, as a masked sum and as a sum of doubled steps. -/
module

public import Idealize.ShloMosaic.Lib.Pointwise
public import Mathlib.Algebra.BigOperators.Intervals

@[expose] public section

noncomputable section

namespace Cert.Pool

/-- The sequence with 16 zeros before and behind it. -/
def padded (u : Fin 2048 → EReal) (j : ℕ) : EReal := if h : 16 ≤ j ∧ j < 2064 then u ⟨j - 16, by omega⟩ else 0

/-- The padded sequence's sum over the 2 h places from h before place i on. -/
def around (u : Fin 2048 → EReal) (h i : ℕ) : EReal := ∑ d ∈ Finset.range (2 * h), padded u (i - h + d)

/-- Twice the width: the sums around the places h behind and h before. -/
theorem around_double (u : Fin 2048 → EReal) (h i : ℕ) (hi : 2 * h ≤ i) :
    around u h (i + h) + around u h (i - h) = around u (2 * h) i := by
  unfold around
  rw [show 2 * (2 * h) = 2 * h + 2 * h by omega, Finset.sum_range_add, add_comm]
  refine congrArg₂ (· + ·) (Finset.sum_congr rfl fun d _ => ?_) (Finset.sum_congr rfl fun d _ => ?_)
  · exact congrArg (padded u) (by omega)
  · exact congrArg (padded u) (by omega)

/-- The sum of the sequence's entries inside a window that the sequence clips is the padded sequence's sum over the whole window. -/
theorem masked_eq (u : Fin 2048 → EReal) (h t : ℕ) (hh : h ≤ 16) (ht : t < 2048) :
    ∑ s : Fin 2048, u s * (if t - h ≤ s.val ∧ s.val < min (t + h) 2048 then 1 else 0) = around u h (16 + t) := by
  have hl : ∑ s : Fin 2048, u s * (if t - h ≤ s.val ∧ s.val < min (t + h) 2048 then (1 : EReal) else 0)
      = ∑ s : Fin 2048, if t - h ≤ s.val ∧ s.val < t + h then padded u (16 + s.val) else 0 :=
    Finset.sum_congr rfl fun s _ => by
      have hs : s.val < 2048 := s.isLt
      have hp : padded u (16 + s.val) = u s := by
        unfold padded
        rw [dif_pos (by omega)]
        exact congrArg u (Fin.ext (by show 16 + s.val - 16 = s.val; omega))
      by_cases hc : t - h ≤ s.val ∧ s.val < t + h
      · rw [if_pos hc, if_pos (by omega), mul_one, hp]
      · rw [if_neg hc, if_neg (by omega), mul_zero]
  rw [hl, Fin.sum_univ_eq_sum_range (fun s => if t - h ≤ s ∧ s < t + h then padded u (16 + s) else 0) 2048, ← Finset.sum_filter]
  unfold around
  symm
  refine Finset.sum_bij_ne_zero (fun d _ _ => t + d - h) ?_ ?_ ?_ ?_
  · intro d hd hne
    have hb : 16 ≤ 16 + t - h + d ∧ 16 + t - h + d < 2064 := by
      by_contra hb
      exact hne (by unfold padded; rw [dif_neg hb])
    have hd' := Finset.mem_range.mp hd
    exact Finset.mem_filter.mpr ⟨Finset.mem_range.mpr (by omega), by omega, by omega⟩
  · intro d hd hne d' hd' hne' e
    have hb : ∀ d, padded u (16 + t - h + d) ≠ 0 → 16 ≤ 16 + t - h + d := fun d hne => by
      by_contra hb
      exact hne (by unfold padded; rw [dif_neg (by omega)])
    have h1 := hb d hne
    have h2 := hb d' hne'
    omega
  · intro s hs hne
    obtain ⟨hs1, hs2, hs3⟩ := Finset.mem_filter.mp hs
    refine ⟨s + h - t, Finset.mem_range.mpr (by omega), ?_, by omega⟩
    rw [show 16 + t - h + (s + h - t) = 16 + s by omega]
    exact hne
  · intro d hd hne
    have hb : 16 ≤ 16 + t - h + d := by
      by_contra hb
      exact hne (by unfold padded; rw [dif_neg (by omega)])
    exact congrArg (padded u) (by omega)

end Cert.Pool
-- ==== Proof.PoolRead.lean ====
/- The pooling mixer's kernel: one entry of the block a grid point stores, from the point's input blocks.

   The four groups of columns have the same text up to the window; it is named here once, the half window being a word. -/
module

public import proofs.«01_k».proof.Proof.Gen.Kernel5Ideal.Frame
public import proofs.«01_k».proof.Proof.PoolSpec
public import Idealize.ShloMosaic.Lib.Pointwise
public import Idealize.ShloMosaic.Lib.KernelVsHost

@[expose] public section

set_option maxRecDepth 16384

noncomputable section

namespace Cert.Kernel5Ideal.Mix

open Idealize.ShloMosaic Idealize.ShloMosaic.TcCoe
open Cert.Kernel5Ideal.Gen

/-- A group's columns with 16 rows of zeros above and below. -/
def pad (u : Vec Ideal S2048x128 .bf16) : FVec Ideal S2080x128 .f32 :=
  concatenate S2080x128 0 [⟨S16x128, k0_pay2 (F := Ideal)⟩,
    ⟨S2048x128, extf .f32 (shapeCast S2048x128 u shapeCasts_S2048x128_S2048x128) bitsLt_bf16_f32⟩,
    ⟨S16x128, k0_pay2 (F := Ideal)⟩] concatenates_S16x128_S2048x128_S16x128_S2080x128_d0

/-- Each row and the row above. -/
def first (p : FVec Ideal S2080x128 .f32) : FVec Ideal S2080x128 .f32 :=
  addf p (dynamicRotate 0 1#32 none p rotates_S2080x128_d0)

/-- The rows moved by one amount and by another, added. -/
def double (a b : BitVec 32) (s : FVec Ideal S2080x128 .f32) : FVec Ideal S2080x128 .f32 :=
  addf (dynamicRotate 0 a none s rotates_S2080x128_d0) (dynamicRotate 0 b none s rotates_S2080x128_d0)

/-- The number of places in a row's clipped window. -/
def count (h : BitVec 32) : IVec S2048x1 32 :=
  subi (minsi (addi (iota .tc S2048x1 32 [0] iota_S2048x1_d0_w32) (broadcast S2048x1 h)) (broadcast S2048x1 2048#32))
    (maxsi (subi (iota .tc S2048x1 32 [0] iota_S2048x1_d0_w32) (broadcast S2048x1 h)) (broadcast S2048x1 0#32))

/-- From the windows' sums to the stored columns: the mean less the row itself, through the group's weights, scaled and gated. -/
def tail (s : FVec Ideal S2080x128 .f32) (n : IVec S2048x1 32) (u : Vec Ideal S2048x128 .bf16) (w : Vec Ideal S1x128x128 .f32)
    (sc : Vec Ideal S1x128 .f32) (z : Vec Ideal S2048x128 .bf16) : FVec Ideal S2048x128 .bf16 :=
  truncf .bf16 (mulf (mulf
    (matmul dot_S2048x128_S128x128_S2048x128_1_0_0_1_n_n none
      (truncf .bf16 (subf (divf (extractStridedSlice S2048x128 ![16, 0] s slices_S2080x128_o16_0_S2048x128)
          (broadcastTo S2048x128 (sitofp .f32 n) broadcasts_S2048x1_S2048x128))
        (extf .f32 (shapeCast S2048x128 u shapeCasts_S2048x128_S2048x128) bitsLt_bf16_f32)) bitsLt_bf16_f32)
      (truncf .bf16 (shapeCast S128x128 w shapeCasts_S1x128x128_S128x128) bitsLt_bf16_f32) (constant S2048x128 .f32 0x00000000#32))
    (broadcastTo S2048x128 (shapeCast S1x128 sc shapeCasts_S1x128_S1x128) broadcasts_S1x128_S2048x128))
    (extf .f32 (shapeCast S2048x128 z shapeCasts_S2048x128_S2048x128) bitsLt_bf16_f32)) bitsLt_bf16_f32

/-- The four groups' stores are of this form. -/
theorem pays (x0 x1 : Vec Ideal S2048x512 .bf16) (x2 : Vec Ideal S4x128x128 .f32) (x3 : Vec Ideal S1x512 .f32)
    (u : Vec Ideal S2048x128 .bf16) (w : Vec Ideal S1x128x128 .f32) (sc : Vec Ideal S1x128 .f32) (z : Vec Ideal S2048x128 .bf16) :
    k0_pay3 u w sc z = tail (first (pad u)) (count 1#32) u w sc z
    ∧ k0_pay5 (k0_pay12 x0 x1 x2 x3) (k0_pay13 x0 x1 x2 x3) k0_pay4 u w sc z
      = tail (double 2079#32 1#32 (first (pad u))) (count 2#32) u w sc z
    ∧ k0_pay8 (k0_pay12 x0 x1 x2 x3) (k0_pay13 x0 x1 x2 x3) (k0_pay6 (k0_pay12 x0 x1 x2 x3)) k0_pay7 u w sc z
      = tail (double 2078#32 2#32 (double 2079#32 1#32 (first (pad u)))) (count 4#32) u w sc z
    ∧ k0_pay1 (k0_pay10 (k0_pay12 x0 x1 x2 x3) (k0_pay13 x0 x1 x2 x3) k0_pay9 u w sc) (k0_pay11 z)
      = tail (double 2076#32 4#32 (double 2078#32 2#32 (double 2079#32 1#32 (first (pad u))))) (count 8#32) u w sc z :=
  ⟨rfl, rfl, rfl, rfl⟩

/-- A padded column. -/
theorem pad_apply (u : Vec Ideal S2048x128 .bf16) (i : Fin 2080) (k : Fin 128) :
    pad u (ix2 i k) = Cert.Pool.padded (fun s => u (ix2 s k)) i.val := by
  unfold pad Cert.Pool.padded
  pointwise [k0_pay2]
  by_cases h1 : i.val < 16
  · rw [dif_pos h1, dif_neg (by omega)]
  · by_cases h2 : i.val - 16 < 2048
    · rw [dif_neg h1, dif_pos h2, dif_pos (by omega)]
    · rw [dif_neg h1, dif_neg h2, dif_neg (by omega)]

/-- The rows moved down. -/
theorem down_apply (b : BitVec 32) (h : ℕ) (hb : b.toNat = h) (s : FVec Ideal S2080x128 .f32) (i j : Fin 2080) (k : Fin 128)
    (hi : j.val + h = i.val) : dynamicRotate 0 b none s rotates_S2080x128_d0 (ix2 i k) = s (ix2 j k) := by
  have h1 := i.isLt
  refine dynamicRotate_apply (0 : Fin 2) b s _ _ _ fun a => ?_
  match a with
  | ⟨0, _⟩ =>
    show j.val = (i.val + 2080 - b.toNat % 2080) % 2080
    omega
  | ⟨1, _⟩ => rfl

/-- The rows moved up. -/
theorem up_apply (a : BitVec 32) (h : ℕ) (ha : a.toNat = 2080 - h) (h0 : 0 < h) (s : FVec Ideal S2080x128 .f32) (i j : Fin 2080) (k : Fin 128)
    (hi : i.val + h = j.val) : dynamicRotate 0 a none s rotates_S2080x128_d0 (ix2 i k) = s (ix2 j k) := by
  have h1 := j.isLt
  refine dynamicRotate_apply (0 : Fin 2) a s _ _ _ fun b => ?_
  match b with
  | ⟨0, _⟩ =>
    show j.val = (i.val + 2080 - a.toNat % 2080) % 2080
    omega
  | ⟨1, _⟩ => rfl

/-- The first step sums windows of width two. -/
theorem first_apply (u : Vec Ideal S2048x128 .bf16) (i : Fin 2080) (k : Fin 128) (hi : 1 ≤ i.val) :
    first (pad u) (ix2 i k) = Cert.Pool.around (fun s => u (ix2 s k)) 1 i.val := by
  show pad u (ix2 i k) + dynamicRotate 0 1#32 none (pad u) rotates_S2080x128_d0 (ix2 i k) = _
  rw [down_apply 1#32 1 rfl (pad u) i ⟨i.val - 1, by omega⟩ k (by show i.val - 1 + 1 = i.val; omega), pad_apply, pad_apply]
  unfold Cert.Pool.around
  rw [Finset.sum_range_succ, Finset.sum_range_one, add_comm]
  refine congrArg₂ (· + ·) rfl (congrArg _ ?_)
  omega

/-- A further step doubles the width, where nothing comes around the ends. -/
theorem double_apply (a b : BitVec 32) (h : ℕ) (ha : a.toNat = 2080 - h) (hb : b.toNat = h) (h0 : 0 < h) (s : FVec Ideal S2080x128 .f32)
    (u : Fin 2048 → EReal) (k : Fin 128) (hs : ∀ i : Fin 2080, h ≤ i.val → i.val + h ≤ 2080 → s (ix2 i k) = Cert.Pool.around u h i.val)
    (i : Fin 2080) (h1 : 2 * h ≤ i.val) (h2 : i.val + 2 * h ≤ 2080) : double a b s (ix2 i k) = Cert.Pool.around u (2 * h) i.val := by
  show dynamicRotate 0 a none s rotates_S2080x128_d0 (ix2 i k) + dynamicRotate 0 b none s rotates_S2080x128_d0 (ix2 i k) = _
  rw [up_apply a h ha h0 s i ⟨i.val + h, by omega⟩ k rfl,
    down_apply b h hb s i ⟨i.val - h, by omega⟩ k (by show i.val - h + h = i.val; omega),
    hs _ (by show h ≤ i.val + h; omega) (by show i.val + h + h ≤ 2080; omega),
    hs _ (by show h ≤ i.val - h; omega) (by show i.val - h + h ≤ 2080; omega)]
  exact Cert.Pool.around_double u h i.val h1

/-- The four trees at a row of the sequence are the four windows' sums. -/
theorem trees (u : Vec Ideal S2048x128 .bf16) (r : Fin 2048) (k : Fin 128) :
    first (pad u) (ix2 ⟨16 + r.val, by omega⟩ k) = Cert.Pool.around (fun s => u (ix2 s k)) 1 (16 + r.val)
    ∧ double 2079#32 1#32 (first (pad u)) (ix2 ⟨16 + r.val, by omega⟩ k) = Cert.Pool.around (fun s => u (ix2 s k)) 2 (16 + r.val)
    ∧ double 2078#32 2#32 (double 2079#32 1#32 (first (pad u))) (ix2 ⟨16 + r.val, by omega⟩ k)
      = Cert.Pool.around (fun s => u (ix2 s k)) 4 (16 + r.val)
    ∧ double 2076#32 4#32 (double 2078#32 2#32 (double 2079#32 1#32 (first (pad u)))) (ix2 ⟨16 + r.val, by omega⟩ k)
      = Cert.Pool.around (fun s => u (ix2 s k)) 8 (16 + r.val) := by
  have hr := r.isLt
  have s1 := fun (i : Fin 2080) (h : 1 ≤ i.val) (_ : i.val + 1 ≤ 2080) => first_apply u i k h
  have s2 := double_apply 2079#32 1#32 1 rfl rfl (by omega) _ _ k s1
  have s4 := double_apply 2078#32 2#32 2 rfl rfl (by omega) _ _ k s2
  have s8 := double_apply 2076#32 4#32 4 rfl rfl (by omega) _ _ k s4
  exact ⟨s1 _ (by show 1 ≤ 16 + r.val; omega) (by show 16 + r.val + 1 ≤ 2080; omega),
    s2 _ (by show 2 * 1 ≤ 16 + r.val; omega) (by show 16 + r.val + 2 * 1 ≤ 2080; omega),
    s4 _ (by show 2 * 2 ≤ 16 + r.val; omega) (by show 16 + r.val + 2 * 2 ≤ 2080; omega),
    s8 _ (by show 2 * 4 ≤ 16 + r.val; omega) (by show 16 + r.val + 2 * 4 ≤ 2080; omega)⟩

/-- A stored entry. -/
theorem tail_apply (s : FVec Ideal S2080x128 .f32) (n : IVec S2048x1 32) (u : Vec Ideal S2048x128 .bf16) (w : Vec Ideal S1x128x128 .f32)
    (sc : Vec Ideal S1x128 .f32) (z : Vec Ideal S2048x128 .bf16) (r : Fin 2048) (c : Fin 128) :
    tail s n u w sc z (ix2 r c)
      = (∑ k : Fin 128, (Ideal.div (s (ix2 ⟨16 + r.val, by omega⟩ k)) (FloatOps.sitofp (F := Ideal) .f32 (n (ix2 r 0))) - u (ix2 r k)) * w (ix3 0 k c))
        * sc (ix2 0 c) * z (ix2 r c) := by
  unfold tail
  pointwise

end Cert.Kernel5Ideal.Mix
-- ==== Proof.PoolRef.lean ====
/- The pooling mixer's reference, read at an entry.

   The four groups of columns have the same text up to the window; it is named here once, the half window being a word. -/
module

public import proofs.«01_k».proof.Proof.Gen.Reference5Ideal.Read
public import proofs.«01_k».proof.Proof.PoolSpec
public import Idealize.ShloMosaic.Lib.Pointwise
public import Idealize.ShloMosaic.Lib.WordCmp

@[expose] public section

set_option maxRecDepth 16384

noncomputable section

namespace Cert.Reference5Ideal.Read

open Cert.Reference5Ideal Cert.Reference5Ideal.Gen Idealize.ShloMosaic Idealize.ShloMosaic.TcCoe Idealize.ShloMosaic.WordCmp

/-- Words clipped to a position of the sequence. -/
def clip (x : IVec S2048 32) : IVec S2048 32 :=
  minsi (broadcastInDim S2048 ![] bcast_S_S2048 (id (constantI S_ 32 2048#32)))
    (maxsi (broadcastInDim S2048 ![] bcast_S_S2048 (id (constantI S_ 32 0#32))) x)

/-- Where a position's clipped window begins. -/
def lo (h : BitVec 32) : IVec S2048 32 := clip (subi (iotaInDim S2048 32 0) (broadcastInDim S2048 ![] bcast_S_S2048 (constantI S_ 32 h)))

/-- Where it ends. -/
def hi (h : BitVec 32) : IVec S2048 32 := clip (addi (iotaInDim S2048 32 0) (broadcastInDim S2048 ![] bcast_S_S2048 (constantI S_ 32 h)))

/-- The matrix of ones inside the windows and zeros outside. -/
def inside (h : BitVec 32) : FVec Ideal S2048x2048 .f32 :=
  uitofp .f32 (andi
    (cmpi .sle (broadcastInDim S2048x2048 ![0, 1] bcast_S2048x1_S2048x2048_0_1 (broadcastInDim S2048x1 ![0] bcast_S2048_S2048x1_0 (lo h)))
      (broadcastInDim S2048x2048 ![0, 1] bcast_S1x2048_S2048x2048_0_1 (broadcastInDim S1x2048 ![1] bcast_S2048_S1x2048_1 (iotaInDim S2048 32 0))))
    (cmpi .slt
      (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (hi h)))))

/-- The windows' means of a group of columns. -/
def mean (h : BitVec 32) (u : FVec Ideal S4x2048x128 .f32) : FVec Ideal S4x2048x128 .f32 :=
  Host.divf (transpose S4x2048x128 [0, 2, 1]
      (Host.dotGeneral dot_S4x2048x128_S2048x2048_S4x128x2048_1_1_02_0_n_n none u (inside h)) transposes_S4x128x2048_S4x2048x128_0_2_1)
    (broadcastInDim S4x2048x128 ![0, 1, 2] bcast_S1x2048x1_S4x2048x128_0_1_2
      (broadcastInDim S1x2048x1 ![1] bcast_S2048_S1x2048x1_1 (sitofp .f32 (subi (hi h) (lo h)))))

/-- The four groups' means are of this form. -/
theorem means (x0 : FVec Ideal S8192x8192 .f32) :
    val_main_v29 (F := Ideal) x0 = mean 1#32 (val_main_v22 (F := Ideal) x0) ∧ val_main_v55 (F := Ideal) x0 = mean 2#32 (val_main_v48 (F := Ideal) x0)
    ∧ val_main_v81 (F := Ideal) x0 = mean 4#32 (val_main_v74 (F := Ideal) x0) ∧ val_main_v107 (F := Ideal) x0 = mean 8#32 (val_main_v100 (F := Ideal) x0) :=
  ⟨rfl, rfl, rfl, rfl⟩

/-- A position's words. -/
def loWord (h : BitVec 32) (t : ℕ) : BitVec 32 := IntOp.minsi 2048#32 (IntOp.maxsi 0#32 (IntOp.subi (BitVec.ofNat 32 t) h))
def hiWord (h : BitVec 32) (t : ℕ) : BitVec 32 := IntOp.minsi 2048#32 (IntOp.maxsi 0#32 (IntOp.addi (BitVec.ofNat 32 t) h))

theorem lo_apply (h : BitVec 32) (t : Fin 2048) : lo h (ix1 t) = loWord h t.val := by
  pointwise [lo, clip]
  rfl

theorem hi_apply (h : BitVec 32) (t : Fin 2048) : hi h (ix1 t) = hiWord h t.val := by
  pointwise [hi, clip]
  rfl

/-- The words are the window's clipped ends. -/
theorem words : ∀ g : Fin 4, ∀ t : Fin 2048,
    loWord (BitVec.ofNat 32 (2 ^ g.val)) t.val = BitVec.ofNat 32 (t.val - 2 ^ g.val)
    ∧ hiWord (BitVec.ofNat 32 (2 ^ g.val)) t.val = BitVec.ofNat 32 (min (t.val + 2 ^ g.val) 2048) := by decide +kernel

/-- An entry of the matrix. -/
theorem inside_apply (g : Fin 4) (t s : Fin 2048) :
    inside (BitVec.ofNat 32 (2 ^ g.val)) (ix2 t s) = if t.val - 2 ^ g.val ≤ s.val ∧ s.val < min (t.val + 2 ^ g.val) 2048 then 1 else 0 := by
  have h : inside (BitVec.ofNat 32 (2 ^ g.val)) (ix2 t s) = FloatOps.uitofp (F := Ideal) .f32
      (IntOp.andi (IntOp.cmpi .sle (lo (BitVec.ofNat 32 (2 ^ g.val)) (ix1 t)) (BitVec.ofNat 32 s.val))
        (IntOp.cmpi .slt (BitVec.ofNat 32 s.val) (hi (BitVec.ofNat 32 (2 ^ g.val)) (ix1 t)))) := by
    unfold inside
    generalize lo (BitVec.ofNat 32 (2 ^ g.val)) = a
    generalize hi (BitVec.ofNat 32 (2 ^ g.val)) = b
    pointwise
  have hs : s.val < 2048 := s.isLt
  have ht : t.val < 2048 := t.isLt
  have hone : FloatOps.uitofp (F := Ideal) .f32 1#1 = 1 := by show (((1#1 : BitVec 1).toNat : ℝ) : EReal) = 1; simp
  have hzero : FloatOps.uitofp (F := Ideal) .f32 0#1 = 0 := by show (((0#1 : BitVec 1).toNat : ℝ) : EReal) = 0; simp
  rw [h, lo_apply, hi_apply, (words g t).1, (words g t).2, cmpi_sle_ofNat (lt_of_le_of_lt (Nat.sub_le _ _) (by omega)) (by omega), cmpi_slt_ofNat (by omega) (by omega)]
  by_cases h1 : t.val - 2 ^ g.val ≤ s.val <;> by_cases h2 : s.val < min (t.val + 2 ^ g.val) 2048
  · rw [if_pos ⟨h1, h2⟩, decide_eq_true h1, decide_eq_true h2]
    exact hone
  · rw [if_neg fun h => h2 h.2, decide_eq_true h1, decide_eq_false h2]
    exact hzero
  · rw [if_neg fun h => h1 h.1, decide_eq_false h1, decide_eq_true h2]
    exact hzero
  · rw [if_neg fun h => h1 h.1, decide_eq_false h1, decide_eq_false h2]
    exact hzero

/-- A window's mean: the sum over the window by the number of its places. -/
theorem mean_apply (g : Fin 4) (u : FVec Ideal S4x2048x128 .f32) (b : Fin 4) (t : Fin 2048) (c : Fin 128) :
    mean (BitVec.ofNat 32 (2 ^ g.val)) u (ix3 b t c)
      = Ideal.div (Cert.Pool.around (fun s => u (ix3 b s c)) (2 ^ g.val) (16 + t.val))
        (FloatOps.sitofp (F := Ideal) .f32
          (IntOp.subi (hiWord (BitVec.ofNat 32 (2 ^ g.val)) t.val) (loWord (BitVec.ofNat 32 (2 ^ g.val)) t.val))) := by
  have hp : 2 ^ g.val ≤ 16 := by
    match g with
    | 0 | 1 | 2 | 3 => decide
  rw [← Cert.Pool.masked_eq _ (2 ^ g.val) t.val hp t.isLt, ← lo_apply, ← hi_apply]
  have hsum : ∑ s : Fin 2048, u (ix3 b s c) * (if t.val - 2 ^ g.val ≤ s.val ∧ s.val < min (t.val + 2 ^ g.val) 2048 then 1 else 0)
      = ∑ s : Fin 2048, u (ix3 b s c) * inside (BitVec.ofNat 32 (2 ^ g.val)) (ix2 t s) :=
    Finset.sum_congr rfl fun s _ => congrArg (u (ix3 b s c) * ·) (inside_apply g t s).symm
  rw [hsum]
  unfold mean
  generalize inside (BitVec.ofNat 32 (2 ^ g.val)) = M
  generalize lo (BitVec.ofNat 32 (2 ^ g.val)) = a
  generalize hi (BitVec.ofNat 32 (2 ^ g.val)) = e
  pointwise

/-- A group's entry: the activations' pooled columns at the position's row. -/
theorem group_apply (x0 : FVec Ideal S8192x8192 .f32) (b : Fin 4) (t : Fin 2048) (k : Fin 128) (R : Fin 8192) (hR : R.val = b.val * 2048 + t.val) :
    val_main_v22 (F := Ideal) x0 (ix3 b t k) = x0 (ix2 R ⟨4096 + k.val, by omega⟩)
    ∧ val_main_v48 (F := Ideal) x0 (ix3 b t k) = x0 (ix2 R ⟨4224 + k.val, by omega⟩)
    ∧ val_main_v74 (F := Ideal) x0 (ix3 b t k) = x0 (ix2 R ⟨4352 + k.val, by omega⟩)
    ∧ val_main_v100 (F := Ideal) x0 (ix3 b t k) = x0 (ix2 R ⟨4480 + k.val, by omega⟩) := by
  have ht : t.val < 2048 := t.isLt
  have hk : k.val < 128 := k.isLt
  refine ⟨?_, ?_, ?_, ?_⟩
  · rw [val_main_v22_apply, val_main_v1_apply, val_main_v0_apply]
    exact congrArg x0 (funext fun a => by
      match a with
      | ⟨0, _⟩ | ⟨1, _⟩ => exact Fin.ext (by simp [idx_main_v22, idx_main_v1, idx_main_v0, ix2, ix3]; omega))
  · rw [val_main_v48_apply, val_main_v1_apply, val_main_v0_apply]
    exact congrArg x0 (funext fun a => by
      match a with
      | ⟨0, _⟩ | ⟨1, _⟩ => exact Fin.ext (by simp [idx_main_v48, idx_main_v1, idx_main_v0, ix2, ix3]; omega))
  · rw [val_main_v74_apply, val_main_v1_apply, val_main_v0_apply]
    exact congrArg x0 (funext fun a => by
      match a with
      | ⟨0, _⟩ | ⟨1, _⟩ => exact Fin.ext (by simp [idx_main_v74, idx_main_v1, idx_main_v0, ix2, ix3]; omega))
  · rw [val_main_v100_apply, val_main_v1_apply, val_main_v0_apply]
    exact congrArg x0 (funext fun a => by
      match a with
      | ⟨0, _⟩ | ⟨1, _⟩ => exact Fin.ext (by simp [idx_main_v100, idx_main_v1, idx_main_v0, ix2, ix3]; omega))

/-- The joined means, by the group that a column lies in. -/
theorem join_apply (x0 : FVec Ideal S8192x8192 .f32) (b : Fin 4) (t : Fin 2048) (k : Fin 128) :
    val_main_v108 (F := Ideal) x0 (ix3 b t ⟨k.val, by omega⟩) = val_main_v29 (F := Ideal) x0 (ix3 b t k)
    ∧ val_main_v108 (F := Ideal) x0 (ix3 b t ⟨128 + k.val, by omega⟩) = val_main_v55 (F := Ideal) x0 (ix3 b t k)
    ∧ val_main_v108 (F := Ideal) x0 (ix3 b t ⟨256 + k.val, by omega⟩) = val_main_v81 (F := Ideal) x0 (ix3 b t k)
    ∧ val_main_v108 (F := Ideal) x0 (ix3 b t ⟨384 + k.val, by omega⟩) = val_main_v107 (F := Ideal) x0 (ix3 b t k) := by
  have hk : k.val < 128 := k.isLt
  unfold val_main_v108
  generalize val_main_v29 (F := Ideal) x0 = y0
  generalize val_main_v55 (F := Ideal) x0 = y1
  generalize val_main_v81 (F := Ideal) x0 = y2
  generalize val_main_v107 (F := Ideal) x0 = y3
  refine ⟨?_, ?_, ?_, ?_⟩
  · pointwise
  · pointwise
  · pointwise
    rw [dif_neg (by omega), dif_neg (by omega), dif_pos (by omega)]
    exact congrArg y2 (congrArg (ix3 b t) (Fin.ext (by show 256 + k.val - 128 - 128 = k.val; omega)))
  · pointwise
    rw [dif_neg (by omega), dif_neg (by omega), dif_neg (by omega)]
    exact congrArg y3 (congrArg (ix3 b t) (Fin.ext (by show 384 + k.val - 128 - 128 - 128 = k.val; omega)))

/-- The number of places in a position's clipped window, as a float. -/
def places (g : Fin 4) (t : ℕ) : EReal :=
  FloatOps.sitofp (F := Ideal) .f32 (IntOp.subi (hiWord (BitVec.ofNat 32 (2 ^ g.val)) t) (loWord (BitVec.ofNat 32 (2 ^ g.val)) t))

/-- A group's joined mean. -/
theorem joined_apply (x0 : FVec Ideal S8192x8192 .f32) (g b : Fin 4) (t : Fin 2048) (k : Fin 128) :
    val_main_v108 (F := Ideal) x0 (ix3 b t ⟨g.val * 128 + k.val, by omega⟩)
      = Ideal.div (Cert.Pool.around (fun s => x0 (ix2 ⟨b.val * 2048 + s.val, by omega⟩ ⟨4096 + (g.val * 128 + k.val), by omega⟩))
        (2 ^ g.val) (16 + t.val)) (places g t.val) := by
  have hk : k.val < 128 := k.isLt
  match g with
  | 0 =>
    refine (congrArg (val_main_v108 (F := Ideal) x0) (congrArg (ix3 b t) (Fin.ext (by show 0 * 128 + k.val = k.val; omega)))).trans
      ((join_apply x0 b t k).1.trans ((congrFun (means x0).1 _).trans ((mean_apply 0 _ b t k).trans ?_)))
    exact congrArg (fun U => Ideal.div (Cert.Pool.around U _ _) (places 0 t.val)) (funext fun s =>
      (group_apply x0 b s k ⟨b.val * 2048 + s.val, by omega⟩ rfl).1.trans
        (congrArg (fun j => x0 (ix2 _ j)) (Fin.ext (by show 4096 + k.val = 4096 + (0 * 128 + k.val); omega))))
  | 1 =>
    refine (congrArg (val_main_v108 (F := Ideal) x0) (congrArg (ix3 b t) (Fin.ext (by show 1 * 128 + k.val = 128 + k.val; omega)))).trans
      ((join_apply x0 b t k).2.1.trans ((congrFun (means x0).2.1 _).trans ((mean_apply 1 _ b t k).trans ?_)))
    exact congrArg (fun U => Ideal.div (Cert.Pool.around U _ _) (places 1 t.val)) (funext fun s =>
      (group_apply x0 b s k ⟨b.val * 2048 + s.val, by omega⟩ rfl).2.1.trans
        (congrArg (fun j => x0 (ix2 _ j)) (Fin.ext (by show 4224 + k.val = 4096 + (1 * 128 + k.val); omega))))
  | 2 =>
    refine (congrArg (val_main_v108 (F := Ideal) x0) (congrArg (ix3 b t) (Fin.ext (by show 2 * 128 + k.val = 256 + k.val; omega)))).trans
      ((join_apply x0 b t k).2.2.1.trans ((congrFun (means x0).2.2.1 _).trans ((mean_apply 2 _ b t k).trans ?_)))
    exact congrArg (fun U => Ideal.div (Cert.Pool.around U _ _) (places 2 t.val)) (funext fun s =>
      (group_apply x0 b s k ⟨b.val * 2048 + s.val, by omega⟩ rfl).2.2.1.trans
        (congrArg (fun j => x0 (ix2 _ j)) (Fin.ext (by show 4352 + k.val = 4096 + (2 * 128 + k.val); omega))))
  | 3 =>
    refine (congrArg (val_main_v108 (F := Ideal) x0) (congrArg (ix3 b t) (Fin.ext (by show 3 * 128 + k.val = 384 + k.val; omega)))).trans
      ((join_apply x0 b t k).2.2.2.trans ((congrFun (means x0).2.2.2 _).trans ((mean_apply 3 _ b t k).trans ?_)))
    exact congrArg (fun U => Ideal.div (Cert.Pool.around U _ _) (places 3 t.val)) (funext fun s =>
      (group_apply x0 b s k ⟨b.val * 2048 + s.val, by omega⟩ rfl).2.2.2.trans
        (congrArg (fun j => x0 (ix2 _ j)) (Fin.ext (by show 4480 + k.val = 4096 + (3 * 128 + k.val); omega))))

/-- The result at an entry: the mean less the position, through the group's weights, scaled and gated. -/
theorem res_apply (x0 : FVec Ideal S8192x8192 .f32) (x1 : FVec Ideal S4x128x128 .f32) (x2 : FVec Ideal S512 .f32)
    (g b : Fin 4) (t : Fin 2048) (c : Fin 128) (R : Fin 8192) (hR : R.val = b.val * 2048 + t.val) :
    val_main_v118 (F := Ideal) x0 x1 x2 (ix2 R ⟨g.val * 128 + c.val, by omega⟩)
      = (∑ k : Fin 128, (Ideal.div (Cert.Pool.around (fun s => x0 (ix2 ⟨b.val * 2048 + s.val, by omega⟩ ⟨4096 + (g.val * 128 + k.val), by omega⟩))
          (2 ^ g.val) (16 + t.val)) (places g t.val) - x0 (ix2 R ⟨4096 + (g.val * 128 + k.val), by omega⟩)) * x1 (ix3 g k c))
        * x2 (ix1 ⟨g.val * 128 + c.val, by omega⟩) * x0 (ix2 R ⟨4608 + (g.val * 128 + c.val), by omega⟩) := by
  have ht : t.val < 2048 := t.isLt
  have hc : c.val < 128 := c.isLt
  rw [val_main_v118_apply, val_main_v117_apply, val_main_v116_apply, val_main_v113_apply, val_main_v112_apply, val_main_v111_apply,
    val_main_v115_apply, val_main_v114_apply, val_main_v2_apply]
  refine congrArg₂ (· * ·) (congrArg₂ (· * ·) (Finset.sum_congr rfl fun k _ => ?_) (congrArg x2 ?_)) (congrArg x0 ?_)
  · have hk : k.val < 128 := k.isLt
    refine (mul_comm _ _).trans (congrArg₂ (· * ·) ?_ (congrArg x1 ?_))
    · rw [val_main_v110_apply, val_main_v109_apply]
      have hi : idx_main_v110 (ridx_main_v111 (idx_main_v112 (idx_main_v113 (ix2 R ⟨g.val * 128 + c.val, by omega⟩))) k)
          = ix3 b t ⟨g.val * 128 + k.val, by omega⟩ := funext fun a => by
        match a with
        | ⟨0, _⟩ | ⟨1, _⟩ | ⟨2, _⟩ =>
          exact Fin.ext (by simp [idx_main_v110, ridx_main_v111, idx_main_v112, idx_main_v113, ix2, ix3]; omega)
      rw [hi, joined_apply, val_main_v1_apply, val_main_v0_apply]
      refine congrArg₂ (· - ·) rfl (congrArg x0 (funext fun a => by
        match a with
        | ⟨0, _⟩ | ⟨1, _⟩ => exact Fin.ext (by simp [idx_main_v1, idx_main_v0, ix2, ix3]; omega)))
    · exact funext fun a => by
        match a with
        | ⟨0, _⟩ | ⟨1, _⟩ | ⟨2, _⟩ =>
          exact Fin.ext (by simp [lidx_main_v111, idx_main_v112, idx_main_v113, ix2, ix3] <;> omega)
  · exact funext fun a => by
      match a with
      | ⟨0, _⟩ => rfl
  · exact funext fun a => by
      match a with
      | ⟨0, _⟩ | ⟨1, _⟩ => exact Fin.ext (by simp [idx_main_v2, ix2])

end Cert.Reference5Ideal.Read
-- ==== Proof.PoolFinal.lean ====
/- The pooling mixer: the whole result after the run is the reference's. -/
module

public import proofs.«01_k».proof.Proof.PoolRead
public import proofs.«01_k».proof.Proof.PoolRef
public import Idealize.ShloMosaic.Lib.Pipeline.ValueKit
public import Idealize.ShloMosaic.Lib.Claim

@[expose] public section

set_option maxRecDepth 16384

noncomputable section

namespace Cert.Kernel5Ideal.Mix

open Idealize.ShloMosaic Idealize.ShloMosaic.TcCoe Idealize.SL.Sem
open Idealize.ShloMosaic.Pipeline (Dat)
open Cert.Kernel5Ideal.Gen
open Cert.Reference5Ideal.Read (places loWord hiWord)

variable (m : (ℓ : Loc nD τ sig) → Buf (Elt Ideal) ℓ)

/-- The activations, the group weights and the scales the program is given. -/
abbrev act (c : Dev nD) : FVec Ideal S8192x8192 .f32 := m ((c : Thread nD τ).loc main_arg0)
abbrev weights (c : Dev nD) : FVec Ideal S4x128x128 .f32 := m ((c : Thread nD τ).loc main_arg1)
abbrev scale (c : Dev nD) : FVec Ideal S512 .f32 := m ((c : Thread nD τ).loc main_arg2)

/-- The reference's result of the kernel's arguments. -/
def want (c : Dev nD) : FVec Ideal S8192x512 .bf16 :=
  Cert.Reference5Ideal.Read.val_main_v118 (F := Ideal) (act m c) (weights m c) (scale m c)

/-- The kernel's count of a window's places, as a word. -/
theorem count_word (h : BitVec 32) (r : Fin 2048) :
    count h (ix2 r 0) = IntOp.subi (IntOp.minsi (IntOp.addi (BitVec.ofNat 32 r.val) h) 2048#32)
      (IntOp.maxsi (IntOp.subi (BitVec.ofNat 32 r.val) h) 0#32) := by
  unfold count
  pointwise

/-- The number of places in a window, counted as the reference counts it. -/
theorem count_apply (g : Fin 4) (r : Fin 2048) :
    FloatOps.sitofp (F := Ideal) .f32 (count (BitVec.ofNat 32 (2 ^ g.val)) (ix2 r 0)) = places g r.val :=
  congrArg (FloatOps.sitofp (F := Ideal) .f32) ((count_word _ r).trans
    ((by decide +kernel : ∀ (g : Fin 4) (r : Fin 2048),
      IntOp.subi (IntOp.minsi (IntOp.addi (BitVec.ofNat 32 r.val) (BitVec.ofNat 32 (2 ^ g.val))) 2048#32)
          (IntOp.maxsi (IntOp.subi (BitVec.ofNat 32 r.val) (BitVec.ofNat 32 (2 ^ g.val))) 0#32)
        = IntOp.subi (hiWord (BitVec.ofNat 32 (2 ^ g.val)) r.val) (loWord (BitVec.ofNat 32 (2 ^ g.val)) r.val)) g r))

/-- The activations the launch finds: the ideal cast changes nothing. -/
theorem act_read (c : Dev nD) : V m c main_v0 = m ((c : Thread nD τ).loc main_arg0) := rfl

/-- The scales the launch finds. -/
theorem scale_read (c : Dev nD) (e : Fin 512) :
    (show FVec Ideal S1x512 .f32 from V m c main_v1) (ix2 0 e) = scale m c (ix1 e) := by
  entry_read
  pointwise

/-- Every window's block at a grid point, by the point's number. -/
theorem idx : ∀ t : Fin cfg0.N, win0_0.index t = ![t.val, 8] ∧ win0_1.index t = ![t.val, 9] ∧ win0_2.index t = ![0, 0, 0]
    ∧ win0_3.index t = ![0, 0] ∧ win0_4.index t = ![t.val, 0] :=
  (by decide +kernel : ∀ t : Fin grid0.N, _)

/-- The pooled columns' block: a batch entry's 2048 rows. -/
theorem blk0 (c : Dev nD) (t : Fin cfg0.N) (r : Fin 2048) (e : Fin 512) (R C : Fin 8192) (hR : R.val = t.val * 2048 + r.val)
    (hC : C.val = 4096 + e.val) : (show FVec Ideal S2048x512 .bf16 from iblk m c 0 t) (ix2 r e) = act m c (ix2 R C) := by
  refine Eq.trans ?_ (congrFun (act_read m c) (ix2 R C))
  blk_ext [iblk, idx t]

/-- The gating columns' block. -/
theorem blk1 (c : Dev nD) (t : Fin cfg0.N) (r : Fin 2048) (e : Fin 512) (R C : Fin 8192) (hR : R.val = t.val * 2048 + r.val)
    (hC : C.val = 4608 + e.val) : (show FVec Ideal S2048x512 .bf16 from iblk m c 1 t) (ix2 r e) = act m c (ix2 R C) := by
  refine Eq.trans ?_ (congrFun (act_read m c) (ix2 R C))
  blk_ext [iblk, idx t]

/-- The group weights. -/
theorem blk2 (c : Dev nD) (t : Fin cfg0.N) (g : Fin 4) (k e : Fin 128) :
    (show FVec Ideal S4x128x128 .f32 from iblk m c 2 t) (ix3 g k e) = weights m c (ix3 g k e) := by
  blk_ext [iblk, V, idx t]

/-- The scales. -/
theorem blk3 (c : Dev nD) (t : Fin cfg0.N) (e : Fin 512) :
    (show FVec Ideal S1x512 .f32 from iblk m c 3 t) (ix2 0 e) = scale m c (ix1 e) := by
  refine Eq.trans ?_ (scale_read m c e)
  blk_ext [iblk, idx t]

section chunks

variable (o : ℕ) (h : ∀ a, (![0, o] : Fin 2 → ℕ) a + S2048x128.size a ≤ S2048x512.size a)
  (h' : ∀ a, (![0, o] : Fin 2 → ℕ) a + S1x128.size a ≤ S1x512.size a)
  (g : ℕ) (hg : ∀ a, (![g, 0, 0] : Fin 3 → ℕ) a + S1x128x128.size a ≤ S4x128x128.size a)

/-- 128 columns of a block, from column `o`. -/
abbrev cols (X : Vec Ideal S2048x512 .bf16) : Vec Ideal S2048x128 .bf16 :=
  View.ld (Val := Elt Ideal) (S := S2048x512) (e' := .bf16) X (Rect.unit (s := S2048x512) ![0, o] S2048x128.size h)

/-- 128 of the scales, from column `o`. -/
abbrev scs (X : Vec Ideal S1x512 .f32) : Vec Ideal S1x128 .f32 :=
  View.ld (Val := Elt Ideal) (S := S1x512) (e' := .f32) X (Rect.unit (s := S1x512) ![0, o] S1x128.size h')

/-- One group's weights. -/
abbrev wts (X : Vec Ideal S4x128x128 .f32) : Vec Ideal S1x128x128 .f32 :=
  View.ld (Val := Elt Ideal) (S := S4x128x128) (e' := .f32) X (Rect.unit (s := S4x128x128) ![g, 0, 0] S1x128x128.size hg)

theorem cols_apply (X : Vec Ideal S2048x512 .bf16) (r : Fin 2048) (k : Fin 128) (C : Fin 512) (hC : C.val = o + k.val) :
    cols o h X (ix2 r k) = X (ix2 r C) :=
  View.ld_unit_apply_of X _ _ h _ (ix2 r C) fun a => by
    match a with
    | ⟨0, _⟩ => exact (Nat.zero_add _).symm
    | ⟨1, _⟩ => exact hC

theorem scs_apply (X : Vec Ideal S1x512 .f32) (k : Fin 128) (C : Fin 512) (hC : C.val = o + k.val) :
    scs o h' X (ix2 0 k) = X (ix2 0 C) :=
  View.ld_unit_apply_of X _ _ h' _ (ix2 0 C) fun a => by
    match a with
    | ⟨0, _⟩ => rfl
    | ⟨1, _⟩ => exact hC

theorem wts_apply (X : Vec Ideal S4x128x128 .f32) (k e : Fin 128) (G : Fin 4) (hG : G.val = g) :
    wts g hg X (ix3 0 k e) = X (ix3 G k e) :=
  View.ld_unit_apply_of X _ _ hg _ (ix3 G k e) fun a => by
    match a with
    | ⟨0, _⟩ => exact hG
    | ⟨1, _⟩ | ⟨2, _⟩ => exact (Nat.zero_add _).symm

end chunks

/-- One stored entry of a group, from the group's windows' sums and counts. -/
theorem point_at (c : Dev nD) (t : Fin cfg0.N) (g : Fin 4) (h) (h') (hg) (n : BitVec 32) (hn : n = BitVec.ofNat 32 (2 ^ g.val))
    (s : FVec Ideal S2080x128 .f32)
    (hs : ∀ (r : Fin 2048) (k : Fin 128), s (ix2 ⟨16 + r.val, by omega⟩ k)
      = Cert.Pool.around (fun s => cols (g.val * 128) h (iblk m c 0 t) (ix2 s k)) (2 ^ g.val) (16 + r.val))
    (x : S2048x128.Idx) (i : S8192x512.Idx) (hi0 : (i 0 : ℕ) = t.val * 2048 + (x 0 : ℕ)) (hi1 : (i 1 : ℕ) = g.val * 128 + (x 1 : ℕ)) :
    tail s (count n) (cols (g.val * 128) h (iblk m c 0 t)) (wts g.val hg (iblk m c 2 t)) (scs (g.val * 128) h' (iblk m c 3 t))
      (cols (g.val * 128) h (iblk m c 1 t)) x = want m c i := by
  have ht : t.val < 4 := t.isLt
  have h0 : (x 0 : ℕ) < 2048 := (x 0).isLt
  have h1 : (x 1 : ℕ) < 128 := (x 1).isLt
  have hx : x = ix2 (x 0) (x 1) := funext fun a => by match a with | ⟨0, _⟩ | ⟨1, _⟩ => rfl
  have hi : i = ix2 ⟨(i 0 : ℕ), (i 0).isLt⟩ ⟨g.val * 128 + (x 1 : ℕ), by omega⟩ := funext fun a => by
    match a with
    | ⟨0, _⟩ => rfl
    | ⟨1, _⟩ => exact Fin.ext hi1
  rw [hx, hi]
  refine (tail_apply _ _ _ _ _ _ _ _).trans (Eq.trans ?_
    (Cert.Reference5Ideal.Read.res_apply _ _ _ g ⟨t.val, ht⟩ (x 0) (x 1) ⟨(i 0 : ℕ), (i 0).isLt⟩ hi0).symm)
  have hu : ∀ (r : Fin 2048) (k : Fin 128) (R : Fin 8192), R.val = t.val * 2048 + r.val →
      cols (g.val * 128) h (iblk m c 0 t) (ix2 r k) = act m c (ix2 R ⟨4096 + (g.val * 128 + k.val), by omega⟩) := fun r k R hR =>
    (cols_apply _ h _ r k ⟨g.val * 128 + k.val, by omega⟩ rfl).trans (blk0 m c t r _ R _ hR rfl)
  refine congrArg₂ (· * ·) (congrArg₂ (· * ·) (Finset.sum_congr rfl fun k _ => ?_) ?_) ?_
  · refine congrArg₂ (· * ·) (congrArg₂ (· - ·) (congrArg₂ Ideal.div ?_ ?_) (hu _ k _ hi0)) ?_
    · exact (hs _ k).trans (congrArg (fun u => Cert.Pool.around u _ _) (funext fun s => hu s k _ rfl))
    · rw [hn]; exact count_apply g (x 0)
    · exact (wts_apply _ hg _ k _ g rfl).trans (blk2 m c t g k _)
  · exact (scs_apply _ h' _ _ ⟨g.val * 128 + (x 1 : ℕ), by omega⟩ rfl).trans (blk3 m c t _)
  · exact (cols_apply _ h _ _ _ ⟨g.val * 128 + (x 1 : ℕ), by omega⟩ rfl).trans (blk1 m c t _ _ _ _ hi0 rfl)

/-- The result after the run. -/
theorem final (c : Dev nD) : (dats m 0 c).arrAt 4 (cfgs 0).N = want m c := by
  refine (dats m 0 c).arrAt_eq_of_covers 4 _ (by decide +kernel) fun t _ y => ?_
  blk_simp
  rw [after0_4]
  unfold out0_4
  canon_tiles x q
  · refine (congrFun (pays _ _ _ _ _ _ _ _).2.2.2 x).trans
      (point_at m c t 3 _ _ _ 8#32 rfl _ (fun r k => (trees _ r k).2.2.2) x _ ?_ ?_) <;> blk_simp [idx t] <;> omega
  · refine (congrFun (pays _ _ _ _ _ _ _ _).2.2.1 x).trans
      (point_at m c t 2 _ _ _ 4#32 rfl _ (fun r k => (trees _ r k).2.2.1) x _ ?_ ?_) <;> blk_simp [idx t] <;> omega
  · refine (congrFun (pays _ _ _ _ _ _ _ _).2.1 x).trans
      (point_at m c t 1 _ _ _ 2#32 rfl _ (fun r k => (trees _ r k).2.1) x _ ?_ ?_) <;> blk_simp [idx t] <;> omega
  · refine (congrFun (pays (iblk m c 0 t) (iblk m c 1 t) (iblk m c 2 t) (iblk m c 3 t) _ _ _ _).1 x).trans
      (point_at m c t 0 _ _ _ 1#32 rfl _ (fun r k => (trees _ r k).1) x _ ?_ ?_) <;> blk_simp [idx t] <;> omega

end Cert.Kernel5Ideal.Mix
-- ==== Proof.ModRead.lean ====
/- The modulation: an entry of what a grid point stores, of the reference, and the precondition that makes them equal. -/
module

public import proofs.«01_k».proof.Proof.InProjSpec
public import proofs.«01_k».proof.Proof.Finite
public import proofs.«01_k».proof.Proof.Gen.Pre_finite6
public import proofs.«01_k».proof.Proof.Gen.Kernel6Ideal.Frame
public import proofs.«01_k».proof.Proof.Gen.Reference6Ideal.Read
public import Idealize.ShloMosaic.Lib.ReduceAll
public import Idealize.ShloMosaic.Lib.Pointwise
public import Idealize.ShloMosaic.Lib.KernelVsHost

@[expose] public section

set_option maxRecDepth 16384

noncomputable section

namespace Cert.Kernel6Ideal.Mod

open Idealize.ShloMosaic Idealize.ShloMosaic.TcCoe
open Cert.Kernel6Ideal.Gen
open Cert.InProj (silu)

/-- A stored entry: each factor is split in its bf16 part and the rest, the product of the two rests left out. -/
theorem pay_apply (x0 : Vec Ideal S8x1024 .f32) (x1 : Vec Ideal S1x1024x1024 .f32) (x2 : Vec Ideal S1x1x1024 .f32) (b : Fin 8) (e : Fin 1024) :
    k0_pay1 (F := Ideal) x0 x1 x2 (ix3 0 b e)
      = (∑ k : Fin 1024, silu (x0 (ix2 b k)) * x1 (ix3 0 k e))
        + ((∑ k : Fin 1024, silu (x0 (ix2 b k)) * (x1 (ix3 0 k e) - x1 (ix3 0 k e)))
          + ∑ k : Fin 1024, (silu (x0 (ix2 b k)) - silu (x0 (ix2 b k))) * x1 (ix3 0 k e))
        + x2 (ix3 0 0 e) := by
  pointwise [k0_pay1]
  rfl

/-- The silu of a real is real. -/
theorem silu_real (a : EReal) (h : ∃ x : ℝ, a = (x : EReal)) : ∃ y : ℝ, silu a = (y : EReal) := by
  obtain ⟨x, rfl⟩ := h
  exact ⟨x * (1 + Real.exp (-x))⁻¹, by unfold silu; rw [Ideal.logistic_coe, EReal.coe_mul]⟩

/-- A real less itself is zero. -/
theorem sub_real (a : EReal) (h : ∃ x : ℝ, a = (x : EReal)) : a - a = 0 := by
  obtain ⟨x, rfl⟩ := h
  rw [← EReal.coe_sub, sub_self]
  rfl

/-- On reals the rests are zero. -/
theorem pay_real (x0 : Vec Ideal S8x1024 .f32) (x1 : Vec Ideal S1x1024x1024 .f32) (x2 : Vec Ideal S1x1x1024 .f32) (b : Fin 8) (e : Fin 1024)
    (h0 : ∀ k, ∃ x : ℝ, x0 (ix2 b k) = (x : EReal)) (h1 : ∀ k, ∃ x : ℝ, x1 (ix3 0 k e) = (x : EReal)) :
    k0_pay1 (F := Ideal) x0 x1 x2 (ix3 0 b e) = (∑ k : Fin 1024, silu (x0 (ix2 b k)) * x1 (ix3 0 k e)) + x2 (ix3 0 0 e) := by
  have hw : ∑ k : Fin 1024, silu (x0 (ix2 b k)) * (x1 (ix3 0 k e) - x1 (ix3 0 k e)) = 0 :=
    Finset.sum_eq_zero fun k _ => by rw [sub_real _ (h1 k), mul_zero]
  have hs : ∑ k : Fin 1024, (silu (x0 (ix2 b k)) - silu (x0 (ix2 b k))) * x1 (ix3 0 k e) = 0 :=
    Finset.sum_eq_zero fun k _ => by rw [sub_real _ (silu_real _ (h0 k)), zero_mul]
  rw [pay_apply, hw, hs, add_zero, add_zero]

end Cert.Kernel6Ideal.Mod

namespace Cert.Reference6Ideal.Read

open Idealize.ShloMosaic Idealize.ShloMosaic.TcCoe
open Cert.Reference6Ideal.Gen
open Cert.InProj (silu)

/-- The silu of the conditioning. -/
theorem silu_apply (x0 : FVec Ideal S4x1024 .f32) (x1 : FVec Ideal S1024 .f32) (b : Fin 8) (k : Fin 1024) :
    val_main_v3 (F := Ideal) x0 x1 (ix2 b k) = silu (val_main_v2 (F := Ideal) x0 x1 (ix2 b k)) := by
  rw [val_main_v3_apply]
  refine congrArg (val_main_v2 (F := Ideal) x0 x1 (ix2 b k) * ·) ?_
  generalize hv : val_main_v2 (F := Ideal) x0 x1 = v
  pointwise [val_main_call0_v5, val_main_call0_v4, val_main_call0_v3, val_main_call0_v2, val_main_call0_v1,
    val_main_call0_v0, val_main_call0_cst, val_main_call0_cst_0, hv]
  rfl

/-- The reference's modulation at an entry. -/
theorem mod_apply (x0 : FVec Ideal S4x1024 .f32) (x1 : FVec Ideal S1024 .f32) (x2 : FVec Ideal S2x1024x3072 .f32) (x3 : FVec Ideal S2x3072 .f32)
    (l : Fin 2) (b : Fin 8) (e : Fin 3072) :
    val_main_v8 (F := Ideal) x0 x1 x2 x3 (ix3 l b e)
      = (∑ k : Fin 1024, silu (val_main_v2 (F := Ideal) x0 x1 (ix2 b k)) * x2 (ix3 l k e)) + x3 (ix2 l e) := by
  rw [val_main_v8_apply, val_main_v5_apply, val_main_v4_apply, val_main_v7_apply, val_main_v6_apply]
  refine congrArg₂ (· + ·) (Finset.sum_congr rfl fun k _ => (mul_comm _ _).trans (congrArg₂ (· * ·) ?_ ?_)) ?_
  · refine Eq.trans (congrArg (val_main_v3 (F := Ideal) x0 x1) ?_) (silu_apply x0 x1 b k)
    exact funext fun a => by match a with | ⟨0, _⟩ | ⟨1, _⟩ => rfl
  · exact congrArg x2 (funext fun a => by match a with | ⟨0, _⟩ | ⟨1, _⟩ | ⟨2, _⟩ => rfl)
  · exact congrArg x3 (funext fun a => by match a with | ⟨0, _⟩ | ⟨1, _⟩ => rfl)

/-- The conditioning's rows are real where the vectors are. -/
theorem cond_real (x0 : FVec Ideal S4x1024 .f32) (x1 : FVec Ideal S1024 .f32)
    (h0 : ∀ (b : Fin 4) (k : Fin 1024), ∃ x : ℝ, x0 (ix2 b k) = (x : EReal)) (h1 : ∀ k : Fin 1024, ∃ x : ℝ, x1 (ix1 k) = (x : EReal))
    (b : Fin 8) (k : Fin 1024) : ∃ x : ℝ, val_main_v2 (F := Ideal) x0 x1 (ix2 b k) = (x : EReal) := by
  pointwise [val_main_v2, val_main_v0, val_main_v1, val_main_cst]
  split
  · exact h1 k
  · split
    · exact h0 _ k
    · exact ⟨0, rfl⟩

end Cert.Reference6Ideal.Read

namespace Cert.Pre_finite6

open Idealize.ShloMosaic

instance : Subsingleton S_.Idx := ⟨fun i j => funext fun a => a.elim0⟩

variable [Facts]
open Facts

/-- The precondition's conjuncts, at every entry. -/
theorem reads (a0 : FVec Ideal S4x1024 .f32) (a1 : FVec Ideal S1024 .f32) (a2 : FVec Ideal S2x1024x3072 .f32) (a3 : FVec Ideal S2x3072 .f32)
    (hp : fn a0 a1 a2 a3 = fun _ => 1#1) :
    (∀ (b : Fin 4) (k : Fin 1024), ∃ x : ℝ, a0 (ix2 b k) = (x : EReal)) ∧ (∀ k : Fin 1024, ∃ x : ℝ, a1 (ix1 k) = (x : EReal))
      ∧ (∀ (l : Fin 2) (k : Fin 1024) (e : Fin 3072), ∃ x : ℝ, a2 (ix3 l k e) = (x : EReal)) := by
  have h := congrFun hp ix0
  obtain ⟨h', h2⟩ := IntOp.andi_eq_one.mp h
  obtain ⟨h0, h1⟩ := IntOp.andi_eq_one.mp h'
  refine ⟨fun b k => ?_, fun k => ?_, fun l k e => ?_⟩
  · have e := Host.reduce_andi_all _ _ _ _ _ h0 (ix2 b k)
    refine Cert.Pre_finite.real_of_cmp _ (Eq.trans ?_ e)
    pointwise
    rfl
  · have e := Host.reduce_andi_all _ _ _ _ _ h1 (ix1 k)
    refine Cert.Pre_finite.real_of_cmp _ (Eq.trans ?_ e)
    pointwise
    rfl
  · have e := Host.reduce_andi_all _ _ _ _ _ h2 (ix3 l k e)
    refine Cert.Pre_finite.real_of_cmp _ (Eq.trans ?_ e)
    pointwise
    rfl

end Cert.Pre_finite6
-- ==== Proof.ModFinal.lean ====
/- The modulation: the whole result after the run is the reference's, where the conditioning and the weights are real. -/
module

public import proofs.«01_k».proof.Defs
public import proofs.«01_k».proof.Proof.ModRead
public import Idealize.ShloMosaic.Lib.Pipeline.ValueKit
public import Idealize.ShloMosaic.Lib.Claim

@[expose] public section

set_option maxRecDepth 16384

noncomputable section

namespace Cert.Kernel6Ideal.Mod

open Idealize.ShloMosaic Idealize.ShloMosaic.TcCoe Idealize.SL.Sem
open Idealize.ShloMosaic.Pipeline (Dat)
open Cert.Kernel6Ideal.Gen
open Cert.InProj (silu)

variable (m : (ℓ : Loc nD τ sig) → Buf (Elt Ideal) ℓ)

/-- The conditioning: the contexts' row, the latents' rows and rows of zeros. -/
def cond (c : Dev nD) : FVec Ideal S8x1024 .f32 :=
  Cert.Reference6Ideal.Read.val_main_v2 (F := Ideal) (m ((c : Thread nD τ).loc main_arg0)) (m ((c : Thread nD τ).loc main_arg1))

/-- The reference's result of the kernel's arguments. -/
def want (c : Dev nD) : FVec Ideal S2x8x3072 .f32 :=
  Cert.Reference6Ideal.Read.val_main_v8 (F := Ideal) (m ((c : Thread nD τ).loc main_arg0)) (m ((c : Thread nD τ).loc main_arg1))
    (m ((c : Thread nD τ).loc main_arg2)) (m ((c : Thread nD τ).loc main_arg3))

/-- The conditioning the launch finds. -/
theorem cond_read (c : Dev nD) : V m c main_v2 = cond m c := rfl

/-- The bias the launch finds. -/
theorem bias_read (c : Dev nD) (l : Fin 2) (e : Fin 3072) :
    (show FVec Ideal S2x1x3072 .f32 from V m c main_v3) (ix3 l 0 e)
      = (show FVec Ideal S2x3072 .f32 from m ((c : Thread nD τ).loc main_arg3)) (ix2 l e) := by
  entry_read
  pointwise

/-- Every window's block at a grid point: the layer and the third of the columns. -/
theorem idx : ∀ t : Fin cfg0.N, win0_0.index t = ![0, 0] ∧ win0_1.index t = ![t.val / 3, 0, t.val % 3]
    ∧ win0_2.index t = ![t.val / 3, 0, t.val % 3] ∧ win0_3.index t = ![t.val / 3, 0, t.val % 3] :=
  (by decide +kernel : ∀ t : Fin grid0.N, _)

/-- The conditioning's block: the whole array. -/
theorem blk0 (c : Dev nD) (t : Fin cfg0.N) (b : Fin 8) (k : Fin 1024) :
    (show FVec Ideal S8x1024 .f32 from iblk m c 0 t) (ix2 b k) = cond m c (ix2 b k) := by
  refine Eq.trans ?_ (congrFun (cond_read m c) (ix2 b k))
  blk_ext [iblk, idx t]

/-- The weights' block: a layer's, 1024 columns. -/
theorem blk1 (c : Dev nD) (t : Fin cfg0.N) (k e : Fin 1024) (l : Fin 2) (E : Fin 3072) (hl : l.val = t.val / 3)
    (hE : E.val = t.val % 3 * 1024 + e.val) :
    (show FVec Ideal S1x1024x1024 .f32 from iblk m c 1 t) (ix3 0 k e)
      = (show FVec Ideal S2x1024x3072 .f32 from m ((c : Thread nD τ).loc main_arg2)) (ix3 l k E) := by
  blk_ext [iblk, V, idx t]

/-- The bias's block likewise. -/
theorem blk2 (c : Dev nD) (t : Fin cfg0.N) (e : Fin 1024) (l : Fin 2) (E : Fin 3072) (hl : l.val = t.val / 3)
    (hE : E.val = t.val % 3 * 1024 + e.val) :
    (show FVec Ideal S1x1x1024 .f32 from iblk m c 2 t) (ix3 0 0 e)
      = (show FVec Ideal S2x3072 .f32 from m ((c : Thread nD τ).loc main_arg3)) (ix2 l E) := by
  refine Eq.trans ?_ (bias_read m c l E)
  blk_ext [iblk, idx t]

/-- A grid point's three loads take its blocks whole. -/
theorem loads (c : Dev nD) (t : Fin cfg0.N) (b : Fin 8) (k e : Fin 1024) :
    View.ld (iblk m c 0 t) r0_0 (ix2 b k) = (show FVec Ideal S8x1024 .f32 from iblk m c 0 t) (ix2 b k)
    ∧ View.ld (iblk m c 1 t) r0_1 (ix3 0 k e) = (show FVec Ideal S1x1024x1024 .f32 from iblk m c 1 t) (ix3 0 k e)
    ∧ View.ld (iblk m c 2 t) r0_2 (ix3 0 0 e) = (show FVec Ideal S1x1x1024 .f32 from iblk m c 2 t) (ix3 0 0 e) := by
  refine ⟨View.ld_unit_apply_of _ _ _ _ _ (ix2 b k) fun a => ?_, View.ld_unit_apply_of _ _ _ _ _ (ix3 0 k e) fun a => ?_,
    View.ld_unit_apply_of _ _ _ _ _ (ix3 0 0 e) fun a => ?_⟩
  · match a with
    | ⟨0, _⟩ | ⟨1, _⟩ => exact (Nat.zero_add _).symm
  · match a with
    | ⟨0, _⟩ | ⟨1, _⟩ | ⟨2, _⟩ => exact (Nat.zero_add _).symm
  · match a with
    | ⟨0, _⟩ | ⟨1, _⟩ | ⟨2, _⟩ => exact (Nat.zero_add _).symm

section real

variable (c : Dev nD)
  (h0 : ∀ (b : Fin 4) (k : Fin 1024), ∃ x : ℝ, (show FVec Ideal S4x1024 .f32 from m ((c : Thread nD τ).loc main_arg0)) (ix2 b k) = (x : EReal))
  (h1 : ∀ k : Fin 1024, ∃ x : ℝ, (show FVec Ideal S1024 .f32 from m ((c : Thread nD τ).loc main_arg1)) (ix1 k) = (x : EReal))
  (h2 : ∀ (l : Fin 2) (k : Fin 1024) (e : Fin 3072),
    ∃ x : ℝ, (show FVec Ideal S2x1024x3072 .f32 from m ((c : Thread nD τ).loc main_arg2)) (ix3 l k e) = (x : EReal))

include h0 h1 h2

/-- What a grid point stores at an entry of its block. -/
theorem point_at (t : Fin cfg0.N) (x : S1x8x1024.Idx) (i : S2x8x3072.Idx) (hi0 : (i 0 : ℕ) = t.val / 3) (hi1 : (i 1 : ℕ) = (x 1 : ℕ))
    (hi2 : (i 2 : ℕ) = t.val % 3 * 1024 + (x 2 : ℕ)) :
    k0_pay1 (F := Ideal) (View.ld (iblk m c 0 t) r0_0) (View.ld (iblk m c 1 t) r0_1) (View.ld (iblk m c 2 t) r0_2) x = want m c i := by
  have hx : x = ix3 0 (x 1) (x 2) := funext fun a => by
    match a with
    | ⟨0, _⟩ => exact Fin.eq_zero (x 0)
    | ⟨1, _⟩ | ⟨2, _⟩ => rfl
  have hi : i = ix3 (i 0) (x 1) (i 2) := funext fun a => by
    match a with
    | ⟨1, _⟩ => exact Fin.ext hi1
    | ⟨0, _⟩ | ⟨2, _⟩ => rfl
  rw [hx, hi]
  refine (pay_real _ _ _ (x 1) (x 2) (fun k => ?_) fun k => ?_).trans
    (Eq.trans ?_ (Cert.Reference6Ideal.Read.mod_apply _ _ _ _ (i 0) (x 1) (i 2)).symm)
  · obtain ⟨y, hy⟩ := Cert.Reference6Ideal.Read.cond_real _ _ h0 h1 (x 1) k
    exact ⟨y, ((loads m c t (x 1) k (x 2)).1.trans (blk0 m c t (x 1) k)).trans hy⟩
  · obtain ⟨y, hy⟩ := h2 (i 0) k (i 2)
    exact ⟨y, ((loads m c t (x 1) k (x 2)).2.1.trans (blk1 m c t k (x 2) (i 0) (i 2) hi0 hi2)).trans hy⟩
  · refine congrArg₂ (· + ·) (Finset.sum_congr rfl fun k _ => congrArg₂ (· * ·) (congrArg silu ?_) ?_) ?_
    · exact (loads m c t (x 1) k (x 2)).1.trans (blk0 m c t (x 1) k)
    · exact (loads m c t (x 1) k (x 2)).2.1.trans (blk1 m c t k (x 2) (i 0) (i 2) hi0 hi2)
    · exact (loads m c t (x 1) 0 (x 2)).2.2.trans (blk2 m c t (x 2) (i 0) (i 2) hi0 hi2)

/-- The modulation after the run. -/
theorem final : (dats m 0 c).arrAt 3 (cfgs 0).N = want m c := by
  refine (dats m 0 c).arrAt_eq_of_covers 3 _ (by decide +kernel) fun t _ y => ?_
  blk_simp
  rw [after0_3]
  unfold out0_3
  canon_tiles x q
  refine point_at m c h0 h1 h2 t x _ ?_ ?_ ?_ <;> blk_simp [idx t] <;> omega

end real

/-- The precondition makes it so. -/
theorem final_pre (hp : Cert.Pre_Kernel6Ideal_finite6 m) (c : Dev nD) : (dats m 0 c).arrAt 3 (cfgs 0).N = want m c := by
  obtain ⟨h0, h1, h2⟩ := Cert.Pre_finite6.reads _ _ _ _ (hp c)
  exact final m c h0 h1 h2

end Cert.Kernel6Ideal.Mod
-- ==== Proof.RopeSpec.lean ====
/- The rotation of neighbouring columns by a position's angle, at one entry, as both programs compute it. -/
module

public import proofs.«01_k».proof.Proof.InProjSpec

@[expose] public section

noncomputable section

namespace Cert.InProj

open Idealize.ShloMosaic

/-- An entry of a row whose pairs of columns are rotated, by the angle's cosine and sine at the column. -/
def rotated (p : Fin 512 → EReal) (co si : EReal) (e : Fin 512) : EReal :=
  if h : e.val % 2 = 0 then p e * co - p ⟨e.val + 1, by omega⟩ * si else p ⟨e.val - 1, by omega⟩ * si + p e * co

/-- The same with the sine's sign folded into its table and the pair's other column taken by the column's parity. -/
theorem rotated_eq (p : Fin 512 → EReal) (co si : EReal) (e : Fin 512) :
    rotated p co si e
      = p e * co + (if h : e.val % 2 = 0 then p ⟨e.val + 1, by omega⟩ else p ⟨e.val - 1, by omega⟩) * (if e.val % 2 = 0 then -si else si) := by
  unfold rotated
  split
  · rw [mul_neg, sub_eq_add_neg]
  · exact add_comm _ _

/-- The rotation as the reference spells it, its columns given by head, map and place in a group of 64. -/
theorem rotated_of (f : Fin 4 → Fin 2 → Fin 64 → EReal) (p : Fin 512 → EReal)
    (hf : ∀ (e : Fin 512) (h : Fin 4) (c : Fin 2) (j : Fin 64), e.val = h.val * 128 + c.val * 64 + j.val → f h c j = p e)
    (co si : EReal) (e : Fin 512) :
    (if _ : e.val % 2 < 1 then
        f ⟨e.val / 128, by omega⟩ ⟨e.val / 64 % 2, by omega⟩ ⟨e.val / 2 % 32 * 2, by omega⟩ * co
          - f ⟨e.val / 128, by omega⟩ ⟨e.val / 64 % 2, by omega⟩ ⟨e.val / 2 % 32 * 2 + 1, by omega⟩ * si
      else
        f ⟨e.val / 128, by omega⟩ ⟨e.val / 64 % 2, by omega⟩ ⟨e.val / 2 % 32 * 2, by omega⟩ * si
          + f ⟨e.val / 128, by omega⟩ ⟨e.val / 64 % 2, by omega⟩ ⟨e.val / 2 % 32 * 2 + 1, by omega⟩ * co)
      = rotated p co si e := by
  unfold rotated
  by_cases he : e.val % 2 = 0
  · rw [dif_pos (by omega), dif_pos he, hf e _ _ _ (by show e.val = e.val / 128 * 128 + e.val / 64 % 2 * 64 + e.val / 2 % 32 * 2; omega),
      hf ⟨e.val + 1, by omega⟩ _ _ _ (by show e.val + 1 = e.val / 128 * 128 + e.val / 64 % 2 * 64 + (e.val / 2 % 32 * 2 + 1); omega)]
  · rw [dif_neg (by omega), dif_neg he,
      hf ⟨e.val - 1, by omega⟩ _ _ _ (by show e.val - 1 = e.val / 128 * 128 + e.val / 64 % 2 * 64 + e.val / 2 % 32 * 2; omega),
      hf e _ _ _ (by show e.val = e.val / 128 * 128 + e.val / 64 % 2 * 64 + (e.val / 2 % 32 * 2 + 1); omega)]

end Cert.InProj
-- ==== Proof.RopeRead.lean ====
/- The latent tokens' projections: the entries of what a grid point stores, from the point's input blocks. What is as in the contexts'
   projections is taken from there; the rotation is new. -/
module

public import proofs.«01_k».proof.Proof.RopeSpec
public import proofs.«01_k».proof.Proof.InProjRead
public import proofs.«01_k».proof.Proof.Gen.Kernel7Ideal.Frame
public import Idealize.ShloMosaic.Lib.Pointwise
public import Idealize.ShloMosaic.Lib.KernelVsHost

@[expose] public section

set_option maxRecDepth 16384

noncomputable section

namespace Cert.Kernel7Ideal.InProj

open Idealize.ShloMosaic Idealize.ShloMosaic.TcCoe
open Cert.Kernel7Ideal.Gen
open Cert.InProj
open Cert.Kernel2Ideal.InProj (proj)

/-- The hidden rows kept in scratch, at an entry. -/
theorem hid_apply (x0 : Vec Ideal S512x1024 .f32) (x2 : Vec Ideal S1x1024 .f32) (sc sh : Vec Ideal S1x1x1024 .f32)
    (r : Fin 512) (d : Fin 1024) :
    k0_pay4 (F := Ideal) x0 x2 sc sh (ix2 r d)
      = hid (fun d => x0 (ix2 r d)) (x2 (ix2 0 d)) (sc (ix3 0 0 d)) (sh (ix3 0 0 d)) d :=
  Cert.Kernel2Ideal.InProj.hid_apply x0 x2 sc sh r d

/-- A chunk stored as it is. -/
theorem plain_apply (H : Vec Ideal S512x1024 .bf16) (W : Vec Ideal S1x1024x512 .bf16) (r e : Fin 512) :
    k0_pay5 (F := Ideal) H W (ix2 r e) = proj H W r e := Cert.Kernel2Ideal.InProj.plain_apply H W r e

/-- A chunk stored through silu. -/
theorem silu_apply (H : Vec Ideal S512x1024 .bf16) (W : Vec Ideal S1x1024x512 .bf16) (r e : Fin 512) :
    k0_pay9 (F := Ideal) H W (ix2 r e) = silu (proj H W r e) := Cert.Kernel2Ideal.InProj.silu_apply H W r e

/-- A chunk stored through the sigmoid. -/
theorem gate_apply (H : Vec Ideal S512x1024 .bf16) (W : Vec Ideal S1x1024x512 .bf16) (r e : Fin 512) :
    k0_pay12 (F := Ideal) H W (ix2 r e) = Ideal.logistic (proj H W r e) := Cert.Kernel2Ideal.InProj.gate_apply H W r e

/-- The group-mean matrix as the body builds it. -/
def mask : FVec Ideal S512x512 .bf16 :=
  k0_pay21 (F := Ideal) k0_pay18 (iota .tc S512x512 32 [1] iota_S512x512_d1_w32) 64#32 k0_pay19 k0_pay20 0#32

/-- The keys, normalised by groups of 64. -/
theorem key_normed (H : Vec Ideal S512x1024 .bf16) (W : Vec Ideal S1x1024x512 .bf16) (g : Vec Ideal S1x512 .f32) (r e : Fin 512) :
    k0_pay24 (F := Ideal) mask (k0_pay23 (F := Ideal) H W) g (ix2 r e)
      = normed (fun j => proj H W r ⟨e.val / 64 * 64 + j.val, by omega⟩) (g (ix2 0 e)) ⟨e.val % 64, by omega⟩ :=
  Cert.Kernel2Ideal.InProj.query_apply H W g r e

/-- The queries, likewise. -/
theorem query_normed (H : Vec Ideal S512x1024 .bf16) (W : Vec Ideal S1x1024x512 .bf16) (g : Vec Ideal S1x512 .f32) (r e : Fin 512) :
    k0_pay22 (F := Ideal) k0_pay18 (iota .tc S512x512 32 [1] iota_S512x512_d1_w32) 64#32 k0_pay19 k0_pay20 0#32 H W g (ix2 r e)
      = normed (fun j => proj H W r ⟨e.val / 64 * 64 + j.val, by omega⟩) (g (ix2 0 e)) ⟨e.val % 64, by omega⟩ :=
  Cert.Kernel2Ideal.InProj.query_apply H W g r e

/-- The queries' scale, the named constant: an eighth over the logarithm of 2. -/
theorem scaled_apply (P : FVec Ideal S512x512 .f32) (r e : Fin 512) :
    k0_pay1 (F := Ideal) P (ix2 r e) = P (ix2 r e) * (((1 / 8) * (Real.log 2)⁻¹ : ℝ) : EReal) := by
  pointwise [k0_pay1]
  rfl

/-- Whether a column is the first of its pair, as the body asks it. -/
theorem even_word : ∀ e : Fin 512, Scalar.cmpi CmpIPredicate.eq (IntOp.andi (BitVec.ofNat 32 e.val) 1#32) 0#32
    = if e.val % 2 = 0 then 1#1 else 0#1 := by decide +kernel

/-- The rotation the body applies to a row of columns. -/
theorem rotate_apply (P : FVec Ideal S512x512 .f32) (C S : Vec Ideal S512x512 .f32) (r e : Fin 512) (co si : EReal)
    (hC : C (ix2 r e) = co) (hS : S (ix2 r e) = if e.val % 2 = 0 then -si else si) :
    k0_pay26 (F := Ideal) P C S (ix2 r e) = rotated (fun e => P (ix2 r e)) co si e := by
  have h : k0_pay26 (F := Ideal) P C S (ix2 r e)
      = P (ix2 r e) * C (ix2 r e) + Scalar.select (Scalar.cmpi CmpIPredicate.eq (IntOp.andi (BitVec.ofNat 32 e.val) 1#32) 0#32)
          (P (ix2 r ⟨(e.val + 512 - 511) % 512, by omega⟩)) (P (ix2 r ⟨(e.val + 512 - 1) % 512, by omega⟩)) * S (ix2 r e) := by
    pointwise [k0_pay26]
    rfl
  rw [h, rotated_eq, even_word, hC, hS]
  have hlt : e.val < 512 := e.isLt
  by_cases he : e.val % 2 = 0
  · rw [if_pos he, if_pos he, dif_pos he]
    exact congrArg (fun k => P (ix2 r e) * co + P (ix2 r k) * -si) (Fin.ext (by show (e.val + 512 - 511) % 512 = e.val + 1; omega))
  · rw [if_neg he, if_neg he, dif_neg he]
    exact congrArg (fun k => P (ix2 r e) * co + P (ix2 r k) * si) (Fin.ext (by show (e.val + 512 - 1) % 512 = e.val - 1; omega))

/-- The keys' rotation is the same. -/
theorem rotate_key (P : FVec Ideal S512x512 .f32) (C S : Vec Ideal S512x512 .f32) :
    k0_pay2 (F := Ideal) P (k0_pay27 (F := Ideal) C) (k0_pay28 (F := Ideal) S) (iota .tc S1x512 32 [1] iota_S1x512_d1_w32) 1#32
      = k0_pay26 (F := Ideal) P C S := rfl

end Cert.Kernel7Ideal.InProj
-- ==== Proof.RopeBlocks.lean ====
/- The latent tokens' projections: the arrays the launch finds, and every input block of a grid point, as entries of the arguments. -/
module

public import proofs.«01_k».proof.Proof.RopeRead
public import Idealize.ShloMosaic.Lib.Pipeline.ValueKit
public import Idealize.ShloMosaic.Lib.Claim

@[expose] public section

set_option maxRecDepth 16384

noncomputable section

namespace Cert.Kernel7Ideal.InProj

open Idealize.ShloMosaic Idealize.ShloMosaic.TcCoe Idealize.SL.Sem
open Idealize.ShloMosaic.Pipeline (Dat)
open Cert.Kernel7Ideal.Gen

variable (m : (ℓ : Loc nD τ sig) → Buf (Elt Ideal) ℓ)

/-- The modulation the launch finds. -/
theorem mod_read (c : Dev nD) (b : Fin 8) (d : Fin 3072) :
    (show FVec Ideal S8x1x3072 .f32 from V m c main_v8) (ix3 b 0 d)
      = (show FVec Ideal S8x3072 .f32 from m ((c : Thread nD τ).loc main_arg1)) (ix2 b d) := by
  entry_read
  pointwise

/-- The row normalisation's weights the launch finds. -/
theorem norm_read (c : Dev nD) (d : Fin 1024) :
    (show FVec Ideal S1x1024 .f32 from V m c main_v9) (ix2 0 d)
      = (show FVec Ideal S1024 .f32 from m ((c : Thread nD τ).loc main_arg2)) (ix1 d) := by
  entry_read
  pointwise

/-- The projection's weights: the ideal cast changes nothing. -/
theorem w_read (c : Dev nD) : V m c main_v10 = m ((c : Thread nD τ).loc main_arg3) := rfl

/-- The queries' normalisation's weights, one copy for each group of 64. -/
theorem gq_read (c : Dev nD) (e : Fin 512) :
    (show FVec Ideal S1x512 .f32 from V m c main_v3) (ix2 0 e)
      = (show FVec Ideal S64 .f32 from m ((c : Thread nD τ).loc main_arg4)) (ix1 ⟨e.val % 64, by omega⟩) := by
  entry_read
  pointwise

/-- The keys' likewise. -/
theorem gk_read (c : Dev nD) (e : Fin 512) :
    (show FVec Ideal S1x512 .f32 from V m c main_v7) (ix2 0 e)
      = (show FVec Ideal S64 .f32 from m ((c : Thread nD τ).loc main_arg5)) (ix1 ⟨e.val % 64, by omega⟩) := by
  entry_read
  pointwise

/-- The table of cosines the launch finds: a pair's cosine over both its columns, for every group of 64. -/
theorem cos_read (c : Dev nD) (s : Fin 2048) (e : Fin 512) :
    (show FVec Ideal S2048x512 .f32 from V m c main_v17) (ix2 s e)
      = (show FVec Ideal S2048x32 .f32 from m ((c : Thread nD τ).loc main_arg6)) (ix2 s ⟨e.val / 2 % 32, by omega⟩) := by
  entry_read
  pointwise
  have hc : (⟨e.val / 2 % 32, by omega⟩ : Fin 32) = ⟨e.val % 64 / 2, by omega⟩ := Fin.ext (by show e.val / 2 % 32 = e.val % 64 / 2; omega)
  rw [hc]
  split <;> rfl

/-- The table of sines likewise, the first column of a pair with the sign turned. -/
theorem sin_read (c : Dev nD) (s : Fin 2048) (e : Fin 512) :
    (show FVec Ideal S2048x512 .f32 from V m c main_v25) (ix2 s e)
      = if e.val % 2 = 0 then -(show FVec Ideal S2048x32 .f32 from m ((c : Thread nD τ).loc main_arg7)) (ix2 s ⟨e.val / 2 % 32, by omega⟩)
        else (show FVec Ideal S2048x32 .f32 from m ((c : Thread nD τ).loc main_arg7)) (ix2 s ⟨e.val / 2 % 32, by omega⟩) := by
  entry_read
  pointwise
  have hc : (⟨e.val / 2 % 32, by omega⟩ : Fin 32) = ⟨e.val % 64 / 2, by omega⟩ := Fin.ext (by show e.val / 2 % 32 = e.val % 64 / 2; omega)
  rw [hc]
  by_cases he : e.val % 2 = 0
  · rw [dif_pos (by omega), if_pos he]
  · rw [dif_neg (by omega), if_neg he]

/-- Every window's block at a grid point, by the point's number. -/
theorem idx : ∀ t : Fin cfg0.N, win0_0.index t = ![t.val, 0] ∧ win0_1.index t = ![1 + t.val / 4, 0, 0] ∧ win0_2.index t = ![0, 0]
    ∧ win0_3.index t = ![1, 0, 0] ∧ win0_4.index t = ![0, 0] ∧ win0_5.index t = ![0, 0] ∧ win0_6.index t = ![t.val % 4, 0]
    ∧ win0_7.index t = ![t.val % 4, 0] ∧ win0_8.index t = ![t.val, 0] :=
  (by decide +kernel : ∀ t : Fin grid0.N, _)

/-- The layer input's block: 512 rows. -/
theorem blk0 (c : Dev nD) (t : Fin cfg0.N) (r : Fin 512) (d : Fin 1024) (R : Fin 8192) (hR : R.val = t.val * 512 + r.val) :
    (show FVec Ideal S512x1024 .f32 from iblk m c 0 t) (ix2 r d)
      = (show FVec Ideal S8192x1024 .f32 from m ((c : Thread nD τ).loc main_arg0)) (ix2 R d) := by
  blk_ext [iblk, V, idx t]

/-- The modulation's block: the row of the point's batch entry. -/
theorem blk1 (c : Dev nD) (t : Fin cfg0.N) (d : Fin 3072) (b : Fin 8) (hb : b.val = 1 + t.val / 4) :
    (show FVec Ideal S1x1x3072 .f32 from iblk m c 1 t) (ix3 0 0 d)
      = (show FVec Ideal S8x3072 .f32 from m ((c : Thread nD τ).loc main_arg1)) (ix2 b d) := by
  refine Eq.trans ?_ (mod_read m c b d)
  blk_ext [iblk, idx t]

/-- The row normalisation's weights. -/
theorem blk2 (c : Dev nD) (t : Fin cfg0.N) (d : Fin 1024) :
    (show FVec Ideal S1x1024 .f32 from iblk m c 2 t) (ix2 0 d)
      = (show FVec Ideal S1024 .f32 from m ((c : Thread nD τ).loc main_arg2)) (ix1 d) := by
  refine Eq.trans ?_ (norm_read m c d)
  blk_ext [iblk, idx t]

/-- The projection's weights: the second layer's. -/
theorem blk3 (c : Dev nD) (t : Fin cfg0.N) (j : Fin 1024) (C : Fin 8192) :
    (show FVec Ideal S1x1024x8192 .bf16 from iblk m c 3 t) (ix3 0 j C)
      = (show FVec Ideal S2x1024x8192 .f32 from m ((c : Thread nD τ).loc main_arg3)) (ix3 1 j C) := by
  refine Eq.trans ?_ (congrFun (w_read m c) (ix3 1 j C))
  blk_ext [iblk, idx t]

/-- The queries' normalisation's weights. -/
theorem blk4 (c : Dev nD) (t : Fin cfg0.N) (e : Fin 512) :
    (show FVec Ideal S1x512 .f32 from iblk m c 4 t) (ix2 0 e)
      = (show FVec Ideal S64 .f32 from m ((c : Thread nD τ).loc main_arg4)) (ix1 ⟨e.val % 64, by omega⟩) := by
  refine Eq.trans ?_ (gq_read m c e)
  blk_ext [iblk, idx t]

/-- The keys' likewise. -/
theorem blk5 (c : Dev nD) (t : Fin cfg0.N) (e : Fin 512) :
    (show FVec Ideal S1x512 .f32 from iblk m c 5 t) (ix2 0 e)
      = (show FVec Ideal S64 .f32 from m ((c : Thread nD τ).loc main_arg5)) (ix1 ⟨e.val % 64, by omega⟩) := by
  refine Eq.trans ?_ (gk_read m c e)
  blk_ext [iblk, idx t]

/-- The tables' blocks: 512 positions of the sequence. -/
theorem blk6 (c : Dev nD) (t : Fin cfg0.N) (r e : Fin 512) (s : Fin 2048) (hs : s.val = t.val % 4 * 512 + r.val) :
    (show FVec Ideal S512x512 .f32 from iblk m c 6 t) (ix2 r e)
      = (show FVec Ideal S2048x32 .f32 from m ((c : Thread nD τ).loc main_arg6)) (ix2 s ⟨e.val / 2 % 32, by omega⟩) := by
  refine Eq.trans ?_ (cos_read m c s e)
  blk_ext [iblk, idx t]

/-- The sines' likewise. -/
theorem blk7 (c : Dev nD) (t : Fin cfg0.N) (r e : Fin 512) (s : Fin 2048) (hs : s.val = t.val % 4 * 512 + r.val) :
    (show FVec Ideal S512x512 .f32 from iblk m c 7 t) (ix2 r e)
      = if e.val % 2 = 0 then -(show FVec Ideal S2048x32 .f32 from m ((c : Thread nD τ).loc main_arg7)) (ix2 s ⟨e.val / 2 % 32, by omega⟩)
        else (show FVec Ideal S2048x32 .f32 from m ((c : Thread nD τ).loc main_arg7)) (ix2 s ⟨e.val / 2 % 32, by omega⟩) := by
  refine Eq.trans ?_ (sin_read m c s e)
  blk_ext [iblk, idx t]

/-- The hidden rows of a grid point. -/
def rows (c : Dev nD) (t : Fin cfg0.N) : FVec Ideal S512x1024 .bf16 :=
  k0_pay4 (F := Ideal) (iblk m c 0 t) (iblk m c 2 t)
    (View.ld (iblk m c 1 t) (Rect.unit ![0, 0, 1024] ![1, 1, 1024] inb_S1x1x3072_S1x1x1024_0_0_1024))
    (View.ld (iblk m c 1 t) (Rect.unit ![0, 0, 0] ![1, 1, 1024] inb_S1x1x3072_S1x1x1024_0_0_0))

end Cert.Kernel7Ideal.InProj
-- ==== Proof.RopeRef.lean ====
/- The reference of the latent tokens' projections, read at an entry. -/
module

public import proofs.«01_k».proof.Proof.RopeSpec
public import proofs.«01_k».proof.Proof.Act
public import proofs.«01_k».proof.Proof.Gen.Reference7Ideal.Read
public import Idealize.ShloMosaic.Lib.Pointwise
public import Idealize.ShloMosaic.Lib.KernelVsHost

@[expose] public section

set_option maxRecDepth 16384

noncomputable section

namespace Cert.Reference7Ideal.Read

open Idealize.ShloMosaic Idealize.ShloMosaic.TcCoe
open Cert.Reference7Ideal.Gen
open Cert.InProj

variable (x0 : FVec Ideal S8192x1024 .f32) (x1 : FVec Ideal S8x3072 .f32) (x2 : FVec Ideal S1024 .f32)
  (x3 : FVec Ideal S2x1024x8192 .f32) (x4 x5 : FVec Ideal S64 .f32) (x6 x7 : FVec Ideal S2048x32 .f32)

/-- The layer's input by batch entry and position. -/
theorem in_apply (R : Fin 8192) (b : Fin 4) (s : Fin 2048) (hR : R.val = b.val * 2048 + s.val) (d : Fin 1024) :
    val_main_v5 (F := Ideal) x0 (ix3 b s d) = x0 (ix2 R d) := by
  pointwise [val_main_v5]
  exact congrArg x0 ((ix2_inj ..).2 ⟨Fin.ext hR.symm, rfl⟩)

/-- The projections' input. -/
theorem hid_apply (R : Fin 8192) (d : Fin 1024) :
    val_main_v25 (F := Ideal) x0 x1 x2 (ix2 R d)
      = hid (fun d => x0 (ix2 R d)) (x2 (ix1 d)) (x1 (ix2 ⟨1 + R.val / 2048, by omega⟩ ⟨1024 + d.val, by omega⟩))
          (x1 (ix2 ⟨1 + R.val / 2048, by omega⟩ ⟨d.val, by omega⟩)) d := by
  have h : val_main_v7 (F := Ideal) x0 (ix2 ⟨R.val / 2048, by omega⟩ ⟨R.val % 2048, by omega⟩) = ∑ k : Fin 1024, x0 (ix2 R k) * x0 (ix2 R k) := by
    rw [val_main_v7_apply, val_main_cst_apply]
    refine (congrArg (· + _) (by simp : (FloatOps.ofBits .f32 0x00000000#32 : Ideal .f32) = 0)).trans ((zero_add _).trans ?_)
    refine Finset.sum_congr rfl fun k _ => ?_
    rw [val_main_v6_apply]
    refine congrArg (fun v => v * v) (Eq.trans (congrArg (val_main_v5 (F := Ideal) x0) ?_)
      (in_apply x0 R ⟨R.val / 2048, by omega⟩ ⟨R.val % 2048, by omega⟩ (by show R.val = R.val / 2048 * 2048 + R.val % 2048; omega) k))
    exact funext fun a => by match a with | ⟨0, _⟩ | ⟨1, _⟩ | ⟨2, _⟩ => rfl
  unfold hid
  rw [← h]
  pointwise [val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v5, val_main_v3, val_main_v2, val_main_v1, val_main_v0, val_main_cst_0, val_main_cst_1, val_main_cst_2]
  rfl

/-- A projected entry. -/
def proj (R C : Fin 8192) : EReal :=
  ∑ j : Fin 1024, hid (fun d => x0 (ix2 R d)) (x2 (ix1 j)) (x1 (ix2 ⟨1 + R.val / 2048, by omega⟩ ⟨1024 + j.val, by omega⟩))
    (x1 (ix2 ⟨1 + R.val / 2048, by omega⟩ ⟨j.val, by omega⟩)) j * x3 (ix3 1 j C)

/-- The projections. -/
theorem proj_apply (R C : Fin 8192) : val_main_v28 (F := Ideal) x0 x1 x2 x3 (ix2 R C) = proj x0 x1 x2 x3 R C := by
  rw [val_main_v28_apply]
  refine Finset.sum_congr rfl fun j _ => congrArg₂ (· * ·) ?_ ?_
  · exact (congrArg (val_main_v25 (F := Ideal) x0 x1 x2) (funext fun a => by match a with | ⟨0, _⟩ | ⟨1, _⟩ => rfl)).trans
      (hid_apply x0 x1 x2 R j)
  · have e : ridx_main_v28 (ix2 R C) j = ix2 j C := funext fun a => by match a with | ⟨0, _⟩ | ⟨1, _⟩ => rfl
    rw [e]
    pointwise [val_main_v27, val_main_v26]

/-- An entry of the 512 columns from `o`, normalised by groups of 64. -/
def group (o : ℕ) (ho : o + 512 ≤ 8192) (g : FVec Ideal S64 .f32) (R : Fin 8192) (e : Fin 512) : EReal :=
  normed (fun j => proj x0 x1 x2 x3 R ⟨o + (e.val / 64 * 64 + j.val), by omega⟩) (g (ix1 ⟨e.val % 64, by omega⟩)) ⟨e.val % 64, by omega⟩

/-- The queries, normalised by groups of 64. -/
theorem query_normed (R : Fin 8192) (e : Fin 512) (h : Fin 4) (c : Fin 2) (j : Fin 64) (he : e.val = h.val * 128 + c.val * 64 + j.val) :
    val_main_v51 (F := Ideal) x0 x1 x2 x3 x4 (ix4 R h c j) = group x0 x1 x2 x3 2048 (by omega) x4 R e := by
  have hk : ∀ (k : Fin 64), val_main_v38 (F := Ideal) x0 x1 x2 x3 (ix4 R h c k)
      = proj x0 x1 x2 x3 R ⟨2048 + (e.val / 64 * 64 + k.val), by omega⟩ := fun k => by
    rw [← proj_apply]
    pointwise [val_main_v38, val_main_v31]
    exact congrArg (val_main_v28 (F := Ideal) x0 x1 x2 x3) ((ix2_inj ..).2 ⟨rfl, Fin.ext (by simp; omega)⟩)
  have hj : (⟨e.val % 64, by omega⟩ : Fin 64) = j := Fin.ext (by show e.val % 64 = j.val; omega)
  unfold group normed
  rw [hj]
  pointwise [val_main_v51, val_main_v50, val_main_v49, val_main_v48, val_main_v47, val_main_v46, val_main_v45, val_main_v44, val_main_v43,
    val_main_v42, val_main_v41, val_main_v40, val_main_v39, val_main_cst_3, val_main_cst_4, val_main_cst_5]
  simp only [hk]
  rfl

/-- The keys, normalised by groups of 64. -/
theorem key_normed (R : Fin 8192) (e : Fin 512) (h : Fin 4) (c : Fin 2) (j : Fin 64) (he : e.val = h.val * 128 + c.val * 64 + j.val) :
    val_main_v65 (F := Ideal) x0 x1 x2 x3 x5 (ix4 R h c j) = group x0 x1 x2 x3 2560 (by omega) x5 R e := by
  have hk : ∀ (k : Fin 64), val_main_v52 (F := Ideal) x0 x1 x2 x3 (ix4 R h c k)
      = proj x0 x1 x2 x3 R ⟨2560 + (e.val / 64 * 64 + k.val), by omega⟩ := fun k => by
    rw [← proj_apply]
    pointwise [val_main_v52, val_main_v32]
    exact congrArg (val_main_v28 (F := Ideal) x0 x1 x2 x3) ((ix2_inj ..).2 ⟨rfl, Fin.ext (by simp; omega)⟩)
  have hj : (⟨e.val % 64, by omega⟩ : Fin 64) = j := Fin.ext (by show e.val % 64 = j.val; omega)
  unfold group normed
  rw [hj]
  pointwise [val_main_v65, val_main_v64, val_main_v63, val_main_v62, val_main_v61, val_main_v60, val_main_v59, val_main_v58, val_main_v57,
    val_main_v56, val_main_v55, val_main_v54, val_main_v53, val_main_cst_6, val_main_cst_7, val_main_cst_8]
  simp only [hk]
  rfl

/-- The queries, rotated. -/
theorem query_apply (R : Fin 8192) (e : Fin 512) :
    val_main_v86 (F := Ideal) x0 x1 x2 x3 x4 x6 x7 (ix2 R e)
      = rotated (group x0 x1 x2 x3 2048 (by omega) x4 R) (x6 (ix2 ⟨R.val % 2048, by omega⟩ ⟨e.val / 2 % 32, by omega⟩))
          (x7 (ix2 ⟨R.val % 2048, by omega⟩ ⟨e.val / 2 % 32, by omega⟩)) e := by
  pointwise [val_main_v86, val_main_v85, val_main_v84, val_main_v83, val_main_v82, val_main_v81, val_main_v80, val_main_v79, val_main_v78,
    val_main_v77, val_main_v76, val_main_v75, val_main_v74, val_main_v73, val_main_v72, val_main_v71, val_main_v70, val_main_v69,
    val_main_v68, val_main_v67, val_main_v66]
  exact rotated_of (fun h c j => val_main_v51 (F := Ideal) x0 x1 x2 x3 x4 (ix4 R h c j)) (group x0 x1 x2 x3 2048 (by omega) x4 R)
    (fun e h c j he => query_normed x0 x1 x2 x3 x4 R e h c j he)
    (x6 (ix2 ⟨R.val % 2048, by omega⟩ ⟨e.val / 2 % 32, by omega⟩)) (x7 (ix2 ⟨R.val % 2048, by omega⟩ ⟨e.val / 2 % 32, by omega⟩)) e

/-- The keys, rotated. -/
theorem key_apply (R : Fin 8192) (e : Fin 512) :
    val_main_v107 (F := Ideal) x0 x1 x2 x3 x5 x6 x7 (ix2 R e)
      = rotated (group x0 x1 x2 x3 2560 (by omega) x5 R) (x6 (ix2 ⟨R.val % 2048, by omega⟩ ⟨e.val / 2 % 32, by omega⟩))
          (x7 (ix2 ⟨R.val % 2048, by omega⟩ ⟨e.val / 2 % 32, by omega⟩)) e := by
  pointwise [val_main_v107, val_main_v106, val_main_v105, val_main_v104, val_main_v103, val_main_v102, val_main_v101, val_main_v100,
    val_main_v99, val_main_v98, val_main_v97, val_main_v96, val_main_v95, val_main_v94, val_main_v93, val_main_v92, val_main_v91,
    val_main_v90, val_main_v89, val_main_v88, val_main_v87]
  exact rotated_of (fun h c j => val_main_v65 (F := Ideal) x0 x1 x2 x3 x5 (ix4 R h c j)) (group x0 x1 x2 x3 2560 (by omega) x5 R)
    (fun e h c j he => key_normed x0 x1 x2 x3 x5 R e h c j he)
    (x6 (ix2 ⟨R.val % 2048, by omega⟩ ⟨e.val / 2 % 32, by omega⟩)) (x7 (ix2 ⟨R.val % 2048, by omega⟩ ⟨e.val / 2 % 32, by omega⟩)) e

/-- The queries' scale: an eighth over the logarithm of 2. -/
theorem scaled_apply (R : Fin 8192) (e : Fin 512) :
    val_main_v112 (F := Ideal) x0 x1 x2 x3 x4 x6 x7 (ix2 R e)
      = val_main_v86 (F := Ideal) x0 x1 x2 x3 x4 x6 x7 (ix2 R e) * (((1 / 8) * (Real.log 2)⁻¹ : ℝ) : EReal) := by
  have h : val_main_v112 (F := Ideal) x0 x1 x2 x3 x4 x6 x7 (ix2 R e) = Ideal.div (val_main_v86 (F := Ideal) x0 x1 x2 x3 x4 x6 x7 (ix2 R e)
      * Ideal.ofBits .f32 0x3E000000#32) (Ideal.log (Ideal.ofBits .f32 0x40000000#32)) := by
    pointwise [val_main_v112, val_main_v111, val_main_v110, val_main_v109, val_main_v108, val_main_cst_9, val_main_cst_10]
  have hl : Ideal.log (((2 : ℝ) : EReal)) = ((Real.log 2 : ℝ) : EReal) := by
    show (if (2 : ℝ) ≤ 0 then (⊥ : EReal) else ((Real.log 2 : ℝ) : EReal)) = _
    rw [if_neg (by norm_num)]
  rw [h, Cert.KernelIdeal.Attn.eighth, Cert.KernelIdeal.Attn.two, hl, Cert.Softmax.div_coe _ (Real.log_pos (by norm_num)).ne',
    mul_assoc, ← EReal.coe_mul]

/-- The columns kept as they are: the long convolution's three inputs, the values and the pool's input. -/
theorem act_plain (R C : Fin 8192) (hC : C.val < 1536 ∨ 3072 ≤ C.val ∧ C.val < 3584 ∨ 4096 ≤ C.val ∧ C.val < 4608) :
    val_main_v123 (F := Ideal) x0 x1 x2 x3 x4 x5 x6 x7 (ix2 R C) = proj x0 x1 x2 x3 R C := by
  rw [← proj_apply]
  pointwise [val_main_v123, val_main_v122]
  rcases hC with h | h | h
  · rw [dif_pos h]
    pointwise [val_main_v29]
  · rw [dif_neg (by omega), dif_neg (by omega), dif_neg (by omega), dif_neg (by omega), dif_pos (by omega)]
    pointwise [val_main_v33]
    exact congrArg (val_main_v28 (F := Ideal) x0 x1 x2 x3) ((ix2_inj ..).2 ⟨rfl, Fin.ext (by simp; omega)⟩)
  · rw [dif_neg (by omega), dif_neg (by omega), dif_neg (by omega), dif_neg (by omega), dif_neg (by omega), dif_neg (by omega),
      dif_pos (by omega)]
    pointwise [val_main_v35]
    exact congrArg (val_main_v28 (F := Ideal) x0 x1 x2 x3) ((ix2_inj ..).2 ⟨rfl, Fin.ext (by simp; omega)⟩)

/-- The silu of the long convolution's gate. -/
theorem silu_v113 (R : Fin 8192) (e : Fin 512) :
    val_main_v113 (F := Ideal) x0 x1 x2 x3 (ix2 R e) = silu (val_main_v30 (F := Ideal) x0 x1 x2 x3 (ix2 R e)) := by
  pointwise [val_main_v113, val_main_call0_v5, val_main_call0_v4, val_main_call0_v3, val_main_call0_v2, val_main_call0_v1,
    val_main_call0_v0, val_main_call0_cst, val_main_call0_cst_0]
  rfl

/-- The silu of the attention's gate. -/
theorem silu_v114 (R : Fin 8192) (e : Fin 512) :
    val_main_v114 (F := Ideal) x0 x1 x2 x3 (ix2 R e) = silu (val_main_v34 (F := Ideal) x0 x1 x2 x3 (ix2 R e)) := by
  pointwise [val_main_v114, val_main_call1_v5, val_main_call1_v4, val_main_call1_v3, val_main_call1_v2, val_main_call1_v1,
    val_main_call1_v0, val_main_call1_cst, val_main_call1_cst_0]
  rfl

/-- The silu of the pool's gate. -/
theorem silu_v115 (R : Fin 8192) (e : Fin 512) :
    val_main_v115 (F := Ideal) x0 x1 x2 x3 (ix2 R e) = silu (val_main_v36 (F := Ideal) x0 x1 x2 x3 (ix2 R e)) := by
  pointwise [val_main_v115, val_main_call2_v5, val_main_call2_v4, val_main_call2_v3, val_main_call2_v2, val_main_call2_v1,
    val_main_call2_v0, val_main_call2_cst, val_main_call2_cst_0]
  rfl

/-- The sigmoid of the merge gates. -/
theorem logistic_v121 (R : Fin 8192) (e : Fin 3072) :
    val_main_v121 (F := Ideal) x0 x1 x2 x3 (ix2 R e) = Ideal.logistic (val_main_v37 (F := Ideal) x0 x1 x2 x3 (ix2 R e)) := by
  pointwise [val_main_v121, val_main_v120, val_main_v119, val_main_v118, val_main_v117, val_main_v116, val_main_cst_11, val_main_cst_12]
  rfl

/-- The columns through silu: the mixers' gates. -/
theorem act_silu (R C : Fin 8192)
    (hC : 1536 ≤ C.val ∧ C.val < 2048 ∨ 3584 ≤ C.val ∧ C.val < 4096 ∨ 4608 ≤ C.val ∧ C.val < 5120) :
    val_main_v123 (F := Ideal) x0 x1 x2 x3 x4 x5 x6 x7 (ix2 R C) = silu (proj x0 x1 x2 x3 R C) := by
  rw [← proj_apply]
  pointwise [val_main_v123, val_main_v122]
  rcases hC with h | h | h
  · rw [dif_neg (by omega), dif_pos (by omega)]
    exact (silu_v113 x0 x1 x2 x3 R _).trans (congrArg silu (by
      pointwise [val_main_v30]
      exact congrArg (val_main_v28 (F := Ideal) x0 x1 x2 x3) ((ix2_inj ..).2 ⟨rfl, Fin.ext (by simp; omega)⟩)))
  · rw [dif_neg (by omega), dif_neg (by omega), dif_neg (by omega), dif_neg (by omega), dif_neg (by omega), dif_pos (by omega)]
    exact (silu_v114 x0 x1 x2 x3 R _).trans (congrArg silu (by
      pointwise [val_main_v34]
      exact congrArg (val_main_v28 (F := Ideal) x0 x1 x2 x3) ((ix2_inj ..).2 ⟨rfl, Fin.ext (by simp; omega)⟩)))
  · rw [dif_neg (by omega), dif_neg (by omega), dif_neg (by omega), dif_neg (by omega), dif_neg (by omega), dif_neg (by omega),
      dif_neg (by omega), dif_pos (by omega)]
    exact (silu_v115 x0 x1 x2 x3 R _).trans (congrArg silu (by
      pointwise [val_main_v36]
      exact congrArg (val_main_v28 (F := Ideal) x0 x1 x2 x3) ((ix2_inj ..).2 ⟨rfl, Fin.ext (by simp; omega)⟩)))

/-- The columns through the sigmoid: the merge gates. -/
theorem act_gate (R C : Fin 8192) (hC : 5120 ≤ C.val) :
    val_main_v123 (F := Ideal) x0 x1 x2 x3 x4 x5 x6 x7 (ix2 R C) = Ideal.logistic (proj x0 x1 x2 x3 R C) := by
  rw [← proj_apply]
  pointwise [val_main_v123, val_main_v122]
  rw [dif_neg (by omega), dif_neg (by omega), dif_neg (by omega), dif_neg (by omega), dif_neg (by omega), dif_neg (by omega),
    dif_neg (by omega), dif_neg (by omega)]
  exact (logistic_v121 x0 x1 x2 x3 R _).trans (congrArg Ideal.logistic (by
    pointwise [val_main_v37]
    exact congrArg (val_main_v28 (F := Ideal) x0 x1 x2 x3) ((ix2_inj ..).2 ⟨rfl, Fin.ext (by simp; omega)⟩)))

/-- The query columns. -/
theorem act_query (R C : Fin 8192) (e : Fin 512) (hC : C.val = 2048 + e.val) :
    val_main_v123 (F := Ideal) x0 x1 x2 x3 x4 x5 x6 x7 (ix2 R C)
      = rotated (group x0 x1 x2 x3 2048 (by omega) x4 R) (x6 (ix2 ⟨R.val % 2048, by omega⟩ ⟨e.val / 2 % 32, by omega⟩))
          (x7 (ix2 ⟨R.val % 2048, by omega⟩ ⟨e.val / 2 % 32, by omega⟩)) e
        * (((1 / 8) * (Real.log 2)⁻¹ : ℝ) : EReal) := by
  rw [← query_apply, ← scaled_apply]
  pointwise [val_main_v123, val_main_v122]
  rw [dif_neg (by omega), dif_neg (by omega), dif_pos (by omega)]
  exact congrArg (val_main_v112 (F := Ideal) x0 x1 x2 x3 x4 x6 x7) ((ix2_inj ..).2 ⟨rfl, Fin.ext (by simp; omega)⟩)

/-- The key columns. -/
theorem act_key (R C : Fin 8192) (e : Fin 512) (hC : C.val = 2560 + e.val) :
    val_main_v123 (F := Ideal) x0 x1 x2 x3 x4 x5 x6 x7 (ix2 R C)
      = rotated (group x0 x1 x2 x3 2560 (by omega) x5 R) (x6 (ix2 ⟨R.val % 2048, by omega⟩ ⟨e.val / 2 % 32, by omega⟩))
          (x7 (ix2 ⟨R.val % 2048, by omega⟩ ⟨e.val / 2 % 32, by omega⟩)) e := by
  rw [← key_apply]
  pointwise [val_main_v123, val_main_v122]
  rw [dif_neg (by omega), dif_neg (by omega), dif_neg (by omega), dif_pos (by omega)]
  exact congrArg (val_main_v107 (F := Ideal) x0 x1 x2 x3 x5 x6 x7) ((ix2_inj ..).2 ⟨rfl, Fin.ext (by simp; omega)⟩)

end Cert.Reference7Ideal.Read
-- ==== Proof.RopeFinal.lean ====
/- The latent tokens' projections: the whole result after the run is the reference's. -/
module

public import proofs.«01_k».proof.Proof.RopeBlocks
public import proofs.«01_k».proof.Proof.InProjFinal
public import proofs.«01_k».proof.Proof.RopeRef

@[expose] public section

set_option maxRecDepth 16384

noncomputable section

namespace Cert.Kernel7Ideal.InProj

open Idealize.ShloMosaic Idealize.ShloMosaic.TcCoe Idealize.SL.Sem
open Idealize.ShloMosaic.Pipeline (Dat)
open Cert.Kernel7Ideal.Gen
open Cert.InProj
open Cert.Kernel2Ideal.InProj (proj chunk ix_eq act_ix)

variable (m : (ℓ : Loc nD τ sig) → Buf (Elt Ideal) ℓ)

/-- An entry of the reference's projections of the kernel's arguments. -/
def entry (c : Dev nD) (R C : Fin 8192) : EReal :=
  Cert.Reference7Ideal.Read.proj (m ((c : Thread nD τ).loc main_arg0)) (m ((c : Thread nD τ).loc main_arg1))
    (m ((c : Thread nD τ).loc main_arg2)) (m ((c : Thread nD τ).loc main_arg3)) R C

/-- The reference's activations of the kernel's arguments. -/
def want (c : Dev nD) : FVec Ideal S8192x8192 .bf16 :=
  Cert.Reference7Ideal.Read.val_main_v123 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- A hidden entry of a grid point. -/
theorem rows_apply (c : Dev nD) (t : Fin cfg0.N) (r : Fin 512) (d : Fin 1024) (R : Fin 8192) (hR : R.val = t.val * 512 + r.val) :
    rows m c t (ix2 r d)
      = hid (fun d => (show FVec Ideal S8192x1024 .f32 from m ((c : Thread nD τ).loc main_arg0)) (ix2 R d))
          ((show FVec Ideal S1024 .f32 from m ((c : Thread nD τ).loc main_arg2)) (ix1 d))
          ((show FVec Ideal S8x3072 .f32 from m ((c : Thread nD τ).loc main_arg1)) (ix2 ⟨1 + R.val / 2048, by omega⟩ ⟨1024 + d.val, by omega⟩))
          ((show FVec Ideal S8x3072 .f32 from m ((c : Thread nD τ).loc main_arg1)) (ix2 ⟨1 + R.val / 2048, by omega⟩ ⟨d.val, by omega⟩)) d := by
  have hb : 1 + R.val / 2048 = 1 + t.val / 4 := by omega
  refine (hid_apply _ _ _ _ r d).trans ?_
  refine (congrArg₂ (fun x g => hid x g _ _ d) (funext fun d => blk0 m c t r d R hR) (blk2 m c t d)).trans ?_
  refine congrArg₂ (fun a b => hid _ _ a b d) ((View.ld_unit_apply_of _ _ _ _ _ (ix3 0 0 ⟨1024 + d.val, by omega⟩) fun a => ?_).trans
    (blk1 m c t _ _ hb)) ((View.ld_unit_apply_of _ _ _ _ _ (ix3 0 0 ⟨d.val, by omega⟩) fun a => ?_).trans (blk1 m c t _ _ hb))
  · match a with
    | ⟨0, _⟩ | ⟨1, _⟩ | ⟨2, _⟩ => rfl
  · match a with
    | ⟨0, _⟩ | ⟨1, _⟩ => rfl
    | ⟨2, _⟩ => exact (Nat.zero_add _).symm

/-- A projected entry of a grid point's chunk at column `o`. -/
theorem proj_at (c : Dev nD) (t : Fin cfg0.N) (o : ℕ)
    (h : ∀ a, (![0, 0, o] : Fin 3 → ℕ) a + (![1, 1024, 512] : Fin 3 → ℕ) a ≤ S1x1024x8192.size a)
    (r e : Fin 512) (R C : Fin 8192) (hR : R.val = t.val * 512 + r.val) (hC : C.val = o + e.val) :
    proj (rows m c t) (View.ld (iblk m c 3 t) (Rect.unit ![0, 0, o] ![1, 1024, 512] h)) r e = entry m c R C :=
  Finset.sum_congr rfl fun j _ => congrArg₂ (· * ·) (rows_apply m c t r j R hR) ((chunk _ o h j e C hC).trans (blk3 m c t j C))

section pieces

variable (c : Dev nD) (t : Fin cfg0.N) (o : ℕ)
  (h : ∀ a, (![0, 0, o] : Fin 3 → ℕ) a + (![1, 1024, 512] : Fin 3 → ℕ) a ≤ S1x1024x8192.size a)
  (x : S512x512.Idx) (i : S8192x8192.Idx) (hi0 : (i 0 : ℕ) = t.val * 512 + (x 0 : ℕ)) (hi1 : (i 1 : ℕ) = o + (x 1 : ℕ))

include hi0 hi1

/-- A chunk stored as it is. -/
theorem plain_at (ho : o + 512 ≤ 1536 ∨ 3072 ≤ o ∧ o + 512 ≤ 3584 ∨ 4096 ≤ o ∧ o + 512 ≤ 4608) :
    k0_pay5 (F := Ideal) (rows m c t) (View.ld (iblk m c 3 t) (Rect.unit ![0, 0, o] ![1, 1024, 512] h)) x = want m c i := by
  have h1 : (x 1 : ℕ) < 512 := (x 1).isLt
  rw [ix_eq x, act_ix i]
  exact (plain_apply _ _ _ _).trans ((proj_at m c t o h _ _ _ _ hi0 hi1).trans
    (Cert.Reference7Ideal.Read.act_plain _ _ _ _ _ _ _ _ _ _ (by omega)).symm)

/-- A chunk stored through silu. -/
theorem silu_at (ho : 1536 ≤ o ∧ o + 512 ≤ 2048 ∨ 3584 ≤ o ∧ o + 512 ≤ 4096 ∨ 4608 ≤ o ∧ o + 512 ≤ 5120) :
    k0_pay9 (F := Ideal) (rows m c t) (View.ld (iblk m c 3 t) (Rect.unit ![0, 0, o] ![1, 1024, 512] h)) x = want m c i := by
  have h1 : (x 1 : ℕ) < 512 := (x 1).isLt
  rw [ix_eq x, act_ix i]
  exact (silu_apply _ _ _ _).trans ((congrArg silu (proj_at m c t o h _ _ _ _ hi0 hi1)).trans
    (Cert.Reference7Ideal.Read.act_silu _ _ _ _ _ _ _ _ _ _ (by omega)).symm)

/-- A chunk stored through the sigmoid. -/
theorem gate_at (ho : 5120 ≤ o) :
    k0_pay12 (F := Ideal) (rows m c t) (View.ld (iblk m c 3 t) (Rect.unit ![0, 0, o] ![1, 1024, 512] h)) x = want m c i := by
  have h1 : (x 1 : ℕ) < 512 := (x 1).isLt
  rw [ix_eq x, act_ix i]
  exact (gate_apply _ _ _ _).trans ((congrArg Ideal.logistic (proj_at m c t o h _ _ _ _ hi0 hi1)).trans
    (Cert.Reference7Ideal.Read.act_gate _ _ _ _ _ _ _ _ _ _ (by omega)).symm)

end pieces

section heads

variable (c : Dev nD) (t : Fin cfg0.N)

/-- The weights' chunk at a column. -/
abbrev wchunk (o : ℕ) (h : ∀ a, (![0, 0, o] : Fin 3 → ℕ) a + (![1, 1024, 512] : Fin 3 → ℕ) a ≤ S1x1024x8192.size a) :
    Vec Ideal S1x1024x512 .bf16 :=
  View.ld (Val := Elt Ideal) (S := S1x1024x8192) (e' := .bf16) (iblk m c 3 t) (Rect.unit ![0, 0, o] ![1, 1024, 512] h)

/-- The reference's normalised columns from `o`, of the kernel's arguments. -/
abbrev group (o : ℕ) (ho : o + 512 ≤ 8192) (g : FVec Ideal S64 .f32) : Fin 8192 → Fin 512 → EReal :=
  Cert.Reference7Ideal.Read.group (m ((c : Thread nD τ).loc main_arg0)) (m ((c : Thread nD τ).loc main_arg1))
    (m ((c : Thread nD τ).loc main_arg2)) (m ((c : Thread nD τ).loc main_arg3)) o ho g

/-- A row of columns rotated by the tables' blocks is rotated by the row's position in its sequence. -/
theorem rotated_at (P : FVec Ideal S512x512 .f32) (p : Fin 512 → EReal) (r e : Fin 512) (R : Fin 8192) (hR : R.val = t.val * 512 + r.val)
    (hP : ∀ e, P (ix2 r e) = p e) :
    k0_pay26 (F := Ideal) P (iblk m c 6 t) (iblk m c 7 t) (ix2 r e)
      = rotated p ((show FVec Ideal S2048x32 .f32 from m ((c : Thread nD τ).loc main_arg6)) (ix2 ⟨R.val % 2048, by omega⟩ ⟨e.val / 2 % 32, by omega⟩))
          ((show FVec Ideal S2048x32 .f32 from m ((c : Thread nD τ).loc main_arg7)) (ix2 ⟨R.val % 2048, by omega⟩ ⟨e.val / 2 % 32, by omega⟩)) e := by
  have hs : R.val % 2048 = t.val % 4 * 512 + r.val := by omega
  refine (rotate_apply P _ _ r e _ _ (blk6 m c t r e ⟨R.val % 2048, by omega⟩ hs) (blk7 m c t r e ⟨R.val % 2048, by omega⟩ hs)).trans ?_
  exact congrArg (fun p => rotated p _ _ e) (funext hP)

/-- The keys of a grid point, normalised. -/
theorem key_point (h) (r e : Fin 512) (R : Fin 8192) (hR : R.val = t.val * 512 + r.val) :
    k0_pay24 (F := Ideal) mask (k0_pay23 (F := Ideal) (rows m c t) (wchunk m c t 2560 h)) (iblk m c 5 t) (ix2 r e)
      = group m c 2560 (by omega) (m ((c : Thread nD τ).loc main_arg5)) R e :=
  (key_normed _ _ _ r e).trans (congrArg₂ (fun p g => normed p g _) (funext fun j =>
    proj_at m c t 2560 h r ⟨e.val / 64 * 64 + j.val, by omega⟩ R _ hR (by show 2560 + _ = 2560 + _; rfl)) (blk5 m c t e))

/-- The queries of a grid point, normalised. -/
theorem query_point (h) (r e : Fin 512) (R : Fin 8192) (hR : R.val = t.val * 512 + r.val) :
    k0_pay22 (F := Ideal) k0_pay18 (iota .tc S512x512 32 [1] iota_S512x512_d1_w32) 64#32 k0_pay19 k0_pay20 0#32
        (rows m c t) (wchunk m c t 2048 h) (iblk m c 4 t) (ix2 r e)
      = group m c 2048 (by omega) (m ((c : Thread nD τ).loc main_arg4)) R e :=
  (query_normed _ _ _ r e).trans (congrArg₂ (fun p g => normed p g _) (funext fun j =>
    proj_at m c t 2048 h r ⟨e.val / 64 * 64 + j.val, by omega⟩ R _ hR (by show 2048 + _ = 2048 + _; rfl)) (blk4 m c t e))

variable (x : S512x512.Idx) (i : S8192x8192.Idx) (hi0 : (i 0 : ℕ) = t.val * 512 + (x 0 : ℕ))

include hi0

/-- The keys' chunk, rotated. -/
theorem key_at (h) (hi1 : (i 1 : ℕ) = 2560 + (x 1 : ℕ)) :
    k0_pay2 (F := Ideal) (k0_pay24 (F := Ideal) mask (k0_pay23 (F := Ideal) (rows m c t) (wchunk m c t 2560 h)) (iblk m c 5 t))
        (k0_pay27 (F := Ideal) (iblk m c 6 t)) (k0_pay28 (F := Ideal) (iblk m c 7 t)) (iota .tc S1x512 32 [1] iota_S1x512_d1_w32) 1#32 x
      = want m c i := by
  rw [ix_eq x, act_ix i, rotate_key]
  exact (rotated_at m c t _ _ _ _ _ hi0 fun e => key_point m c t h _ e _ hi0).trans
    (Cert.Reference7Ideal.Read.act_key _ _ _ _ _ _ _ _ _ _ _ hi1).symm

/-- The queries' chunk, rotated and scaled. -/
theorem query_at (h) (hi1 : (i 1 : ℕ) = 2048 + (x 1 : ℕ)) :
    k0_pay1 (F := Ideal) (k0_pay26 (F := Ideal) (k0_pay22 (F := Ideal) k0_pay18 (iota .tc S512x512 32 [1] iota_S512x512_d1_w32) 64#32
        k0_pay19 k0_pay20 0#32 (rows m c t) (wchunk m c t 2048 h) (iblk m c 4 t)) (iblk m c 6 t) (iblk m c 7 t)) x
      = want m c i := by
  rw [ix_eq x, act_ix i]
  refine (scaled_apply _ _ _).trans (Eq.trans ?_ (Cert.Reference7Ideal.Read.act_query _ _ _ _ _ _ _ _ _ _ _ hi1).symm)
  exact congrArg (· * _) (rotated_at m c t _ _ _ _ _ hi0 fun e => query_point m c t h _ e _ hi0)

/-- The values' chunk. -/
theorem value_at (h) (hi1 : (i 1 : ℕ) = 3072 + (x 1 : ℕ)) :
    k0_pay3 (F := Ideal) (k0_pay25 (F := Ideal) (rows m c t) (wchunk m c t 3072 h)) x = want m c i :=
  plain_at m c t 3072 h x i hi0 hi1 (by omega)

end heads

set_option maxHeartbeats 1600000 in
/-- The activations after the run. -/
theorem final (c : Dev nD) : (dats m 0 c).arrAt 8 (cfgs 0).N = want m c := by
  refine (dats m 0 c).arrAt_eq_of_covers 8 _ (by decide +kernel) fun t _ y => ?_
  blk_simp
  rw [after0_8]
  unfold outsAt0
  frame_out
  canon_tiles x q
  · refine value_at m c t x _ ?_ _ ?_ <;> blk_simp [idx t] <;> omega
  · refine key_at m c t x _ ?_ _ ?_ <;> blk_simp [idx t] <;> omega
  · refine query_at m c t x _ ?_ _ ?_ <;> blk_simp [idx t] <;> omega
  iterate 6 · refine gate_at m c t _ _ x _ ?_ ?_ (by omega) <;> blk_simp [idx t] <;> omega
  iterate 3 · refine silu_at m c t _ _ x _ ?_ ?_ (by omega) <;> blk_simp [idx t] <;> omega
  iterate 4 · refine plain_at m c t _ _ x _ ?_ ?_ (by omega) <;> blk_simp [idx t] <;> omega

end Cert.Kernel7Ideal.InProj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2Ideal.Value
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel7Ideal.Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame.RunA
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame.RunA
public import proofs.«01_k».proof.Proof.Gen.Reference8Ideal
public import proofs.«01_k».proof.Proof.Gen.Reference8Ideal.Run
public import proofs.«01_k».proof.Proof.Gen.Reference8Ideal.Read
public import proofs.«01_k».proof.Proof.BitsTables
public import proofs.«01_k».proof.Proof.TablesFinal
public import proofs.«01_k».proof.Proof.Gen.Pre_finite6
public import proofs.«01_k».proof.Proof.BitsLaunch
public import proofs.«01_k».proof.Proof.Launch
public import proofs.«01_k».proof.Proof.Final
public import proofs.«01_k».proof.Proof.InProjFinal
public import proofs.«01_k».proof.Proof.MergeFinal
public import proofs.«01_k».proof.Proof.Merge4Final
public import proofs.«01_k».proof.Proof.PoolFinal
public import proofs.«01_k».proof.Proof.ModFinal
public import proofs.«01_k».proof.Proof.RopeFinal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The frame of the printed kernel. -/
theorem frame_kernel : Cert.quiescent_Kernel := fun m g _ => Cert.Kernel.Attn.frame m g

/-- The frame of its idealization. -/
theorem frame_ideal : Cert.quiescent_KernelIdeal := fun m g _ => Cert.KernelIdeal.Attn.frame m g

/-- The frame of its idealization, the precondition not used. -/
theorem frame_ideal_pre : Cert.quiescent_KernelIdeal_pre_finite := fun m g _ => Cert.KernelIdeal.Attn.frame m g

/-- The frame of the reference. -/
theorem frame_reference : Cert.quiescent_ReferenceIdeal := fun m g _ =>
  (θ_run Cert.ReferenceIdeal.defs _ _).mono (fun _ h => ⟨fun c => (h c).2, sem_eq_zero_of_no_sems (by decide) _⟩)
    (Cert.ReferenceIdeal.Value.run m g)

/-- The frame of the reference, the precondition not used. -/
theorem frame_reference_pre : Cert.quiescent_ReferenceIdeal_pre_finite := fun m g _ => frame_reference m g trivial

/-- The kernel's result is the reference's. -/
theorem algebraic : Cert.algebraic_KernelIdeal_ReferenceIdeal_pre_finite := by
  pair_intro
  · run_from Cert.KernelIdeal.Attn.run_arrays m g
  · run_from Cert.ReferenceIdeal.Value.run m' g'
    obtain ⟨h0, h1, h2, h3, _, h5, h6⟩ := hagree c
    refine Eq.trans ?_ (Cert.KernelIdeal.Attn.final_pre m hpre c).symm
    rw [Cert.ReferenceIdeal.Read.val_main_v74_eq, h0, h1, h2, h3, h5, h6]
    rfl

/-- The frame of the projections' reference. -/
theorem frame_reference2 : Cert.quiescent_Reference2Ideal := fun m g _ =>
  (θ_run Cert.Reference2Ideal.defs _ _).mono (fun _ h => ⟨fun c => (h c).2.2.2, sem_eq_zero_of_no_sems (by decide) _⟩)
    (Cert.Reference2Ideal.Value.run m g)

/-- The frame of the merge's reference. -/
theorem frame_reference3 : Cert.quiescent_Reference3Ideal := fun m g _ =>
  (θ_run Cert.Reference3Ideal.defs _ _).mono (fun _ h => ⟨fun c => (h c).2, sem_eq_zero_of_no_sems (by decide) _⟩)
    (Cert.Reference3Ideal.Value.run m g)

/-- The frame of the context merge's reference. -/
theorem frame_reference4 : Cert.quiescent_Reference4Ideal := fun m g _ =>
  (θ_run Cert.Reference4Ideal.defs _ _).mono (fun _ h => ⟨fun c => (h c).2, sem_eq_zero_of_no_sems (by decide) _⟩)
    (Cert.Reference4Ideal.Value.run m g)

/-- The frame of the pooling mixer's reference. -/
theorem frame_reference5 : Cert.quiescent_Reference5Ideal := fun m g _ =>
  (θ_run Cert.Reference5Ideal.defs _ _).mono (fun _ h => ⟨fun c => (h c).2, sem_eq_zero_of_no_sems (by decide) _⟩)
    (Cert.Reference5Ideal.Value.run m g)

/-- The frame of the modulation's reference. -/
theorem frame_reference6 : Cert.quiescent_Reference6Ideal := fun m g _ =>
  (θ_run Cert.Reference6Ideal.defs _ _).mono (fun _ h => ⟨fun c => (h c).2, sem_eq_zero_of_no_sems (by decide) _⟩)
    (Cert.Reference6Ideal.Value.run m g)

/-- The same, the precondition not used. -/
theorem frame_reference6_pre : Cert.quiescent_Reference6Ideal_pre_finite6 := fun m g _ => frame_reference6 m g trivial

/-- The frame of the latent tokens' projections' reference. -/
theorem frame_reference7 : Cert.quiescent_Reference7Ideal := fun m g _ =>
  (θ_run Cert.Reference7Ideal.defs _ _).mono (fun _ h => ⟨fun c => (h c).2, sem_eq_zero_of_no_sems (by decide) _⟩)
    (Cert.Reference7Ideal.Value.run m g)

/-- The frame of the rotary tables' reference. -/
theorem frame_reference8 : Cert.quiescent_Reference8Ideal := fun m g _ =>
  (θ_run Cert.Reference8Ideal.defs _ _).mono (fun _ _ => ⟨fun _ => trivial, sem_eq_zero_of_no_sems (by decide) _⟩)
    (Cert.Reference8Ideal.Value.run m g)

/-- The queries' scale is the named constant's value. -/
theorem preserves2 : Cert.preserves_Kernel2_Kernel2Ideal :=
  IdealRules.named_const.statement Cert.Kernel2Ideal.κ "q_scale" .f32 0x3E38AA3B#32 (((1 / 8) * (Real.log 2)⁻¹ : ℝ) : EReal) rfl

set_option maxRecDepth 16384 in
/-- The projections' three results are the reference's. -/
theorem algebraic2 : Cert.algebraic_Kernel2Ideal_Reference2Ideal := by
  pair_intro
  · run_from Cert.Kernel2Ideal.Value.run_blocks m g
  · run_from Cert.Reference2Ideal.Value.run m' g'
    · obtain ⟨h0, h1, h2, h3, h4, h5, h6, h7⟩ := hagree c
      refine Eq.trans ?_ (Cert.Kernel2Ideal.InProj.final m c).symm
      rw [Cert.Reference2Ideal.Read.val_main_v80_eq, h0, h1, h2, h3, h4, h5]
      rfl
    · obtain ⟨h0, h1, h2, h3, h4, h5, h6, h7⟩ := hagree c
      refine Eq.trans ?_ (Cert.Kernel2Ideal.InProj.finalK m c).symm
      rw [Cert.Reference2Ideal.Read.val_main_v86_eq, h0, h1, h2, h3, h5, h6]
      rfl
    · obtain ⟨h0, h1, h2, h3, h4, h5, h6, h7⟩ := hagree c
      refine Eq.trans ?_ (Cert.Kernel2Ideal.InProj.finalV m c).symm
      refine (Cert.Reference2Ideal.Read.val_main_v92_eq _ _ _ _ _).trans ?_
      rw [h7]
      rfl

/-- The merge's result is the reference's. -/
theorem algebraic3 : Cert.algebraic_Kernel3Ideal_Reference3Ideal := by
  pair_intro
  · run_from Cert.Kernel3Ideal.Value.run_blocks m g
  · run_from Cert.Reference3Ideal.Value.run m' g'
    refine Eq.trans ?_ (Cert.Kernel3Ideal.Merge.final m c).symm
    exact Cert.Reference3Ideal.Read.val_main_v26_eq _ _ _ _ _ _ _ _ _ _

/-- The context merge's result is the reference's. -/
theorem algebraic4 : Cert.algebraic_Kernel4Ideal_Reference4Ideal := by
  pair_intro
  · run_from Cert.Kernel4Ideal.Value.run_blocks m g
  · run_from Cert.Reference4Ideal.Value.run m' g'
    refine Eq.trans ?_ (Cert.Kernel4Ideal.Merge.final m c).symm
    exact Cert.Reference4Ideal.Read.val_main_v20_eq _ _ _ _ _ _ _ _ _ _

set_option maxRecDepth 16384 in
/-- The pooling mixer's result is the reference's. -/
theorem algebraic5 : Cert.algebraic_Kernel5Ideal_Reference5Ideal := by
  pair_intro
  · run_from Cert.Kernel5Ideal.Value.run_blocks m g
  · run_from Cert.Reference5Ideal.Value.run m' g'
    obtain ⟨h0, h1, h2⟩ := hagree c
    refine Eq.trans ?_ (Cert.Kernel5Ideal.Mix.final m c).symm
    rw [← h0, ← h1, ← h2]
    refine (Cert.Reference5Ideal.Read.val_main_v118_eq (F := Ideal) (StableHlo.launchContents m' c)).trans ?_
    show Cert.Reference5Ideal.Read.val_main_v118 (F := Ideal) (m' (c.tc.loc Cert.Reference5Ideal.main_arg0))
      (m' (c.tc.loc Cert.Reference5Ideal.main_arg1)) (m' (c.tc.loc Cert.Reference5Ideal.main_arg2)) = _
    rw [h0, h1, h2]
    rfl

/-- The modulation's result is the reference's. -/
theorem algebraic6 : Cert.algebraic_Kernel6Ideal_Reference6Ideal_pre_finite6 := by
  pair_intro
  · run_from Cert.Kernel6Ideal.Value.run_blocks m g
  · run_from Cert.Reference6Ideal.Value.run m' g'
    refine Eq.trans ?_ (Cert.Kernel6Ideal.Mod.final_pre m hpre c).symm
    exact Cert.Reference6Ideal.Read.val_main_v8_eq _ _ _ _

/-- The latent tokens' queries' scale is the named constant's value. -/
theorem preserves7 : Cert.preserves_Kernel7_Kernel7Ideal :=
  IdealRules.named_const.statement Cert.Kernel7Ideal.κ "q_scale" .f32 0x3E38AA3B#32 (((1 / 8) * (Real.log 2)⁻¹ : ℝ) : EReal) rfl

set_option maxRecDepth 16384 in
/-- The latent tokens' projections are the reference's. -/
theorem algebraic7 : Cert.algebraic_Kernel7Ideal_Reference7Ideal := by
  pair_intro
  · run_from Cert.Kernel7Ideal.Value.run_blocks m g
  · run_from Cert.Reference7Ideal.Value.run m' g'
    obtain ⟨h0, h1, h2, h3, h4, h5, h6, h7⟩ := hagree c
    refine Eq.trans ?_ (Cert.Kernel7Ideal.InProj.final m c).symm
    rw [Cert.Reference7Ideal.Read.val_main_v123_eq, h0, h1, h2, h3, h4, h5, h6, h7]
    rfl

/-- The tables' step in the exponent is the named constant's value. -/
theorem preserves8 : Cert.preserves_Kernel8_Kernel8Ideal :=
  IdealRules.named_const.statement Cert.Kernel8Ideal.κ "rope_step" .f32 0xBF135D8E#32 (((-1 / 16) * (Real.log 10000) : ℝ) : EReal) rfl

set_option maxRecDepth 16384 in
/-- The rotary tables are the reference's. -/
theorem algebraic8 : Cert.algebraic_Kernel8Ideal_Reference8Ideal := by
  pair_intro
  · run_from Cert.Kernel8Ideal.Tables.run_blocks m g
  · run_from Cert.Reference8Ideal.Value.run m' g'
    · exact Cert.Reference8Ideal.Read.val_main_v39_eq.trans (Cert.Kernel8Ideal.Tables.final_cos m c).symm
    · exact Cert.Reference8Ideal.Read.val_main_v47_eq.trans (Cert.Kernel8Ideal.Tables.final_sin m c).symm

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts,
  Cert.Kernel7Ideal.Gen.facts, Cert.Reference7Ideal.Gen.facts, Cert.Kernel8.Gen.facts, Cert.Kernel8Ideal.Gen.facts,
  Cert.Reference8Ideal.Gen.facts, Cert.Pre_finite.Gen.facts, Cert.Pre_finite6.Gen.facts,
  frame_kernel, frame_ideal, frame_ideal_pre, frame_reference, frame_reference_pre,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g,
  fun m g _ => Cert.Kernel6Ideal.Gen.frame m g, frame_reference6, frame_reference6_pre,
  fun m g _ => Cert.Kernel7.Gen.frame m g, fun m g _ => Cert.Kernel7Ideal.Gen.frame m g, frame_reference7,
  fun m g _ => Cert.Kernel8.Tables.frame m g, fun m g _ => Cert.Kernel8Ideal.Tables.frame m g, frame_reference8,
  trivial, algebraic, preserves2, algebraic2, trivial, algebraic3, trivial, algebraic4, trivial, algebraic5, trivial, algebraic6,
  preserves7, algebraic7, preserves8, algebraic8⟩

end Cert.Proof

end
